-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qkv [hPre_finite_qkv : Cert.Pre_finite_qkv.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qkv.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite_qkv.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite_qkv.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qkv [hPre_finite_qkv : Cert.Pre_finite_qkv.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qkv.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite_qkv.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite_qkv.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite_state [hPre_finite_state : Cert.Pre_finite_state.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite_state.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))).1 = (fun _ => 1#1)
    ∧ (Cert.Pre_finite_state.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))).2.1 = (fun _ => 1#1)
    ∧ (Cert.Pre_finite_state.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))).2.2.1 = (fun _ => 1#1)
    ∧ (Cert.Pre_finite_state.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))).2.2.2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite_state [hPre_finite_state : Cert.Pre_finite_state.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite_state.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))).1 = (fun _ => 1#1)
    ∧ (Cert.Pre_finite_state.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))).2.1 = (fun _ => 1#1)
    ∧ (Cert.Pre_finite_state.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))).2.2.1 = (fun _ => 1#1)
    ∧ (Cert.Pre_finite_state.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))).2.2.2 = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_qkv [hKernelIdeal : Cert.KernelIdeal.Facts] [hPre_finite_qkv : Cert.Pre_finite_qkv.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qkv m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_qkv [hReferenceIdeal : Cert.ReferenceIdeal.Facts] [hPre_finite_qkv : Cert.Pre_finite_qkv.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qkv m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13)
      ∧ r.2.mem ((c.tc : Thread Cert.Kernel3.nD Cert.Kernel3.τ).loc Cert.Kernel3.main_arg14) = m ((c.tc : Thread Cert.Kernel3.nD Cert.Kernel3.τ).loc Cert.Kernel3.main_arg14)
      ∧ r.2.mem ((c.tc : Thread Cert.Kernel3.nD Cert.Kernel3.τ).loc Cert.Kernel3.main_arg15) = m ((c.tc : Thread Cert.Kernel3.nD Cert.Kernel3.τ).loc Cert.Kernel3.main_arg15))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
      ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14)
      ∧ r.2.mem ((c.tc : Thread Cert.Kernel3Ideal.nD Cert.Kernel3Ideal.τ).loc Cert.Kernel3Ideal.main_arg15) = m ((c.tc : Thread Cert.Kernel3Ideal.nD Cert.Kernel3Ideal.τ).loc Cert.Kernel3Ideal.main_arg15))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13)
      ∧ r.2.mem ((c.tc : Thread Cert.Reference3Ideal.nD Cert.Reference3Ideal.τ).loc Cert.Reference3Ideal.main_arg14) = m ((c.tc : Thread Cert.Reference3Ideal.nD Cert.Reference3Ideal.τ).loc Cert.Reference3Ideal.main_arg14)
      ∧ r.2.mem ((c.tc : Thread Cert.Reference3Ideal.nD Cert.Reference3Ideal.τ).loc Cert.Reference3Ideal.main_arg15) = m ((c.tc : Thread Cert.Reference3Ideal.nD Cert.Reference3Ideal.τ).loc Cert.Reference3Ideal.main_arg15))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Kernel5Ideal_pre_finite_state [hKernel5Ideal : Cert.Kernel5Ideal.Facts] [hPre_finite_state : Cert.Pre_finite_state.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite_state m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Reference5Ideal_pre_finite_state [hReference5Ideal : Cert.Reference5Ideal.Facts] [hPre_finite_state : Cert.Pre_finite_state.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite_state m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7))
      ∧ r.2.sem = fun _ => 0)

def preserves_Kernel_KernelIdeal : Prop :=
  True

def algebraic_KernelIdeal_ReferenceIdeal_pre_finite_qkv [hKernelIdeal : Cert.KernelIdeal.Facts] [hReferenceIdeal : Cert.ReferenceIdeal.Facts] [hPre_finite_qkv : Cert.Pre_finite_qkv.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qkv m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v60_0)) (v1 : (c : Dev Cert.KernelIdeal.nD) → Buf (Elt Ideal) ((c.tc : Thread Cert.KernelIdeal.nD Cert.KernelIdeal.τ).loc Cert.KernelIdeal.main_v60_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60_0) = v0 c
          ∧ r.2.mem ((c.tc : Thread Cert.KernelIdeal.nD Cert.KernelIdeal.τ).loc Cert.KernelIdeal.main_v60_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_v51) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v8_0)) (v1 : (c : Dev Cert.Kernel2Ideal.nD) → Buf (Elt Ideal) ((c.tc : Thread Cert.Kernel2Ideal.nD Cert.Kernel2Ideal.τ).loc Cert.Kernel2Ideal.main_v8_1)) (v2 : (c : Dev Cert.Kernel2Ideal.nD) → Buf (Elt Ideal) ((c.tc : Thread Cert.Kernel2Ideal.nD Cert.Kernel2Ideal.τ).loc Cert.Kernel2Ideal.main_v8_2)) (v3 : (c : Dev Cert.Kernel2Ideal.nD) → Buf (Elt Ideal) ((c.tc : Thread Cert.Kernel2Ideal.nD Cert.Kernel2Ideal.τ).loc Cert.Kernel2Ideal.main_v8_3)) (v4 : (c : Dev Cert.Kernel2Ideal.nD) → Buf (Elt Ideal) ((c.tc : Thread Cert.Kernel2Ideal.nD Cert.Kernel2Ideal.τ).loc Cert.Kernel2Ideal.main_v8_4)) (v5 : (c : Dev Cert.Kernel2Ideal.nD) → Buf (Elt Ideal) ((c.tc : Thread Cert.Kernel2Ideal.nD Cert.Kernel2Ideal.τ).loc Cert.Kernel2Ideal.main_v8_5)) (v6 : (c : Dev Cert.Kernel2Ideal.nD) → Buf (Elt Ideal) ((c.tc : Thread Cert.Kernel2Ideal.nD Cert.Kernel2Ideal.τ).loc Cert.Kernel2Ideal.main_v8_6)) (v7 : (c : Dev Cert.Kernel2Ideal.nD) → Buf (Elt Ideal) ((c.tc : Thread Cert.Kernel2Ideal.nD Cert.Kernel2Ideal.τ).loc Cert.Kernel2Ideal.main_v8_7)) (v8 : (c : Dev Cert.Kernel2Ideal.nD) → Buf (Elt Ideal) ((c.tc : Thread Cert.Kernel2Ideal.nD Cert.Kernel2Ideal.τ).loc Cert.Kernel2Ideal.main_v8_8)) (v9 : (c : Dev Cert.Kernel2Ideal.nD) → Buf (Elt Ideal) ((c.tc : Thread Cert.Kernel2Ideal.nD Cert.Kernel2Ideal.τ).loc Cert.Kernel2Ideal.main_v8_9)) (v10 : (c : Dev Cert.Kernel2Ideal.nD) → Buf (Elt Ideal) ((c.tc : Thread Cert.Kernel2Ideal.nD Cert.Kernel2Ideal.τ).loc Cert.Kernel2Ideal.main_v8_10)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8_0) = v0 c
          ∧ r.2.mem ((c.tc : Thread Cert.Kernel2Ideal.nD Cert.Kernel2Ideal.τ).loc Cert.Kernel2Ideal.main_v8_1) = v1 c
          ∧ r.2.mem ((c.tc : Thread Cert.Kernel2Ideal.nD Cert.Kernel2Ideal.τ).loc Cert.Kernel2Ideal.main_v8_2) = v2 c
          ∧ r.2.mem ((c.tc : Thread Cert.Kernel2Ideal.nD Cert.Kernel2Ideal.τ).loc Cert.Kernel2Ideal.main_v8_3) = v3 c
          ∧ r.2.mem ((c.tc : Thread Cert.Kernel2Ideal.nD Cert.Kernel2Ideal.τ).loc Cert.Kernel2Ideal.main_v8_4) = v4 c
          ∧ r.2.mem ((c.tc : Thread Cert.Kernel2Ideal.nD Cert.Kernel2Ideal.τ).loc Cert.Kernel2Ideal.main_v8_5) = v5 c
          ∧ r.2.mem ((c.tc : Thread Cert.Kernel2Ideal.nD Cert.Kernel2Ideal.τ).loc Cert.Kernel2Ideal.main_v8_6) = v6 c
          ∧ r.2.mem ((c.tc : Thread Cert.Kernel2Ideal.nD Cert.Kernel2Ideal.τ).loc Cert.Kernel2Ideal.main_v8_7) = v7 c
          ∧ r.2.mem ((c.tc : Thread Cert.Kernel2Ideal.nD Cert.Kernel2Ideal.τ).loc Cert.Kernel2Ideal.main_v8_8) = v8 c
          ∧ r.2.mem ((c.tc : Thread Cert.Kernel2Ideal.nD Cert.Kernel2Ideal.τ).loc Cert.Kernel2Ideal.main_v8_9) = v9 c
          ∧ r.2.mem ((c.tc : Thread Cert.Kernel2Ideal.nD Cert.Kernel2Ideal.τ).loc Cert.Kernel2Ideal.main_v8_10) = v10 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v37) = v0 c
          ∧ r.2.mem ((c.tc : Thread Cert.Reference2Ideal.nD Cert.Reference2Ideal.τ).loc Cert.Reference2Ideal.main_v38) = v1 c
          ∧ r.2.mem ((c.tc : Thread Cert.Reference2Ideal.nD Cert.Reference2Ideal.τ).loc Cert.Reference2Ideal.main_v39) = v2 c
          ∧ r.2.mem ((c.tc : Thread Cert.Reference2Ideal.nD Cert.Reference2Ideal.τ).loc Cert.Reference2Ideal.main_v24) = v3 c
          ∧ r.2.mem ((c.tc : Thread Cert.Reference2Ideal.nD Cert.Reference2Ideal.τ).loc Cert.Reference2Ideal.main_v40) = v4 c
          ∧ r.2.mem ((c.tc : Thread Cert.Reference2Ideal.nD Cert.Reference2Ideal.τ).loc Cert.Reference2Ideal.main_v41) = v5 c
          ∧ r.2.mem ((c.tc : Thread Cert.Reference2Ideal.nD Cert.Reference2Ideal.τ).loc Cert.Reference2Ideal.main_v42) = v6 c
          ∧ r.2.mem ((c.tc : Thread Cert.Reference2Ideal.nD Cert.Reference2Ideal.τ).loc Cert.Reference2Ideal.main_v43) = v7 c
          ∧ r.2.mem ((c.tc : Thread Cert.Reference2Ideal.nD Cert.Reference2Ideal.τ).loc Cert.Reference2Ideal.main_v44) = v8 c
          ∧ r.2.mem ((c.tc : Thread Cert.Reference2Ideal.nD Cert.Reference2Ideal.τ).loc Cert.Reference2Ideal.main_v28) = v9 c
          ∧ r.2.mem ((c.tc : Thread Cert.Reference2Ideal.nD Cert.Reference2Ideal.τ).loc Cert.Reference2Ideal.main_v29) = v10 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)
      ∧ m' ((c.tc : Thread Cert.Reference3Ideal.nD Cert.Reference3Ideal.τ).loc Cert.Reference3Ideal.main_arg14) = m ((c.tc : Thread Cert.Kernel3Ideal.nD Cert.Kernel3Ideal.τ).loc Cert.Kernel3Ideal.main_arg14)
      ∧ m' ((c.tc : Thread Cert.Reference3Ideal.nD Cert.Reference3Ideal.τ).loc Cert.Reference3Ideal.main_arg15) = m ((c.tc : Thread Cert.Kernel3Ideal.nD Cert.Kernel3Ideal.τ).loc Cert.Kernel3Ideal.main_arg15)) →
    ∃ (v0 : (c : Dev Cert.Kernel3Ideal.nD) → Buf (Elt Ideal) ((c.tc : Thread Cert.Kernel3Ideal.nD Cert.Kernel3Ideal.τ).loc Cert.Kernel3Ideal.main_v10_0)) (v1 : (c : Dev Cert.Kernel3Ideal.nD) → Buf (Elt Ideal) ((c.tc : Thread Cert.Kernel3Ideal.nD Cert.Kernel3Ideal.τ).loc Cert.Kernel3Ideal.main_v10_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v10_0) = v0 c
          ∧ r.2.mem ((c.tc : Thread Cert.Kernel3Ideal.nD Cert.Kernel3Ideal.τ).loc Cert.Kernel3Ideal.main_v10_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
          ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14)
          ∧ r.2.mem ((c.tc : Thread Cert.Kernel3Ideal.nD Cert.Kernel3Ideal.τ).loc Cert.Kernel3Ideal.main_arg15) = m ((c.tc : Thread Cert.Kernel3Ideal.nD Cert.Kernel3Ideal.τ).loc Cert.Kernel3Ideal.main_arg15))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v22) = v0 c
          ∧ r.2.mem ((c.tc : Thread Cert.Reference3Ideal.nD Cert.Reference3Ideal.τ).loc Cert.Reference3Ideal.main_v41) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13)
          ∧ r.2.mem ((c.tc : Thread Cert.Reference3Ideal.nD Cert.Reference3Ideal.τ).loc Cert.Reference3Ideal.main_arg14) = m' ((c.tc : Thread Cert.Reference3Ideal.nD Cert.Reference3Ideal.τ).loc Cert.Reference3Ideal.main_arg14)
          ∧ r.2.mem ((c.tc : Thread Cert.Reference3Ideal.nD Cert.Reference3Ideal.τ).loc Cert.Reference3Ideal.main_arg15) = m' ((c.tc : Thread Cert.Reference3Ideal.nD Cert.Reference3Ideal.τ).loc Cert.Reference3Ideal.main_arg15))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v18) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal_pre_finite_state [hKernel5Ideal : Cert.Kernel5Ideal.Facts] [hReference5Ideal : Cert.Reference5Ideal.Facts] [hPre_finite_state : Cert.Pre_finite_state.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite_state m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v13_0)) (v1 : (c : Dev Cert.Kernel5Ideal.nD) → Buf (Elt Ideal) ((c.tc : Thread Cert.Kernel5Ideal.nD Cert.Kernel5Ideal.τ).loc Cert.Kernel5Ideal.main_v13_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v13_0) = v0 c
          ∧ r.2.mem ((c.tc : Thread Cert.Kernel5Ideal.nD Cert.Kernel5Ideal.τ).loc Cert.Kernel5Ideal.main_v13_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v63) = v0 c
          ∧ r.2.mem ((c.tc : Thread Cert.Reference5Ideal.nD Cert.Reference5Ideal.τ).loc Cert.Reference5Ideal.main_v86) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v28) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v20) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)) →
    ∃ (v0 : (c : Dev Cert.Kernel8Ideal.nD) → Buf (Elt Ideal) ((c.tc : Thread Cert.Kernel8Ideal.nD Cert.Kernel8Ideal.τ).loc Cert.Kernel8Ideal.main_v9)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v9) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v30) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_finite_qkv : Cert.Pre_finite_qkv.Facts) (hPre_finite_state : Cert.Pre_finite_state.Facts),
    quiescent_Kernel (hKernel := hKernel)
    ∧ quiescent_KernelIdeal (hKernelIdeal := hKernelIdeal)
    ∧ quiescent_KernelIdeal_pre_finite_qkv (hKernelIdeal := hKernelIdeal) (hPre_finite_qkv := hPre_finite_qkv)
    ∧ quiescent_ReferenceIdeal (hReferenceIdeal := hReferenceIdeal)
    ∧ quiescent_ReferenceIdeal_pre_finite_qkv (hReferenceIdeal := hReferenceIdeal) (hPre_finite_qkv := hPre_finite_qkv)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite_state (hKernel5Ideal := hKernel5Ideal) (hPre_finite_state := hPre_finite_state)
    ∧ quiescent_Reference5Ideal (hReference5Ideal := hReference5Ideal)
    ∧ quiescent_Reference5Ideal_pre_finite_state (hReference5Ideal := hReference5Ideal) (hPre_finite_state := hPre_finite_state)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal_pre_finite_qkv (hKernelIdeal := hKernelIdeal) (hReferenceIdeal := hReferenceIdeal) (hPre_finite_qkv := hPre_finite_qkv)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite_state (hKernel5Ideal := hKernel5Ideal) (hReference5Ideal := hReference5Ideal) (hPre_finite_state := hPre_finite_state)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
-- ==== Pre_finite_qkv.lean ====
abbrev S16384x512 : Shape := ⟨2, ![16384, 512]⟩
abbrev S_ : Shape := ⟨0, ![]⟩

class Facts : Prop where
  bcast_S_S16384x512 : S_.BroadcastsInDim S16384x512 (![] : Fin 0 → Fin S16384x512.rank)

variable [Facts]

def fn {F : FTy → Type} [FloatOps F] (main_arg0 : FVec F S16384x512 .bf16) (main_arg1 : FVec F S16384x512 .bf16) (main_arg2 : FVec F S16384x512 .bf16) (main_arg3 : FVec F S16384x512 .f32) : IVec S16384x512 1 × IVec S16384x512 1 × IVec S16384x512 1 :=
  let main_v0 : FVec F S16384x512 .bf16 := Host.absf main_arg0
  let main_cst : FVec F S_ .bf16 := constant S_ .bf16 0x7F80#16
  let main_v1 : FVec F S16384x512 .bf16 := broadcastInDim S16384x512 ![] bcast_S_S16384x512 main_cst
  let main_v2 : IVec S16384x512 1 := cmpf .olt main_v0 main_v1
  let main_v3 : FVec F S16384x512 .bf16 := Host.absf main_arg1
  let main_cst_0 : FVec F S_ .bf16 := constant S_ .bf16 0x7F80#16
  let main_v4 : FVec F S16384x512 .bf16 := broadcastInDim S16384x512 ![] bcast_S_S16384x512 main_cst_0
  let main_v5 : IVec S16384x512 1 := cmpf .olt main_v3 main_v4
  let main_v6 : FVec F S16384x512 .bf16 := Host.absf main_arg2
  let main_cst_1 : FVec F S_ .bf16 := constant S_ .bf16 0x7F80#16
  let main_v7 : FVec F S16384x512 .bf16 := broadcastInDim S16384x512 ![] bcast_S_S16384x512 main_cst_1
  let main_v8 : IVec S16384x512 1 := cmpf .olt main_v6 main_v7
  (main_v2, main_v5, main_v8)
-- ==== Pre_finite_state.lean ====
abbrev S2x32x8x64x64 : Shape := ⟨5, ![2, 32, 8, 64, 64]⟩
abbrev S32x512 : Shape := ⟨2, ![32, 512]⟩
abbrev S_ : Shape := ⟨0, ![]⟩

class Facts : Prop where
  bcast_S_S2x32x8x64x64 : S_.BroadcastsInDim S2x32x8x64x64 (![] : Fin 0 → Fin S2x32x8x64x64.rank)
  bcast_S_S32x512 : S_.BroadcastsInDim S32x512 (![] : Fin 0 → Fin S32x512.rank)

variable [Facts]

def fn {F : FTy → Type} [FloatOps F] (main_arg0 : FVec F S2x32x8x64x64 .f32) (main_arg1 : FVec F S32x512 .f32) (main_arg2 : FVec F S32x512 .f32) (main_arg3 : FVec F S32x512 .f32) (main_arg4 : FVec F S32x512 .f32) : IVec S2x32x8x64x64 1 × IVec S32x512 1 × IVec S32x512 1 × IVec S32x512 1 :=
  let main_v0 : FVec F S2x32x8x64x64 .f32 := Host.absf main_arg0
  let main_cst : FVec F S_ .f32 := constant S_ .f32 0x7F800000#32
  let main_v1 : FVec F S2x32x8x64x64 .f32 := broadcastInDim S2x32x8x64x64 ![] bcast_S_S2x32x8x64x64 main_cst
  let main_v2 : IVec S2x32x8x64x64 1 := cmpf .olt main_v0 main_v1
  let main_v3 : FVec F S32x512 .f32 := Host.absf main_arg1
  let main_cst_0 : FVec F S_ .f32 := constant S_ .f32 0x7F800000#32
  let main_v4 : FVec F S32x512 .f32 := broadcastInDim S32x512 ![] bcast_S_S32x512 main_cst_0
  let main_v5 : IVec S32x512 1 := cmpf .olt main_v3 main_v4
  let main_v6 : FVec F S32x512 .f32 := Host.absf main_arg2
  let main_cst_1 : FVec F S_ .f32 := constant S_ .f32 0x7F800000#32
  let main_v7 : FVec F S32x512 .f32 := broadcastInDim S32x512 ![] bcast_S_S32x512 main_cst_1
  let main_v8 : IVec S32x512 1 := cmpf .olt main_v6 main_v7
  let main_v9 : FVec F S32x512 .f32 := Host.absf main_arg3
  let main_cst_2 : FVec F S_ .f32 := constant S_ .f32 0x7F800000#32
  let main_v10 : FVec F S32x512 .f32 := broadcastInDim S32x512 ![] bcast_S_S32x512 main_cst_2
  let main_v11 : IVec S32x512 1 := cmpf .olt main_v9 main_v10
  (main_v2, main_v5, main_v8, main_v11)
-- ==== Kernel.lean ====
abbrev S16384x512 : Shape := ⟨2, ![16384, 512]⟩
abbrev S8 : Shape := ⟨1, ![8]⟩
abbrev S_ : Shape := ⟨0, ![]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S8x1x1 : Shape := ⟨3, ![8, 1, 1]⟩
abbrev S1x256x256 : Shape := ⟨3, ![1, 256, 256]⟩
abbrev S8x256x256 : Shape := ⟨3, ![8, 256, 256]⟩
abbrev S1x8 : Shape := ⟨2, ![1, 8]⟩
abbrev S256x8 : Shape := ⟨2, ![256, 8]⟩
abbrev S256x8x64 : Shape := ⟨3, ![256, 8, 64]⟩
abbrev S256x512 : Shape := ⟨2, ![256, 512]⟩
abbrev S1x8x64 : Shape := ⟨3, ![1, 8, 64]⟩
abbrev S1x512 : Shape := ⟨2, ![1, 512]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S4x128x128 : Shape := ⟨3, ![4, 128, 128]⟩
abbrev S256x128 : Shape := ⟨2, ![256, 128]⟩
abbrev S1x128x128 : Shape := ⟨3, ![1, 128, 128]⟩

abbrev nBuf : Space → Nat
  | .hbm => 115
  | .vmem => 16
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x512, .bf16⟩
  | .hbm, ⟨3, _⟩ => ⟨S16384x512, .f32⟩
  | .hbm, ⟨4, _⟩ => ⟨S8, .f32⟩
  | .hbm, ⟨5, _⟩ => ⟨S_, .f32⟩
  | .hbm, ⟨6, _⟩ => ⟨S8, .f32⟩
  | .hbm, ⟨7, _⟩ => ⟨S8, .f32⟩
  | .hbm, ⟨8, _⟩ => ⟨S_, .f32⟩
  | .hbm, ⟨9, _⟩ => ⟨S8, .f32⟩
  | .hbm, ⟨10, _⟩ => ⟨S8, .f32⟩
  | .hbm, ⟨11, _⟩ => ⟨S8, .f32⟩
  | .hbm, ⟨12, _⟩ => ⟨S8, .f32⟩
  | .hbm, ⟨13, _⟩ => ⟨S256, .f32⟩
  | .hbm, ⟨14, _⟩ => ⟨S256x1, .f32⟩
  | .hbm, ⟨15, _⟩ => ⟨S1x256, .f32⟩
  | .hbm, ⟨16, _⟩ => ⟨S256x256, .f32⟩
  | .hbm, ⟨17, _⟩ => ⟨S256x256, .f32⟩
  | .hbm, ⟨18, _⟩ => ⟨S256x256, .f32⟩
  | .hbm, ⟨19, _⟩ => ⟨S_, .f32⟩
  | .hbm, ⟨20, _⟩ => ⟨S256x256, .f32⟩
  | .hbm, ⟨21, _⟩ => ⟨S256x256, .i1⟩
  | .hbm, ⟨22, _⟩ => ⟨S8x1x1, .f32⟩
  | .hbm, ⟨23, _⟩ => ⟨S_, .f32⟩
  | .hbm, ⟨24, _⟩ => ⟨S256x256, .f32⟩
  | .hbm, ⟨25, _⟩ => ⟨S256x256, .f32⟩
  | .hbm, ⟨26, _⟩ => ⟨S1x256x256, .f32⟩
  | .hbm, ⟨27, _⟩ => ⟨S8x256x256, .f32⟩
  | .hbm, ⟨28, _⟩ => ⟨S8x256x256, .f32⟩
  | .hbm, ⟨29, _⟩ => ⟨S8x256x256, .f32⟩
  | .hbm, ⟨30, _⟩ => ⟨S8x256x256, .f32⟩
  | .hbm, ⟨31, _⟩ => ⟨S_, .f32⟩
  | .hbm, ⟨32, _⟩ => ⟨S_, .f32⟩
  | .hbm, ⟨33, _⟩ => ⟨S8x256x256, .i1⟩
  | .hbm, ⟨34, _⟩ => ⟨S8x256x256, .f32⟩
  | .hbm, ⟨35, _⟩ => ⟨S8x256x256, .f32⟩
  | .hbm, ⟨36, _⟩ => ⟨S1x8, .f32⟩
  | .hbm, ⟨37, _⟩ => ⟨S256x1, .f32⟩
  | .hbm, ⟨38, _⟩ => ⟨S_, .f32⟩
  | .hbm, ⟨39, _⟩ => ⟨S256x1, .f32⟩
  | .hbm, ⟨40, _⟩ => ⟨S256x1, .f32⟩
  | .hbm, ⟨41, _⟩ => ⟨S256x8, .f32⟩
  | .hbm, ⟨42, _⟩ => ⟨S256x8, .f32⟩
  | .hbm, ⟨43, _⟩ => ⟨S256x8, .f32⟩
  | .hbm, ⟨44, _⟩ => ⟨S256x8, .f32⟩
  | .hbm, ⟨45, _⟩ => ⟨S1x8, .f32⟩
  | .hbm, ⟨46, _⟩ => ⟨S256x1, .f32⟩
  | .hbm, ⟨47, _⟩ => ⟨S_, .f32⟩
  | .hbm, ⟨48, _⟩ => ⟨S256x1, .f32⟩
  | .hbm, ⟨49, _⟩ => ⟨S256x1, .f32⟩
  | .hbm, ⟨50, _⟩ => ⟨S256x8, .f32⟩
  | .hbm, ⟨51, _⟩ => ⟨S256x8, .f32⟩
  | .hbm, ⟨52, _⟩ => ⟨S256x8, .f32⟩
  | .hbm, ⟨53, _⟩ => ⟨S256x8, .f32⟩
  | .hbm, ⟨54, _⟩ => ⟨S_, .f32⟩
  | .hbm, ⟨55, _⟩ => ⟨S8, .f32⟩
  | .hbm, ⟨56, _⟩ => ⟨S8, .f32⟩
  | .hbm, ⟨57, _⟩ => ⟨S8, .f32⟩
  | .hbm, ⟨58, _⟩ => ⟨S1x8, .f32⟩
  | .hbm, ⟨59, _⟩ => ⟨S256x8x64, .f32⟩
  | .hbm, ⟨60, _⟩ => ⟨S256x512, .f32⟩
  | .hbm, ⟨61, _⟩ => ⟨S256x8x64, .f32⟩
  | .hbm, ⟨62, _⟩ => ⟨S256x512, .f32⟩
  | .hbm, ⟨63, _⟩ => ⟨S1x8x64, .f32⟩
  | .hbm, ⟨64, _⟩ => ⟨S1x512, .f32⟩
  | .hbm, ⟨65, _⟩ => ⟨S128, .i32⟩
  | .hbm, ⟨66, _⟩ => ⟨S128x1, .i32⟩
  | .hbm, ⟨67, _⟩ => ⟨S_, .i32⟩
  | .hbm, ⟨68, _⟩ => ⟨S_, .i32⟩
  | .hbm, ⟨69, _⟩ => ⟨S128x1, .i32⟩
  | .hbm, ⟨70, _⟩ => ⟨S128x1, .i32⟩
  | .hbm, ⟨71, _⟩ => ⟨S128x1, .i32⟩
  | .hbm, ⟨72, _⟩ => ⟨S_, .i32⟩
  | .hbm, ⟨73, _⟩ => ⟨S128x1, .i32⟩
  | .hbm, ⟨74, _⟩ => ⟨S128x1, .i1⟩
  | .hbm, ⟨75, _⟩ => ⟨S128x1, .i32⟩
  | .hbm, ⟨76, _⟩ => ⟨S128x1, .i32⟩
  | .hbm, ⟨77, _⟩ => ⟨S_, .i32⟩
  | .hbm, ⟨78, _⟩ => ⟨S128x1, .i32⟩
  | .hbm, ⟨79, _⟩ => ⟨S128x1, .i1⟩
  | .hbm, ⟨80, _⟩ => ⟨S128x1, .i1⟩
  | .hbm, ⟨81, _⟩ => ⟨S_, .i32⟩
  | .hbm, ⟨82, _⟩ => ⟨S128x1, .i32⟩
  | .hbm, ⟨83, _⟩ => ⟨S128x1, .i32⟩
  | .hbm, ⟨84, _⟩ => ⟨S128x1, .i32⟩
  | .hbm, ⟨85, _⟩ => ⟨S1x128, .i32⟩
  | .hbm, ⟨86, _⟩ => ⟨S_, .i32⟩
  | .hbm, ⟨87, _⟩ => ⟨S_, .i32⟩
  | .hbm, ⟨88, _⟩ => ⟨S1x128, .i32⟩
  | .hbm, ⟨89, _⟩ => ⟨S1x128, .i32⟩
  | .hbm, ⟨90, _⟩ => ⟨S1x128, .i32⟩
  | .hbm, ⟨91, _⟩ => ⟨S_, .i32⟩
  | .hbm, ⟨92, _⟩ => ⟨S1x128, .i32⟩
  | .hbm, ⟨93, _⟩ => ⟨S1x128, .i1⟩
  | .hbm, ⟨94, _⟩ => ⟨S1x128, .i32⟩
  | .hbm, ⟨95, _⟩ => ⟨S1x128, .i32⟩
  | .hbm, ⟨96, _⟩ => ⟨S_, .i32⟩
  | .hbm, ⟨97, _⟩ => ⟨S1x128, .i32⟩
  | .hbm, ⟨98, _⟩ => ⟨S1x128, .i1⟩
  | .hbm, ⟨99, _⟩ => ⟨S1x128, .i1⟩
  | .hbm, ⟨100, _⟩ => ⟨S_, .i32⟩
  | .hbm, ⟨101, _⟩ => ⟨S1x128, .i32⟩
  | .hbm, ⟨102, _⟩ => ⟨S1x128, .i32⟩
  | .hbm, ⟨103, _⟩ => ⟨S1x128, .i32⟩
  | .hbm, ⟨104, _⟩ => ⟨S128x128, .i32⟩
  | .hbm, ⟨105, _⟩ => ⟨S128x128, .i32⟩
  | .hbm, ⟨106, _⟩ => ⟨S128x128, .i1⟩
  | .hbm, ⟨107, _⟩ => ⟨S_, .f32⟩
  | .hbm, ⟨108, _⟩ => ⟨S_, .f32⟩
  | .hbm, ⟨109, _⟩ => ⟨S128x128, .f32⟩
  | .hbm, ⟨110, _⟩ => ⟨S128x128, .f32⟩
  | .hbm, ⟨111, _⟩ => ⟨S128x128, .f32⟩
  | .hbm, ⟨112, _⟩ => ⟨S128x128, .f32⟩
  | .hbm, ⟨113, _⟩ => ⟨S16384x512, .bf16⟩
  | .hbm, ⟨114, _⟩ => ⟨S4x128x128, .f32⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x512, .f32⟩
  | .local _ .vmem, ⟨7, _⟩ => ⟨S256x512, .f32⟩
  | .local _ .vmem, ⟨8, _⟩ => ⟨S8x256x256, .f32⟩
  | .local _ .vmem, ⟨9, _⟩ => ⟨S256x512, .f32⟩
  | .local _ .vmem, ⟨10, _⟩ => ⟨S256x512, .f32⟩
  | .local _ .vmem, ⟨11, _⟩ => ⟨S1x512, .f32⟩
  | .local _ .vmem, ⟨12, _⟩ => ⟨S128x128, .f32⟩
  | .local _ .vmem, ⟨13, _⟩ => ⟨S256x512, .bf16⟩
  | .local _ .vmem, ⟨14, _⟩ => ⟨S256x512, .bf16⟩
  | .local _ .vmem, ⟨15, _⟩ => ⟨S4x128x128, .f32⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_5 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_6 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_c : Ref sig .tc := ⟨.hbm, 67, rfl⟩
abbrev main_call1_v0 : Ref sig .tc := ⟨.hbm, 68, rfl⟩
abbrev main_call1_v1 : Ref sig .tc := ⟨.hbm, 69, rfl⟩
abbrev main_call1_v2 : Ref sig .tc := ⟨.hbm, 70, rfl⟩
abbrev main_call1_v3 : Ref sig .tc := ⟨.hbm, 71, rfl⟩
abbrev main_call1_v4 : Ref sig .tc := ⟨.hbm, 72, rfl⟩
abbrev main_call1_v5 : Ref sig .tc := ⟨.hbm, 73, rfl⟩
abbrev main_call1_v6 : Ref sig .tc := ⟨.hbm, 74, rfl⟩
abbrev main_call1_v7 : Ref sig .tc := ⟨.hbm, 75, rfl⟩
abbrev main_call1_v8 : Ref sig .tc := ⟨.hbm, 76, rfl⟩
abbrev main_call1_c : Ref sig .tc := ⟨.hbm, 77, rfl⟩
abbrev main_call1_v9 : Ref sig .tc := ⟨.hbm, 78, rfl⟩
abbrev main_call1_v10 : Ref sig .tc := ⟨.hbm, 79, rfl⟩
abbrev main_call1_v11 : Ref sig .tc := ⟨.hbm, 80, rfl⟩
abbrev main_call1_c_0 : Ref sig .tc := ⟨.hbm, 81, rfl⟩
abbrev main_call1_v12 : Ref sig .tc := ⟨.hbm, 82, rfl⟩
abbrev main_call1_v13 : Ref sig .tc := ⟨.hbm, 83, rfl⟩
abbrev main_v52 : Ref sig .tc := ⟨.hbm, 84, rfl⟩
abbrev main_v53 : Ref sig .tc := ⟨.hbm, 85, rfl⟩
abbrev main_c_7 : Ref sig .tc := ⟨.hbm, 86, rfl⟩
abbrev main_call2_v0 : Ref sig .tc := ⟨.hbm, 87, rfl⟩
abbrev main_call2_v1 : Ref sig .tc := ⟨.hbm, 88, rfl⟩
abbrev main_call2_v2 : Ref sig .tc := ⟨.hbm, 89, rfl⟩
abbrev main_call2_v3 : Ref sig .tc := ⟨.hbm, 90, rfl⟩
abbrev main_call2_v4 : Ref sig .tc := ⟨.hbm, 91, rfl⟩
abbrev main_call2_v5 : Ref sig .tc := ⟨.hbm, 92, rfl⟩
abbrev main_call2_v6 : Ref sig .tc := ⟨.hbm, 93, rfl⟩
abbrev main_call2_v7 : Ref sig .tc := ⟨.hbm, 94, rfl⟩
abbrev main_call2_v8 : Ref sig .tc := ⟨.hbm, 95, rfl⟩
abbrev main_call2_c : Ref sig .tc := ⟨.hbm, 96, rfl⟩
abbrev main_call2_v9 : Ref sig .tc := ⟨.hbm, 97, rfl⟩
abbrev main_call2_v10 : Ref sig .tc := ⟨.hbm, 98, rfl⟩
abbrev main_call2_v11 : Ref sig .tc := ⟨.hbm, 99, rfl⟩
abbrev main_call2_c_0 : Ref sig .tc := ⟨.hbm, 100, rfl⟩
abbrev main_call2_v12 : Ref sig .tc := ⟨.hbm, 101, rfl⟩
abbrev main_call2_v13 : Ref sig .tc := ⟨.hbm, 102, rfl⟩
abbrev main_v54 : Ref sig .tc := ⟨.hbm, 103, rfl⟩
abbrev main_v55 : Ref sig .tc := ⟨.hbm, 104, rfl⟩
abbrev main_v56 : Ref sig .tc := ⟨.hbm, 105, rfl⟩
abbrev main_v57 : Ref sig .tc := ⟨.hbm, 106, rfl⟩
abbrev main_cst_8 : Ref sig .tc := ⟨.hbm, 107, rfl⟩
abbrev main_cst_9 : Ref sig .tc := ⟨.hbm, 108, rfl⟩
abbrev main_call3_v0 : Ref sig .tc := ⟨.hbm, 109, rfl⟩
abbrev main_call3_v1 : Ref sig .tc := ⟨.hbm, 110, rfl⟩
abbrev main_v58 : Ref sig .tc := ⟨.hbm, 111, rfl⟩
abbrev main_v59 : Ref sig .tc := ⟨.hbm, 112, rfl⟩
abbrev main_v60_0 : Ref sig .tc := ⟨.hbm, 113, rfl⟩
abbrev main_v60_1 : Ref sig .tc := ⟨.hbm, 114, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S4x128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceIdeal.lean ====
abbrev S16384x512 : Shape := ⟨2, ![16384, 512]⟩
abbrev S8 : Shape := ⟨1, ![8]⟩
abbrev S_ : Shape := ⟨0, ![]⟩
abbrev S1x8x64x64 : Shape := ⟨4, ![1, 8, 64, 64]⟩
abbrev S1x128x128x8x64 : Shape := ⟨5, ![1, 128, 128, 8, 64]⟩
abbrev S128x1x128x8x64 : Shape := ⟨5, ![128, 1, 128, 8, 64]⟩
abbrev S1x1x128x8x64 : Shape := ⟨5, ![1, 1, 128, 8, 64]⟩
abbrev S1x128x8x64 : Shape := ⟨4, ![1, 128, 8, 64]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S8x1x1 : Shape := ⟨3, ![8, 1, 1]⟩
abbrev S1x128x128 : Shape := ⟨3, ![1, 128, 128]⟩
abbrev S8x128x128 : Shape := ⟨3, ![8, 128, 128]⟩
abbrev S1x8x128x128 : Shape := ⟨4, ![1, 8, 128, 128]⟩
abbrev S1x8x64x128 : Shape := ⟨4, ![1, 8, 64, 128]⟩
abbrev S1x8 : Shape := ⟨2, ![1, 8]⟩
abbrev S128x8 : Shape := ⟨2, ![128, 8]⟩
abbrev S1x128x8x1 : Shape := ⟨4, ![1, 128, 8, 1]⟩
abbrev S1x8x1x1 : Shape := ⟨4, ![1, 8, 1, 1]⟩
abbrev S1x16384x8x64 : Shape := ⟨4, ![1, 16384, 8, 64]⟩
abbrev S1x16384x8 : Shape := ⟨3, ![1, 16384, 8]⟩
abbrev S1x16384x8x1 : Shape := ⟨4, ![1, 16384, 8, 1]⟩
abbrev S8x64x64 : Shape := ⟨3, ![8, 64, 64]⟩
abbrev S4x2x64x64 : Shape := ⟨4, ![4, 2, 64, 64]⟩
abbrev S4x64x64 : Shape := ⟨3, ![4, 64, 64]⟩
abbrev S4x1x64x64 : Shape := ⟨4, ![4, 1, 64, 64]⟩
abbrev S4x64x128 : Shape := ⟨3, ![4, 64, 128]⟩
abbrev S4x128x128 : Shape := ⟨3, ![4, 128, 128]⟩

abbrev nBuf : Space → Nat
  | .hbm => 174
  | .vmem => 0
  | .smem => 0
  | _ => 0

abbrev hbmTy0_0 (i : Nat) : BufTy := match i % 128 with
  | 0 => ⟨S16384x512, .bf16⟩
  | 1 => ⟨S16384x512, .bf16⟩
  | 2 => ⟨S16384x512, .bf16⟩
  | 3 => ⟨S16384x512, .f32⟩
  | 4 => ⟨S8, .f32⟩
  | 5 => ⟨S_, .f32⟩
  | 6 => ⟨S8, .f32⟩
  | 7 => ⟨S8, .f32⟩
  | 8 => ⟨S_, .f32⟩
  | 9 => ⟨S8, .f32⟩
  | 10 => ⟨S8, .f32⟩
  | 11 => ⟨S8, .f32⟩
  | 12 => ⟨S8, .f32⟩
  | 13 => ⟨S_, .f32⟩
  | 14 => ⟨S1x8x64x64, .f32⟩
  | 15 => ⟨S16384x512, .f32⟩
  | 16 => ⟨S1x128x128x8x64, .f32⟩
  | 17 => ⟨S128x1x128x8x64, .f32⟩
  | 18 => ⟨S16384x512, .f32⟩
  | 19 => ⟨S1x128x128x8x64, .f32⟩
  | 20 => ⟨S128x1x128x8x64, .f32⟩
  | 21 => ⟨S16384x512, .f32⟩
  | 22 => ⟨S1x128x128x8x64, .f32⟩
  | 23 => ⟨S128x1x128x8x64, .f32⟩
  | 24 => ⟨S_, .f32⟩
  | 25 => ⟨S128x1x128x8x64, .f32⟩
  | 26 => ⟨S_, .i32⟩
  | 27 => ⟨S128x1x128x8x64, .f32⟩
  | 28 => ⟨S128x1x128x8x64, .f32⟩
  | 29 => ⟨S128x1x128x8x64, .f32⟩
  | 30 => ⟨S8, .f32⟩
  | 31 => ⟨S_, .i32⟩
  | 32 => ⟨S1x8x64x64, .f32⟩
  | 33 => ⟨S128x1x128x8x64, .f32⟩
  | 34 => ⟨S_, .i32⟩
  | 35 => ⟨S_, .i1⟩
  | 36 => ⟨S_, .i32⟩
  | 37 => ⟨S_, .i32⟩
  | 38 => ⟨S_, .i32⟩
  | 39 => ⟨S_, .i32⟩
  | 40 => ⟨S1x1x128x8x64, .f32⟩
  | 41 => ⟨S1x128x8x64, .f32⟩
  | 42 => ⟨S_, .i32⟩
  | 43 => ⟨S_, .i32⟩
  | 44 => ⟨S_, .i32⟩
  | 45 => ⟨S_, .i32⟩
  | 46 => ⟨S1x1x128x8x64, .f32⟩
  | 47 => ⟨S1x128x8x64, .f32⟩
  | 48 => ⟨S_, .i32⟩
  | 49 => ⟨S_, .i32⟩
  | 50 => ⟨S_, .i32⟩
  | 51 => ⟨S_, .i32⟩
  | 52 => ⟨S1x1x128x8x64, .f32⟩
  | 53 => ⟨S1x128x8x64, .f32⟩
  | 54 => ⟨S128, .f32⟩
  | 55 => ⟨S128x1, .f32⟩
  | 56 => ⟨S1x128, .f32⟩
  | 57 => ⟨S128x128, .f32⟩
  | 58 => ⟨S128x128, .f32⟩
  | 59 => ⟨S128x128, .f32⟩
  | 60 => ⟨S_, .f32⟩
  | 61 => ⟨S128x128, .f32⟩
  | 62 => ⟨S128x128, .i1⟩
  | 63 => ⟨S8x1x1, .f32⟩
  | 64 => ⟨S_, .f32⟩
  | 65 => ⟨S128x128, .f32⟩
  | 66 => ⟨S128x128, .f32⟩
  | 67 => ⟨S1x128x128, .f32⟩
  | 68 => ⟨S8x128x128, .f32⟩
  | 69 => ⟨S8x128x128, .f32⟩
  | 70 => ⟨S8x128x128, .f32⟩
  | 71 => ⟨S8x128x128, .f32⟩
  | 72 => ⟨S_, .f32⟩
  | 73 => ⟨S_, .f32⟩
  | 74 => ⟨S8x128x128, .i1⟩
  | 75 => ⟨S8x128x128, .f32⟩
  | 76 => ⟨S8x128x128, .f32⟩
  | 77 => ⟨S1x8x128x128, .f32⟩
  | 78 => ⟨S1x8x128x128, .f32⟩
  | 79 => ⟨S1x8x128x128, .f32⟩
  | 80 => ⟨S1x8x64x128, .f32⟩
  | 81 => ⟨S1x128x8x64, .f32⟩
  | 82 => ⟨S1x8, .f32⟩
  | 83 => ⟨S128x1, .f32⟩
  | 84 => ⟨S_, .f32⟩
  | 85 => ⟨S128x1, .f32⟩
  | 86 => ⟨S128x1, .f32⟩
  | 87 => ⟨S128x8, .f32⟩
  | 88 => ⟨S128x8, .f32⟩
  | 89 => ⟨S128x8, .f32⟩
  | 90 => ⟨S128x8, .f32⟩
  | 91 => ⟨S1x8x64x128, .f32⟩
  | 92 => ⟨S1x128x8x64, .f32⟩
  | 93 => ⟨S1x128x8x1, .f32⟩
  | 94 => ⟨S1x128x8x64, .f32⟩
  | 95 => ⟨S1x128x8x64, .f32⟩
  | 96 => ⟨S1x8, .f32⟩
  | 97 => ⟨S128x1, .f32⟩
  | 98 => ⟨S_, .f32⟩
  | 99 => ⟨S128x1, .f32⟩
  | 100 => ⟨S128x1, .f32⟩
  | 101 => ⟨S128x8, .f32⟩
  | 102 => ⟨S128x8, .f32⟩
  | 103 => ⟨S128x8, .f32⟩
  | 104 => ⟨S128x8, .f32⟩
  | 105 => ⟨S_, .f32⟩
  | 106 => ⟨S8, .f32⟩
  | 107 => ⟨S8, .f32⟩
  | 108 => ⟨S8, .f32⟩
  | 109 => ⟨S1x8x1x1, .f32⟩
  | 110 => ⟨S1x8x64x64, .f32⟩
  | 111 => ⟨S1x8x64x64, .f32⟩
  | 112 => ⟨S1x128x8x1, .f32⟩
  | 113 => ⟨S1x128x8x64, .f32⟩
  | 114 => ⟨S1x128x8x64, .f32⟩
  | 115 => ⟨S1x8x64x64, .f32⟩
  | 116 => ⟨S1x8x64x64, .f32⟩
  | 117 => ⟨S1x128x8x64, .f32⟩
  | 118 => ⟨S1x1x128x8x64, .f32⟩
  | 119 => ⟨S_, .i32⟩
  | 120 => ⟨S_, .i32⟩
  | 121 => ⟨S_, .i32⟩
  | 122 => ⟨S_, .i32⟩
  | 123 => ⟨S128x1x128x8x64, .f32⟩
  | 124 => ⟨S_, .i32⟩
  | 125 => ⟨S_, .i32⟩
  | 126 => ⟨S1x128x128x8x64, .f32⟩
  | 127 => ⟨S1x16384x8x64, .f32⟩
  | _ => ⟨S16384x512, .bf16⟩

abbrev hbmTy0_1 (i : Nat) : BufTy := match i % 128 with
  | 0 => ⟨S_, .f32⟩
  | 1 => ⟨S1x16384x8, .f32⟩
  | 2 => ⟨S1x16384x8x1, .f32⟩
  | 3 => ⟨S_, .f32⟩
  | 4 => ⟨S1x16384x8x1, .f32⟩
  | 5 => ⟨S1x16384x8x1, .f32⟩
  | 6 => ⟨S1x16384x8x64, .f32⟩
  | 7 => ⟨S1x16384x8x64, .f32⟩
  | 8 => ⟨S1x16384x8x64, .f32⟩
  | 9 => ⟨S_, .f32⟩
  | 10 => ⟨S1x16384x8, .f32⟩
  | 11 => ⟨S1x16384x8x1, .f32⟩
  | 12 => ⟨S_, .f32⟩
  | 13 => ⟨S1x16384x8x1, .f32⟩
  | 14 => ⟨S1x16384x8x1, .f32⟩
  | 15 => ⟨S1x16384x8x64, .f32⟩
  | 16 => ⟨S1x16384x8x64, .f32⟩
  | 17 => ⟨S_, .f32⟩
  | 18 => ⟨S1x16384x8x1, .f32⟩
  | 19 => ⟨S1x16384x8x1, .f32⟩
  | 20 => ⟨S1x16384x8x1, .f32⟩
  | 21 => ⟨S1x16384x8x64, .f32⟩
  | 22 => ⟨S1x16384x8x64, .f32⟩
  | 23 => ⟨S16384x512, .f32⟩
  | 24 => ⟨S16384x512, .f32⟩
  | 25 => ⟨S_, .f32⟩
  | 26 => ⟨S16384x512, .f32⟩
  | 27 => ⟨S16384x512, .f32⟩
  | 28 => ⟨S_, .f32⟩
  | 29 => ⟨S16384x512, .f32⟩
  | 30 => ⟨S16384x512, .f32⟩
  | 31 => ⟨S16384x512, .f32⟩
  | 32 => ⟨S16384x512, .f32⟩
  | 33 => ⟨S16384x512, .f32⟩
  | 34 => ⟨S8x64x64, .f32⟩
  | 35 => ⟨S4x2x64x64, .f32⟩
  | 36 => ⟨S_, .f32⟩
  | 37 => ⟨S4x64x64, .f32⟩
  | 38 => ⟨S4x1x64x64, .f32⟩
  | 39 => ⟨S4x64x64, .f32⟩
  | 40 => ⟨S4x64x128, .f32⟩
  | 41 => ⟨S4x1x64x64, .f32⟩
  | 42 => ⟨S4x64x64, .f32⟩
  | 43 => ⟨S4x64x128, .f32⟩
  | 44 => ⟨S4x128x128, .f32⟩
  | 45 => ⟨S16384x512, .bf16⟩
  | _ => ⟨S16384x512, .bf16⟩

abbrev hbmTy (i : Nat) : BufTy := match i / 128 with
  | 0 => hbmTy0_0 i
  | 1 => hbmTy0_1 i
  | _ => ⟨S16384x512, .bf16⟩

abbrev bufTy : (tb : Table) → Fin (tcTables nBuf tb) → BufTy
  | .hbm, ⟨i, _⟩ => hbmTy i
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_c : Ref sig .tc := ⟨.hbm, 26, rfl⟩
abbrev main_v18_0 : Ref sig .tc := ⟨.hbm, 27, rfl⟩
abbrev main_v18_1 : Ref sig .tc := ⟨.hbm, 28, rfl⟩
abbrev main_v18_2 : Ref sig .tc := ⟨.hbm, 29, rfl⟩
abbrev main_v18_3 : Ref sig .tc := ⟨.hbm, 30, rfl⟩
abbrev main_v18_4 : Ref sig .tc := ⟨.hbm, 31, rfl⟩
abbrev main_v18_5 : Ref sig .tc := ⟨.hbm, 32, rfl⟩
abbrev main_v18_6 : Ref sig .tc := ⟨.hbm, 33, rfl⟩
abbrev main_while0c_c_15 : Ref sig .tc := ⟨.hbm, 34, rfl⟩
abbrev main_while0c_v53 : Ref sig .tc := ⟨.hbm, 35, rfl⟩
abbrev main_while0b_call0_c : Ref sig .tc := ⟨.hbm, 36, rfl⟩
abbrev main_while0b_call0_c_0 : Ref sig .tc := ⟨.hbm, 37, rfl⟩
abbrev main_while0b_call0_c_1 : Ref sig .tc := ⟨.hbm, 38, rfl⟩
abbrev main_while0b_call0_c_2 : Ref sig .tc := ⟨.hbm, 39, rfl⟩
abbrev main_while0b_call0_v0 : Ref sig .tc := ⟨.hbm, 40, rfl⟩
abbrev main_while0b_v53 : Ref sig .tc := ⟨.hbm, 41, rfl⟩
abbrev main_while0b_call1_c : Ref sig .tc := ⟨.hbm, 42, rfl⟩
abbrev main_while0b_call1_c_0 : Ref sig .tc := ⟨.hbm, 43, rfl⟩
abbrev main_while0b_call1_c_1 : Ref sig .tc := ⟨.hbm, 44, rfl⟩
abbrev main_while0b_call1_c_2 : Ref sig .tc := ⟨.hbm, 45, rfl⟩
abbrev main_while0b_call1_v0 : Ref sig .tc := ⟨.hbm, 46, rfl⟩
abbrev main_while0b_v54 : Ref sig .tc := ⟨.hbm, 47, rfl⟩
abbrev main_while0b_call2_c : Ref sig .tc := ⟨.hbm, 48, rfl⟩
abbrev main_while0b_call2_c_0 : Ref sig .tc := ⟨.hbm, 49, rfl⟩
abbrev main_while0b_call2_c_1 : Ref sig .tc := ⟨.hbm, 50, rfl⟩
abbrev main_while0b_call2_c_2 : Ref sig .tc := ⟨.hbm, 51, rfl⟩
abbrev main_while0b_call2_v0 : Ref sig .tc := ⟨.hbm, 52, rfl⟩
abbrev main_while0b_v55 : Ref sig .tc := ⟨.hbm, 53, rfl⟩
abbrev main_while0b_v56 : Ref sig .tc := ⟨.hbm, 54, rfl⟩
abbrev main_while0b_v57 : Ref sig .tc := ⟨.hbm, 55, rfl⟩
abbrev main_while0b_v58 : Ref sig .tc := ⟨.hbm, 56, rfl⟩
abbrev main_while0b_v59 : Ref sig .tc := ⟨.hbm, 57, rfl⟩
abbrev main_while0b_v60 : Ref sig .tc := ⟨.hbm, 58, rfl⟩
abbrev main_while0b_v61 : Ref sig .tc := ⟨.hbm, 59, rfl⟩
abbrev main_while0b_cst_15 : Ref sig .tc := ⟨.hbm, 60, rfl⟩
abbrev main_while0b_v62 : Ref sig .tc := ⟨.hbm, 61, rfl⟩
abbrev main_while0b_v63 : Ref sig .tc := ⟨.hbm, 62, rfl⟩
abbrev main_while0b_v64 : Ref sig .tc := ⟨.hbm, 63, rfl⟩
abbrev main_while0b_cst_16 : Ref sig .tc := ⟨.hbm, 64, rfl⟩
abbrev main_while0b_v65 : Ref sig .tc := ⟨.hbm, 65, rfl⟩
abbrev main_while0b_v66 : Ref sig .tc := ⟨.hbm, 66, rfl⟩
abbrev main_while0b_v67 : Ref sig .tc := ⟨.hbm, 67, rfl⟩
abbrev main_while0b_v68 : Ref sig .tc := ⟨.hbm, 68, rfl⟩
abbrev main_while0b_v69 : Ref sig .tc := ⟨.hbm, 69, rfl⟩
abbrev main_while0b_v70 : Ref sig .tc := ⟨.hbm, 70, rfl⟩
abbrev main_while0b_v71 : Ref sig .tc := ⟨.hbm, 71, rfl⟩
abbrev main_while0b_cst_17 : Ref sig .tc := ⟨.hbm, 72, rfl⟩
abbrev main_while0b_call3_v0 : Ref sig .tc := ⟨.hbm, 73, rfl⟩
abbrev main_while0b_call3_v1 : Ref sig .tc := ⟨.hbm, 74, rfl⟩
abbrev main_while0b_call3_v2 : Ref sig .tc := ⟨.hbm, 75, rfl⟩
abbrev main_while0b_v72 : Ref sig .tc := ⟨.hbm, 76, rfl⟩
abbrev main_while0b_v73 : Ref sig .tc := ⟨.hbm, 77, rfl⟩
abbrev main_while0b_v74 : Ref sig .tc := ⟨.hbm, 78, rfl⟩
abbrev main_while0b_v75 : Ref sig .tc := ⟨.hbm, 79, rfl⟩
abbrev main_while0b_v76 : Ref sig .tc := ⟨.hbm, 80, rfl⟩
abbrev main_while0b_v77 : Ref sig .tc := ⟨.hbm, 81, rfl⟩
abbrev main_while0b_v78 : Ref sig .tc := ⟨.hbm, 82, rfl⟩
abbrev main_while0b_v79 : Ref sig .tc := ⟨.hbm, 83, rfl⟩
abbrev main_while0b_cst_18 : Ref sig .tc := ⟨.hbm, 84, rfl⟩
abbrev main_while0b_v80 : Ref sig .tc := ⟨.hbm, 85, rfl⟩
abbrev main_while0b_v81 : Ref sig .tc := ⟨.hbm, 86, rfl⟩
abbrev main_while0b_v82 : Ref sig .tc := ⟨.hbm, 87, rfl⟩
abbrev main_while0b_v83 : Ref sig .tc := ⟨.hbm, 88, rfl⟩
abbrev main_while0b_v84 : Ref sig .tc := ⟨.hbm, 89, rfl⟩
abbrev main_while0b_v85 : Ref sig .tc := ⟨.hbm, 90, rfl⟩
abbrev main_while0b_v86 : Ref sig .tc := ⟨.hbm, 91, rfl⟩
abbrev main_while0b_v87 : Ref sig .tc := ⟨.hbm, 92, rfl⟩
abbrev main_while0b_v88 : Ref sig .tc := ⟨.hbm, 93, rfl⟩
abbrev main_while0b_v89 : Ref sig .tc := ⟨.hbm, 94, rfl⟩
abbrev main_while0b_v90 : Ref sig .tc := ⟨.hbm, 95, rfl⟩
abbrev main_while0b_v91 : Ref sig .tc := ⟨.hbm, 96, rfl⟩
abbrev main_while0b_v92 : Ref sig .tc := ⟨.hbm, 97, rfl⟩
abbrev main_while0b_cst_19 : Ref sig .tc := ⟨.hbm, 98, rfl⟩
abbrev main_while0b_v93 : Ref sig .tc := ⟨.hbm, 99, rfl⟩
abbrev main_while0b_v94 : Ref sig .tc := ⟨.hbm, 100, rfl⟩
abbrev main_while0b_v95 : Ref sig .tc := ⟨.hbm, 101, rfl⟩
abbrev main_while0b_v96 : Ref sig .tc := ⟨.hbm, 102, rfl⟩
abbrev main_while0b_v97 : Ref sig .tc := ⟨.hbm, 103, rfl⟩
abbrev main_while0b_v98 : Ref sig .tc := ⟨.hbm, 104, rfl⟩
abbrev main_while0b_cst_20 : Ref sig .tc := ⟨.hbm, 105, rfl⟩
abbrev main_while0b_v99 : Ref sig .tc := ⟨.hbm, 106, rfl⟩
abbrev main_while0b_v100 : Ref sig .tc := ⟨.hbm, 107, rfl⟩
abbrev main_while0b_v101 : Ref sig .tc := ⟨.hbm, 108, rfl⟩
abbrev main_while0b_v102 : Ref sig .tc := ⟨.hbm, 109, rfl⟩
abbrev main_while0b_v103 : Ref sig .tc := ⟨.hbm, 110, rfl⟩
abbrev main_while0b_v104 : Ref sig .tc := ⟨.hbm, 111, rfl⟩
abbrev main_while0b_v105 : Ref sig .tc := ⟨.hbm, 112, rfl⟩
abbrev main_while0b_v106 : Ref sig .tc := ⟨.hbm, 113, rfl⟩
abbrev main_while0b_v107 : Ref sig .tc := ⟨.hbm, 114, rfl⟩
abbrev main_while0b_v108 : Ref sig .tc := ⟨.hbm, 115, rfl⟩
abbrev main_while0b_v109 : Ref sig .tc := ⟨.hbm, 116, rfl⟩
abbrev main_while0b_v110 : Ref sig .tc := ⟨.hbm, 117, rfl⟩
abbrev main_while0b_call4_v0 : Ref sig .tc := ⟨.hbm, 118, rfl⟩
abbrev main_while0b_call4_c : Ref sig .tc := ⟨.hbm, 119, rfl⟩
abbrev main_while0b_call4_c_0 : Ref sig .tc := ⟨.hbm, 120, rfl⟩
abbrev main_while0b_call4_c_1 : Ref sig .tc := ⟨.hbm, 121, rfl⟩
abbrev main_while0b_call4_c_2 : Ref sig .tc := ⟨.hbm, 122, rfl⟩
abbrev main_while0b_v111 : Ref sig .tc := ⟨.hbm, 123, rfl⟩
abbrev main_while0b_c_21 : Ref sig .tc := ⟨.hbm, 124, rfl⟩
abbrev main_while0b_v112 : Ref sig .tc := ⟨.hbm, 125, rfl⟩
abbrev main_v19 : Ref sig .tc := ⟨.hbm, 126, rfl⟩
abbrev main_v20 : Ref sig .tc := ⟨.hbm, 127, rfl⟩
abbrev main_cst_3 : Ref sig .tc := ⟨.hbm, 128, rfl⟩
abbrev main_v21 : Ref sig .tc := ⟨.hbm, 129, rfl⟩
abbrev main_v22 : Ref sig .tc := ⟨.hbm, 130, rfl⟩
abbrev main_cst_4 : Ref sig .tc := ⟨.hbm, 131, rfl⟩
abbrev main_v23 : Ref sig .tc := ⟨.hbm, 132, rfl⟩
abbrev main_v24 : Ref sig .tc := ⟨.hbm, 133, rfl⟩
abbrev main_v25 : Ref sig .tc := ⟨.hbm, 134, rfl⟩
abbrev main_v26 : Ref sig .tc := ⟨.hbm, 135, rfl⟩
abbrev main_v27 : Ref sig .tc := ⟨.hbm, 136, rfl⟩
abbrev main_cst_5 : Ref sig .tc := ⟨.hbm, 137, rfl⟩
abbrev main_v28 : Ref sig .tc := ⟨.hbm, 138, rfl⟩
abbrev main_v29 : Ref sig .tc := ⟨.hbm, 139, rfl⟩
abbrev main_cst_6 : Ref sig .tc := ⟨.hbm, 140, rfl⟩
abbrev main_v30 : Ref sig .tc := ⟨.hbm, 141, rfl⟩
abbrev main_v31 : Ref sig .tc := ⟨.hbm, 142, rfl⟩
abbrev main_v32 : Ref sig .tc := ⟨.hbm, 143, rfl⟩
abbrev main_v33 : Ref sig .tc := ⟨.hbm, 144, rfl⟩
abbrev main_cst_7 : Ref sig .tc := ⟨.hbm, 145, rfl⟩
abbrev main_v34 : Ref sig .tc := ⟨.hbm, 146, rfl⟩
abbrev main_v35 : Ref sig .tc := ⟨.hbm, 147, rfl⟩
abbrev main_v36 : Ref sig .tc := ⟨.hbm, 148, rfl⟩
abbrev main_v37 : Ref sig .tc := ⟨.hbm, 149, rfl⟩
abbrev main_v38 : Ref sig .tc := ⟨.hbm, 150, rfl⟩
abbrev main_call5_v0 : Ref sig .tc := ⟨.hbm, 151, rfl⟩
abbrev main_call5_v1 : Ref sig .tc := ⟨.hbm, 152, rfl⟩
abbrev main_call5_cst : Ref sig .tc := ⟨.hbm, 153, rfl⟩
abbrev main_call5_v2 : Ref sig .tc := ⟨.hbm, 154, rfl⟩
abbrev main_call5_v3 : Ref sig .tc := ⟨.hbm, 155, rfl⟩
abbrev main_call5_cst_0 : Ref sig .tc := ⟨.hbm, 156, rfl⟩
abbrev main_call5_v4 : Ref sig .tc := ⟨.hbm, 157, rfl⟩
abbrev main_call5_v5 : Ref sig .tc := ⟨.hbm, 158, rfl⟩
abbrev main_v39 : Ref sig .tc := ⟨.hbm, 159, rfl⟩
abbrev main_v40 : Ref sig .tc := ⟨.hbm, 160, rfl⟩
abbrev main_v41 : Ref sig .tc := ⟨.hbm, 161, rfl⟩
abbrev main_v42 : Ref sig .tc := ⟨.hbm, 162, rfl⟩
abbrev main_v43 : Ref sig .tc := ⟨.hbm, 163, rfl⟩
abbrev main_cst_8 : Ref sig .tc := ⟨.hbm, 164, rfl⟩
abbrev main_v44 : Ref sig .tc := ⟨.hbm, 165, rfl⟩
abbrev main_v45 : Ref sig .tc := ⟨.hbm, 166, rfl⟩
abbrev main_v46 : Ref sig .tc := ⟨.hbm, 167, rfl⟩
abbrev main_v47 : Ref sig .tc := ⟨.hbm, 168, rfl⟩
abbrev main_v48 : Ref sig .tc := ⟨.hbm, 169, rfl⟩
abbrev main_v49 : Ref sig .tc := ⟨.hbm, 170, rfl⟩
abbrev main_v50 : Ref sig .tc := ⟨.hbm, 171, rfl⟩
abbrev main_v51 : Ref sig .tc := ⟨.hbm, 172, rfl⟩
abbrev main_v52 : Ref sig .tc := ⟨.hbm, 173, rfl⟩

abbrev nD : Nat := 1
abbrev τ : Topo := Topo.v7x

variable {F : FTy → Type} [FloatOps F]

abbrev main_while0_count : Scf.Loop 32 := ⟨0#32, 128#32, 1#32⟩
-- ==== Kernel2.lean ====
abbrev S16384x1024 : Shape := ⟨2, ![16384, 1024]⟩
abbrev S1x1024 : Shape := ⟨2, ![1, 1024]⟩
abbrev S2x1024x5632 : Shape := ⟨3, ![2, 1024, 5632]⟩
abbrev S1x1024x5632 : Shape := ⟨3, ![1, 1024, 5632]⟩
abbrev S1024x5632 : Shape := ⟨2, ![1024, 5632]⟩
abbrev S1024x1024 : Shape := ⟨2, ![1024, 1024]⟩
abbrev S16384x512 : Shape := ⟨2, ![16384, 512]⟩
abbrev S64x256x512 : Shape := ⟨3, ![64, 256, 512]⟩
abbrev S512x16384 : Shape := ⟨2, ![512, 16384]⟩
abbrev S64x512x256 : Shape := ⟨3, ![64, 512, 256]⟩
abbrev S8x16384x128 : Shape := ⟨3, ![8, 16384, 128]⟩
abbrev S256x1024 : Shape := ⟨2, ![256, 1024]⟩
abbrev S256x512 : Shape := ⟨2, ![256, 512]⟩
abbrev S1x256x512 : Shape := ⟨3, ![1, 256, 512]⟩
abbrev S512x256 : Shape := ⟨2, ![512, 256]⟩
abbrev S1x512x256 : Shape := ⟨3, ![1, 512, 256]⟩
abbrev S8x256x128 : Shape := ⟨3, ![8, 256, 128]⟩
abbrev S64x512 : Shape := ⟨2, ![64, 512]⟩
abbrev S256 : Shape := ⟨1, ![256]⟩
abbrev S256x1 : Shape := ⟨2, ![256, 1]⟩
abbrev S1024x512 : Shape := ⟨2, ![1024, 512]⟩
abbrev S1024x256 : Shape := ⟨2, ![1024, 256]⟩
abbrev S64x256 : Shape := ⟨2, ![64, 256]⟩
abbrev S64x128 : Shape := ⟨2, ![64, 128]⟩
abbrev S256x128 : Shape := ⟨2, ![256, 128]⟩
abbrev S1x256 : Shape := ⟨2, ![1, 256]⟩
abbrev S128x256 : Shape := ⟨2, ![128, 256]⟩
abbrev S1x256x128 : Shape := ⟨3, ![1, 256, 128]⟩
abbrev S512 : Shape := ⟨1, ![512]⟩
abbrev S1x512 : Shape := ⟨2, ![1, 512]⟩

abbrev nBuf : Space → Nat
  | .hbm => 25
  | .vmem => 32
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S2x1024x5632, .f32⟩
  | .hbm, ⟨5, _⟩ => ⟨S1x1024x5632, .f32⟩
  | .hbm, ⟨6, _⟩ => ⟨S1024x5632, .f32⟩
  | .hbm, ⟨7, _⟩ => ⟨S1024x1024, .f32⟩
  | .hbm, ⟨8, _⟩ => ⟨S1024x1024, .f32⟩
  | .hbm, ⟨9, _⟩ => ⟨S1024x1024, .bf16⟩
  | .hbm, ⟨10, _⟩ => ⟨S1x1024x5632, .f32⟩
  | .hbm, ⟨11, _⟩ => ⟨S1024x5632, .f32⟩
  | .hbm, ⟨12, _⟩ => ⟨S1024x5632, .bf16⟩
  | .hbm, ⟨13, _⟩ => ⟨S16384x512, .bf16⟩
  | .hbm, ⟨14, _⟩ => ⟨S16384x512, .bf16⟩
  | .hbm, ⟨15, _⟩ => ⟨S16384x512, .bf16⟩
  | .hbm, ⟨16, _⟩ => ⟨S16384x512, .f32⟩
  | .hbm, ⟨17, _⟩ => ⟨S16384x512, .bf16⟩
  | .hbm, ⟨18, _⟩ => ⟨S64x256x512, .bf16⟩
  | .hbm, ⟨19, _⟩ => ⟨S512x16384, .f32⟩
  | .hbm, ⟨20, _⟩ => ⟨S512x16384, .f32⟩
  | .hbm, ⟨21, _⟩ => ⟨S64x512x256, .bf16⟩
  | .hbm, ⟨22, _⟩ => ⟨S16384x1024, .f32⟩
  | .hbm, ⟨23, _⟩ => ⟨S16384x1024, .f32⟩
  | .hbm, ⟨24, _⟩ => ⟨S8x16384x128, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1024x5632, .bf16⟩
  | .local _ .vmem, ⟨6, _⟩ => ⟨S1024x1024, .bf16⟩
  | .local _ .vmem, ⟨7, _⟩ => ⟨S256x512, .bf16⟩
  | .local _ .vmem, ⟨8, _⟩ => ⟨S256x512, .bf16⟩
  | .local _ .vmem, ⟨9, _⟩ => ⟨S256x512, .bf16⟩
  | .local _ .vmem, ⟨10, _⟩ => ⟨S256x512, .bf16⟩
  | .local _ .vmem, ⟨11, _⟩ => ⟨S256x512, .bf16⟩
  | .local _ .vmem, ⟨12, _⟩ => ⟨S256x512, .bf16⟩
  | .local _ .vmem, ⟨13, _⟩ => ⟨S256x512, .f32⟩
  | .local _ .vmem, ⟨14, _⟩ => ⟨S256x512, .f32⟩
  | .local _ .vmem, ⟨15, _⟩ => ⟨S256x512, .bf16⟩
  | .local _ .vmem, ⟨16, _⟩ => ⟨S256x512, .bf16⟩
  | .local _ .vmem, ⟨17, _⟩ => ⟨S1x256x512, .bf16⟩
  | .local _ .vmem, ⟨18, _⟩ => ⟨S1x256x512, .bf16⟩
  | .local _ .vmem, ⟨19, _⟩ => ⟨S512x256, .f32⟩
  | .local _ .vmem, ⟨20, _⟩ => ⟨S512x256, .f32⟩
  | .local _ .vmem, ⟨21, _⟩ => ⟨S512x256, .f32⟩
  | .local _ .vmem, ⟨22, _⟩ => ⟨S512x256, .f32⟩
  | .local _ .vmem, ⟨23, _⟩ => ⟨S1x512x256, .bf16⟩
  | .local _ .vmem, ⟨24, _⟩ => ⟨S1x512x256, .bf16⟩
  | .local _ .vmem, ⟨25, _⟩ => ⟨S256x1024, .f32⟩
  | .local _ .vmem, ⟨26, _⟩ => ⟨S256x1024, .f32⟩
  | .local _ .vmem, ⟨27, _⟩ => ⟨S256x1024, .f32⟩
  | .local _ .vmem, ⟨28, _⟩ => ⟨S256x1024, .f32⟩
  | .local _ .vmem, ⟨29, _⟩ => ⟨S8x256x128, .bf16⟩
  | .local _ .vmem, ⟨30, _⟩ => ⟨S8x256x128, .bf16⟩
  | .local _ .vmem, ⟨31, _⟩ => ⟨S64x512, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev main_v8_2 : Ref sig .tc := ⟨.hbm, 15, rfl⟩
abbrev main_v8_3 : Ref sig .tc := ⟨.hbm, 16, rfl⟩
abbrev main_v8_4 : Ref sig .tc := ⟨.hbm, 17, rfl⟩
abbrev main_v8_5 : Ref sig .tc := ⟨.hbm, 18, rfl⟩
abbrev main_v8_6 : Ref sig .tc := ⟨.hbm, 19, rfl⟩
abbrev main_v8_7 : Ref sig .tc := ⟨.hbm, 20, rfl⟩
abbrev main_v8_8 : Ref sig .tc := ⟨.hbm, 21, rfl⟩
abbrev main_v8_9 : Ref sig .tc := ⟨.hbm, 22, rfl⟩
abbrev main_v8_10 : Ref sig .tc := ⟨.hbm, 23, rfl⟩
abbrev main_v8_11 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg17_1 : Ref sig .tc := ⟨.vmem, 30, rfl⟩
abbrev cc0_scratch0 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29
abbrev cc0_sem17_1 : DmaSem sig := 30

abbrev nD : Nat := 1
abbrev τ : Topo := Topo.v7x

variable {F : FTy → Type} [FloatOps F]

abbrev grid0 : Pipeline.Grid := ⟨1, ![64], ![false]⟩

def k0_off1 (i : grid0.Coords) : Fin 2 → Nat :=
  let arg0 : BitVec 32 := BitVec.ofNat 32 (i 0).val
  let v968 : Index := Scalar.indexCast arg0
  let c0_375 : Index := 0#32
  ![v968.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x256x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x512x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S8x256x128 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== Reference2Ideal.lean ====
abbrev S16384x1024 : Shape := ⟨2, ![16384, 1024]⟩
abbrev S1x1024 : Shape := ⟨2, ![1, 1024]⟩
abbrev S2x1024x5632 : Shape := ⟨3, ![2, 1024, 5632]⟩
abbrev S_ : Shape := ⟨0, ![]⟩
abbrev S16384 : Shape := ⟨1, ![16384]⟩
abbrev S16384x1 : Shape := ⟨2, ![16384, 1]⟩
abbrev S1x1024x5632 : Shape := ⟨3, ![1, 1024, 5632]⟩
abbrev S1024x5632 : Shape := ⟨2, ![1024, 5632]⟩
abbrev S16384x5632 : Shape := ⟨2, ![16384, 5632]⟩
abbrev S16384x512 : Shape := ⟨2, ![16384, 512]⟩
abbrev S64x256x512 : Shape := ⟨3, ![64, 256, 512]⟩
abbrev S64x512x256 : Shape := ⟨3, ![64, 512, 256]⟩
abbrev S512x16384 : Shape := ⟨2, ![512, 16384]⟩

abbrev nBuf : Space → Nat
  | .hbm => 56
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S2x1024x5632, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S_, .f32⟩
  | .hbm, ⟨21, _⟩ => ⟨S1x1024, .f32⟩
  | .hbm, ⟨22, _⟩ => ⟨S1x1024, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S1x1024x5632, .f32⟩
  | .hbm, ⟨28, _⟩ => ⟨S1024x5632, .f32⟩
  | .hbm, ⟨29, _⟩ => ⟨S16384x5632, .f32⟩
  | .hbm, ⟨30, _⟩ => ⟨S16384x512, .f32⟩
  | .hbm, ⟨31, _⟩ => ⟨S16384x512, .f32⟩
  | .hbm, ⟨32, _⟩ => ⟨S16384x512, .f32⟩
  | .hbm, ⟨33, _⟩ => ⟨S16384x512, .f32⟩
  | .hbm, ⟨34, _⟩ => ⟨S16384x512, .f32⟩
  | .hbm, ⟨35, _⟩ => ⟨S16384x512, .f32⟩
  | .hbm, ⟨36, _⟩ => ⟨S16384x512, .f32⟩
  | .hbm, ⟨37, _⟩ => ⟨S16384x1024, .f32⟩
  | .hbm, ⟨38, _⟩ => ⟨S16384x1024, .f32⟩
  | .hbm, ⟨39, _⟩ => ⟨S_, .f32⟩
  | .hbm, ⟨40, _⟩ => ⟨S16384x512, .f32⟩
  | .hbm, ⟨41, _⟩ => ⟨S16384x512, .f32⟩
  | .hbm, ⟨42, _⟩ => ⟨S_, .f32⟩
  | .hbm, ⟨43, _⟩ => ⟨S16384x512, .f32⟩
  | .hbm, ⟨44, _⟩ => ⟨S16384x512, .f32⟩
  | .hbm, ⟨45, _⟩ => ⟨S64x256x512, .f32⟩
  | .hbm, ⟨46, _⟩ => ⟨S64x256x512, .f32⟩
  | .hbm, ⟨47, _⟩ => ⟨S64x512x256, .f32⟩
  | .hbm, ⟨48, _⟩ => ⟨S16384x512, .bf16⟩
  | .hbm, ⟨49, _⟩ => ⟨S16384x512, .bf16⟩
  | .hbm, ⟨50, _⟩ => ⟨S16384x512, .bf16⟩
  | .hbm, ⟨51, _⟩ => ⟨S16384x512, .bf16⟩
  | .hbm, ⟨52, _⟩ => ⟨S64x256x512, .bf16⟩
  | .hbm, ⟨53, _⟩ => ⟨S512x16384, .f32⟩
  | .hbm, ⟨54, _⟩ => ⟨S512x16384, .f32⟩
  | .hbm, ⟨55, _⟩ => ⟨S64x512x256, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_3 : Ref sig .tc := ⟨.hbm, 39, rfl⟩
abbrev main_v30 : Ref sig .tc := ⟨.hbm, 40, rfl⟩
abbrev main_v31 : Ref sig .tc := ⟨.hbm, 41, rfl⟩
abbrev main_cst_4 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩

abbrev nD : Nat := 1
abbrev τ : Topo := Topo.v7x

variable {F : FTy → Type} [FloatOps F]
-- ==== Kernel3.lean ====
abbrev S16384x1024 : Shape := ⟨2, ![16384, 1024]⟩
abbrev S16384x512 : Shape := ⟨2, ![16384, 512]⟩
abbrev S1x1024 : Shape := ⟨2, ![1, 1024]⟩
abbrev S512x1024 : Shape := ⟨2, ![512, 1024]⟩
abbrev S1024x1024 : Shape := ⟨2, ![1024, 1024]⟩
abbrev S1024x4 : Shape := ⟨2, ![1024, 4]⟩
abbrev S4 : Shape := ⟨1, ![4]⟩
abbrev S1024x16 : Shape := ⟨2, ![1024, 16]⟩
abbrev S16 : Shape := ⟨1, ![16]⟩
abbrev S4x1024 : Shape := ⟨2, ![4, 1024]⟩
abbrev S16x1024 : Shape := ⟨2, ![16, 1024]⟩
abbrev S_ : Shape := ⟨0, ![]⟩
abbrev S12x1024 : Shape := ⟨2, ![12, 1024]⟩
abbrev S32x1024 : Shape := ⟨2, ![32, 1024]⟩
abbrev S12 : Shape := ⟨1, ![12]⟩
abbrev S32 : Shape := ⟨1, ![32]⟩
abbrev S32x1 : Shape := ⟨2, ![32, 1]⟩
abbrev S16384x128 : Shape := ⟨2, ![16384, 128]⟩
abbrev S512x512 : Shape := ⟨2, ![512, 512]⟩
abbrev S512x128 : Shape := ⟨2, ![512, 128]⟩
abbrev S128x512 : Shape := ⟨2, ![128, 512]⟩
abbrev S512 : Shape := ⟨1, ![512]⟩
abbrev S512x1 : Shape := ⟨2, ![512, 1]⟩
abbrev S32x512 : Shape := ⟨2, ![32, 512]⟩
abbrev S1x512 : Shape := ⟨2, ![1, 512]⟩

abbrev nBuf : Space → Nat
  | .hbm => 31
  | .vmem => 26
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .bf16⟩
  | .hbm, ⟨3, _⟩ => ⟨S16384x1024, .f32⟩
  | .hbm, ⟨4, _⟩ => ⟨S16384x1024, .f32⟩
  | .hbm, ⟨5, _⟩ => ⟨S1x1024, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S1024x4, .f32⟩
  | .hbm, ⟨13, _⟩ => ⟨S4, .f32⟩
  | .hbm, ⟨14, _⟩ => ⟨S1024x16, .f32⟩
  | .hbm, ⟨15, _⟩ => ⟨S16, .f32⟩
  | .hbm, ⟨16, _⟩ => ⟨S4x1024, .f32⟩
  | .hbm, ⟨17, _⟩ => ⟨S16x1024, .f32⟩
  | .hbm, ⟨18, _⟩ => ⟨S_, .f32⟩
  | .hbm, ⟨19, _⟩ => ⟨S12x1024, .f32⟩
  | .hbm, ⟨20, _⟩ => ⟨S32x1024, .f32⟩
  | .hbm, ⟨21, _⟩ => ⟨S_, .f32⟩
  | .hbm, ⟨22, _⟩ => ⟨S12, .f32⟩
  | .hbm, ⟨23, _⟩ => ⟨S32, .f32⟩
  | .hbm, ⟨24, _⟩ => ⟨S32x1, .f32⟩
  | .hbm, ⟨25, _⟩ => ⟨S512x1024, .bf16⟩
  | .hbm, ⟨26, _⟩ => ⟨S512x1024, .bf16⟩
  | .hbm, ⟨27, _⟩ => ⟨S1024x1024, .bf16⟩
  | .hbm, ⟨28, _⟩ => ⟨S16384x1024, .f32⟩
  | .hbm, ⟨29, _⟩ => ⟨S16384x1024, .bf16⟩
  | .hbm, ⟨30, _⟩ => ⟨S16384x128, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S512x1024, .bf16⟩
  | .local _ .vmem, ⟨12, _⟩ => ⟨S512x1024, .bf16⟩
  | .local _ .vmem, ⟨13, _⟩ => ⟨S1024x1024, .bf16⟩
  | .local _ .vmem, ⟨14, _⟩ => ⟨S1x1024, .f32⟩
  | .local _ .vmem, ⟨15, _⟩ => ⟨S1x1024, .f32⟩
  | .local _ .vmem, ⟨16, _⟩ => ⟨S1x1024, .f32⟩
  | .local _ .vmem, ⟨17, _⟩ => ⟨S32x1024, .f32⟩
  | .local _ .vmem, ⟨18, _⟩ => ⟨S32x1, .f32⟩
  | .local _ .vmem, ⟨19, _⟩ => ⟨S512x1024, .f32⟩
  | .local _ .vmem, ⟨20, _⟩ => ⟨S512x1024, .f32⟩
  | .local _ .vmem, ⟨21, _⟩ => ⟨S512x1024, .bf16⟩
  | .local _ .vmem, ⟨22, _⟩ => ⟨S512x1024, .bf16⟩
  | .local _ .vmem, ⟨23, _⟩ => ⟨S512x128, .f32⟩
  | .local _ .vmem, ⟨24, _⟩ => ⟨S512x128, .f32⟩
  | .local _ .vmem, ⟨25, _⟩ => ⟨S128x512, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_cst : Ref sig .tc := ⟨.hbm, 18, rfl⟩
abbrev main_v2 : Ref sig .tc := ⟨.hbm, 19, rfl⟩
abbrev main_v3 : Ref sig .tc := ⟨.hbm, 20, rfl⟩
abbrev main_cst_0 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10_0 : Ref sig .tc := ⟨.hbm, 28, rfl⟩
abbrev main_v10_1 : Ref sig .tc := ⟨.hbm, 29, rfl⟩
abbrev main_v10_2 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_scratch0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem16_1 : DmaSem sig := 24

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S32x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S32x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== Reference3Ideal.lean ====
abbrev S16384x1024 : Shape := ⟨2, ![16384, 1024]⟩
abbrev S16384x512 : Shape := ⟨2, ![16384, 512]⟩
abbrev S1x1024 : Shape := ⟨2, ![1, 1024]⟩
abbrev S512x1024 : Shape := ⟨2, ![512, 1024]⟩
abbrev S1024x1024 : Shape := ⟨2, ![1024, 1024]⟩
abbrev S1024x4 : Shape := ⟨2, ![1024, 4]⟩
abbrev S4 : Shape := ⟨1, ![4]⟩
abbrev S1024x16 : Shape := ⟨2, ![1024, 16]⟩
abbrev S16 : Shape := ⟨1, ![16]⟩
abbrev S_ : Shape := ⟨0, ![]⟩
abbrev S16384 : Shape := ⟨1, ![16384]⟩
abbrev S16384x1 : Shape := ⟨2, ![16384, 1]⟩

abbrev nBuf : Space → Nat
  | .hbm => 66
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .bf16⟩
  | .hbm, ⟨3, _⟩ => ⟨S16384x1024, .f32⟩
  | .hbm, ⟨4, _⟩ => ⟨S16384x1024, .f32⟩
  | .hbm, ⟨5, _⟩ => ⟨S1x1024, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S1024x4, .f32⟩
  | .hbm, ⟨13, _⟩ => ⟨S4, .f32⟩
  | .hbm, ⟨14, _⟩ => ⟨S1024x16, .f32⟩
  | .hbm, ⟨15, _⟩ => ⟨S16, .f32⟩
  | .hbm, ⟨16, _⟩ => ⟨S16384x512, .f32⟩
  | .hbm, ⟨17, _⟩ => ⟨S16384x1024, .f32⟩
  | .hbm, ⟨18, _⟩ => ⟨S16384x512, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S_, .f32⟩
  | .hbm, ⟨23, _⟩ => ⟨S16384x1024, .f32⟩
  | .hbm, ⟨24, _⟩ => ⟨S16384x1024, .f32⟩
  | .hbm, ⟨25, _⟩ => ⟨S_, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S_, .f32⟩
  | .hbm, ⟨32, _⟩ => ⟨S16384x1024, .f32⟩
  | .hbm, ⟨33, _⟩ => ⟨S16384x1024, .f32⟩
  | .hbm, ⟨34, _⟩ => ⟨S_, .f32⟩
  | .hbm, ⟨35, _⟩ => ⟨S16384x1024, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S16384x1024, .f32⟩
  | .hbm, ⟨41, _⟩ => ⟨S16384x1024, .f32⟩
  | .hbm, ⟨42, _⟩ => ⟨S16384x1024, .f32⟩
  | .hbm, ⟨43, _⟩ => ⟨S16384x1024, .f32⟩
  | .hbm, ⟨44, _⟩ => ⟨S_, .f32⟩
  | .hbm, ⟨45, _⟩ => ⟨S16384, .f32⟩
  | .hbm, ⟨46, _⟩ => ⟨S16384x1, .f32⟩
  | .hbm, ⟨47, _⟩ => ⟨S_, .f32⟩
  | .hbm, ⟨48, _⟩ => ⟨S16384x1, .f32⟩
  | .hbm, ⟨49, _⟩ => ⟨S16384x1, .f32⟩
  | .hbm, ⟨50, _⟩ => ⟨S_, .f32⟩
  | .hbm, ⟨51, _⟩ => ⟨S16384x1, .f32⟩
  | .hbm, ⟨52, _⟩ => ⟨S16384x1, .f32⟩
  | .hbm, ⟨53, _⟩ => ⟨S16384x1, .f32⟩
  | .hbm, ⟨54, _⟩ => ⟨S16384x1024, .f32⟩
  | .hbm, ⟨55, _⟩ => ⟨S16384x1024, .f32⟩
  | .hbm, ⟨56, _⟩ => ⟨S16384x1024, .f32⟩
  | .hbm, ⟨57, _⟩ => ⟨S16384x1024, .f32⟩
  | .hbm, ⟨58, _⟩ => ⟨S_, .f32⟩
  | .hbm, ⟨59, _⟩ => ⟨S1x1024, .f32⟩
  | .hbm, ⟨60, _⟩ => ⟨S1x1024, .f32⟩
  | .hbm, ⟨61, _⟩ => ⟨S16384x1024, .f32⟩
  | .hbm, ⟨62, _⟩ => ⟨S16384x1024, .f32⟩
  | .hbm, ⟨63, _⟩ => ⟨S16384x1024, .f32⟩
  | .hbm, ⟨64, _⟩ => ⟨S16384x1024, .f32⟩
  | .hbm, ⟨65, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_cst : Ref sig .tc := ⟨.hbm, 22, rfl⟩
abbrev main_v6 : Ref sig .tc := ⟨.hbm, 23, rfl⟩
abbrev main_v7 : Ref sig .tc := ⟨.hbm, 24, rfl⟩
abbrev main_cst_0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_cst_1 : Ref sig .tc := ⟨.hbm, 31, rfl⟩
abbrev main_v13 : Ref sig .tc := ⟨.hbm, 32, rfl⟩
abbrev main_v14 : Ref sig .tc := ⟨.hbm, 33, rfl⟩
abbrev main_cst_2 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst_3 : Ref sig .tc := ⟨.hbm, 44, rfl⟩
abbrev main_v24 : Ref sig .tc := ⟨.hbm, 45, rfl⟩
abbrev main_v25 : Ref sig .tc := ⟨.hbm, 46, rfl⟩
abbrev main_cst_4 : Ref sig .tc := ⟨.hbm, 47, rfl⟩
abbrev main_v26 : Ref sig .tc := ⟨.hbm, 48, rfl⟩
abbrev main_v27 : Ref sig .tc := ⟨.hbm, 49, rfl⟩
abbrev main_cst_5 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_6 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩

abbrev nD : Nat := 1
abbrev τ : Topo := Topo.v7x

variable {F : FTy → Type} [FloatOps F]
-- ==== Kernel4.lean ====
abbrev S32x1024 : Shape := ⟨2, ![32, 1024]⟩
abbrev S1x1024 : Shape := ⟨2, ![1, 1024]⟩
abbrev S2x1024x5632 : Shape := ⟨3, ![2, 1024, 5632]⟩
abbrev S32x5632 : Shape := ⟨2, ![32, 5632]⟩
abbrev S1x1024x512 : Shape := ⟨3, ![1, 1024, 512]⟩
abbrev S32x512 : Shape := ⟨2, ![32, 512]⟩
abbrev S32 : Shape := ⟨1, ![32]⟩
abbrev S32x1 : Shape := ⟨2, ![32, 1]⟩
abbrev S1024x512 : Shape := ⟨2, ![1024, 512]⟩

abbrev nBuf : Space → Nat
  | .hbm => 6
  | .vmem => 8
  | .smem => 0
  | _ => 0

abbrev bufTy : (tb : Table) → Fin (tcTables nBuf tb) → BufTy
  | .hbm, ⟨0, _⟩ => ⟨S32x1024, .f32⟩
  | .hbm, ⟨1, _⟩ => ⟨S1x1024, .f32⟩
  | .hbm, ⟨2, _⟩ => ⟨S32x1024, .f32⟩
  | .hbm, ⟨3, _⟩ => ⟨S32x1024, .f32⟩
  | .hbm, ⟨4, _⟩ => ⟨S2x1024x5632, .f32⟩
  | .hbm, ⟨5, _⟩ => ⟨S32x5632, .f32⟩
  | .local _ .vmem, ⟨0, _⟩ => ⟨S32x1024, .f32⟩
  | .local _ .vmem, ⟨1, _⟩ => ⟨S1x1024, .f32⟩
  | .local _ .vmem, ⟨2, _⟩ => ⟨S32x1024, .f32⟩
  | .local _ .vmem, ⟨3, _⟩ => ⟨S32x1024, .f32⟩
  | .local _ .vmem, ⟨4, _⟩ => ⟨S1x1024x512, .f32⟩
  | .local _ .vmem, ⟨5, _⟩ => ⟨S1x1024x512, .f32⟩
  | .local _ .vmem, ⟨6, _⟩ => ⟨S32x512, .f32⟩
  | .local _ .vmem, ⟨7, _⟩ => ⟨S32x512, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference4Ideal.lean ====
abbrev S32x1024 : Shape := ⟨2, ![32, 1024]⟩
abbrev S1x1024 : Shape := ⟨2, ![1, 1024]⟩
abbrev S2x1024x5632 : Shape := ⟨3, ![2, 1024, 5632]⟩
abbrev S_ : Shape := ⟨0, ![]⟩
abbrev S32 : Shape := ⟨1, ![32]⟩
abbrev S32x1 : Shape := ⟨2, ![32, 1]⟩
abbrev S1x1024x5632 : Shape := ⟨3, ![1, 1024, 5632]⟩
abbrev S1024x5632 : Shape := ⟨2, ![1024, 5632]⟩
abbrev S32x5632 : Shape := ⟨2, ![32, 5632]⟩

abbrev nBuf : Space → Nat
  | .hbm => 28
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S1x1024, .f32⟩
  | .hbm, ⟨2, _⟩ => ⟨S32x1024, .f32⟩
  | .hbm, ⟨3, _⟩ => ⟨S32x1024, .f32⟩
  | .hbm, ⟨4, _⟩ => ⟨S2x1024x5632, .f32⟩
  | .hbm, ⟨5, _⟩ => ⟨S32x1024, .f32⟩
  | .hbm, ⟨6, _⟩ => ⟨S_, .f32⟩
  | .hbm, ⟨7, _⟩ => ⟨S32, .f32⟩
  | .hbm, ⟨8, _⟩ => ⟨S32x1, .f32⟩
  | .hbm, ⟨9, _⟩ => ⟨S_, .f32⟩
  | .hbm, ⟨10, _⟩ => ⟨S32x1, .f32⟩
  | .hbm, ⟨11, _⟩ => ⟨S32x1, .f32⟩
  | .hbm, ⟨12, _⟩ => ⟨S_, .f32⟩
  | .hbm, ⟨13, _⟩ => ⟨S32x1, .f32⟩
  | .hbm, ⟨14, _⟩ => ⟨S32x1, .f32⟩
  | .hbm, ⟨15, _⟩ => ⟨S32x1, .f32⟩
  | .hbm, ⟨16, _⟩ => ⟨S32x1024, .f32⟩
  | .hbm, ⟨17, _⟩ => ⟨S32x1024, .f32⟩
  | .hbm, ⟨18, _⟩ => ⟨S32x1024, .f32⟩
  | .hbm, ⟨19, _⟩ => ⟨S32x1024, .f32⟩
  | .hbm, ⟨20, _⟩ => ⟨S_, .f32⟩
  | .hbm, ⟨21, _⟩ => ⟨S32x1024, .f32⟩
  | .hbm, ⟨22, _⟩ => ⟨S32x1024, .f32⟩
  | .hbm, ⟨23, _⟩ => ⟨S32x1024, .f32⟩
  | .hbm, ⟨24, _⟩ => ⟨S32x1024, .f32⟩
  | .hbm, ⟨25, _⟩ => ⟨S1x1024x5632, .f32⟩
  | .hbm, ⟨26, _⟩ => ⟨S1024x5632, .f32⟩
  | .hbm, ⟨27, _⟩ => ⟨S32x5632, .f32⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩

abbrev nD : Nat := 1
abbrev τ : Topo := Topo.v7x

variable {F : FTy → Type} [FloatOps F]
-- ==== Kernel5.lean ====
abbrev S2x32x8x64x64 : Shape := ⟨5, ![2, 32, 8, 64, 64]⟩
abbrev S32x512 : Shape := ⟨2, ![32, 512]⟩
abbrev S32x8x64x1 : Shape := ⟨4, ![32, 8, 64, 1]⟩
abbrev S32x8x1x64 : Shape := ⟨4, ![32, 8, 1, 64]⟩
abbrev S8 : Shape := ⟨1, ![8]⟩
abbrev S_ : Shape := ⟨0, ![]⟩
abbrev S8x1x1 : Shape := ⟨3, ![8, 1, 1]⟩
abbrev S32x8x64x64 : Shape := ⟨4, ![32, 8, 64, 64]⟩
abbrev S1x1x8x64x64 : Shape := ⟨5, ![1, 1, 8, 64, 64]⟩
abbrev S1x8x64x1 : Shape := ⟨4, ![1, 8, 64, 1]⟩
abbrev S1x8x1x64 : Shape := ⟨4, ![1, 8, 1, 64]⟩
abbrev S1x8x64x64 : Shape := ⟨4, ![1, 8, 64, 64]⟩
abbrev S8x64x64 : Shape := ⟨3, ![8, 64, 64]⟩
abbrev S8x64x1 : Shape := ⟨3, ![8, 64, 1]⟩
abbrev S8x1x64 : Shape := ⟨3, ![8, 1, 64]⟩
abbrev S8x64 : Shape := ⟨2, ![8, 64]⟩
abbrev S8x1 : Shape := ⟨2, ![8, 1]⟩

abbrev nBuf : Space → Nat
  | .hbm => 22
  | .vmem => 15
  | .smem => 0
  | _ => 0

abbrev bufTy : (tb : Table) → Fin (tcTables nBuf tb) → BufTy
  | .hbm, ⟨0, _⟩ => ⟨S2x32x8x64x64, .f32⟩
  | .hbm, ⟨1, _⟩ => ⟨S32x512, .f32⟩
  | .hbm, ⟨2, _⟩ => ⟨S32x512, .f32⟩
  | .hbm, ⟨3, _⟩ => ⟨S32x512, .f32⟩
  | .hbm, ⟨4, _⟩ => ⟨S32x512, .f32⟩
  | .hbm, ⟨5, _⟩ => ⟨S32x8x64x1, .f32⟩
  | .hbm, ⟨6, _⟩ => ⟨S32x8x64x1, .f32⟩
  | .hbm, ⟨7, _⟩ => ⟨S32x8x1x64, .f32⟩
  | .hbm, ⟨8, _⟩ => ⟨S32x8x1x64, .f32⟩
  | .hbm, ⟨9, _⟩ => ⟨S8, .f32⟩
  | .hbm, ⟨10, _⟩ => ⟨S_, .f32⟩
  | .hbm, ⟨11, _⟩ => ⟨S8, .f32⟩
  | .hbm, ⟨12, _⟩ => ⟨S8, .f32⟩
  | .hbm, ⟨13, _⟩ => ⟨S_, .f32⟩
  | .hbm, ⟨14, _⟩ => ⟨S8, .f32⟩
  | .hbm, ⟨15, _⟩ => ⟨S8, .f32⟩
  | .hbm, ⟨16, _⟩ => ⟨S8, .f32⟩
  | .hbm, ⟨17, _⟩ => ⟨S8, .f32⟩
  | .hbm, ⟨18, _⟩ => ⟨S8, .f32⟩
  | .hbm, ⟨19, _⟩ => ⟨S8x1x1, .f32⟩
  | .hbm, ⟨20, _⟩ => ⟨S32x8x64x64, .f32⟩
  | .hbm, ⟨21, _⟩ => ⟨S32x8x1x64, .f32⟩
  | .local _ .vmem, ⟨0, _⟩ => ⟨S1x1x8x64x64, .f32⟩
  | .local _ .vmem, ⟨1, _⟩ => ⟨S1x1x8x64x64, .f32⟩
  | .local _ .vmem, ⟨2, _⟩ => ⟨S1x8x64x1, .f32⟩
  | .local _ .vmem, ⟨3, _⟩ => ⟨S1x8x64x1, .f32⟩
  | .local _ .vmem, ⟨4, _⟩ => ⟨S1x8x64x1, .f32⟩
  | .local _ .vmem, ⟨5, _⟩ => ⟨S1x8x64x1, .f32⟩
  | .local _ .vmem, ⟨6, _⟩ => ⟨S1x8x1x64, .f32⟩
  | .local _ .vmem, ⟨7, _⟩ => ⟨S1x8x1x64, .f32⟩
  | .local _ .vmem, ⟨8, _⟩ => ⟨S1x8x1x64, .f32⟩
  | .local _ .vmem, ⟨9, _⟩ => ⟨S1x8x1x64, .f32⟩
  | .local _ .vmem, ⟨10, _⟩ => ⟨S8x1x1, .f32⟩
  | .local _ .vmem, ⟨11, _⟩ => ⟨S1x8x64x64, .f32⟩
  | .local _ .vmem, ⟨12, _⟩ => ⟨S1x8x64x64, .f32⟩
  | .local _ .vmem, ⟨13, _⟩ => ⟨S1x8x1x64, .f32⟩
  | .local _ .vmem, ⟨14, _⟩ => ⟨S1x8x1x64, .f32⟩
  | _, _ => ⟨S2x32x8x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13_0 : Ref sig .tc := ⟨.hbm, 20, rfl⟩
abbrev main_v13_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x1x8x64x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x64x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x64x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x1x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8x1x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x8x64x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x8x1x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference5Ideal.lean ====
abbrev S2x32x8x64x64 : Shape := ⟨5, ![2, 32, 8, 64, 64]⟩
abbrev S32x512 : Shape := ⟨2, ![32, 512]⟩
abbrev S8 : Shape := ⟨1, ![8]⟩
abbrev S_ : Shape := ⟨0, ![]⟩
abbrev S1x32x8x64x64 : Shape := ⟨5, ![1, 32, 8, 64, 64]⟩
abbrev S32x8x64x64 : Shape := ⟨4, ![32, 8, 64, 64]⟩
abbrev S32x1x8x64 : Shape := ⟨4, ![32, 1, 8, 64]⟩
abbrev S1 : Shape := ⟨1, ![1]⟩
abbrev S1x1 : Shape := ⟨2, ![1, 1]⟩
abbrev S8x1x1 : Shape := ⟨3, ![8, 1, 1]⟩
abbrev S1x1x1 : Shape := ⟨3, ![1, 1, 1]⟩
abbrev S32x8x1x1 : Shape := ⟨4, ![32, 8, 1, 1]⟩
abbrev S1x8x1x1 : Shape := ⟨4, ![1, 8, 1, 1]⟩
abbrev S32x8x64x1 : Shape := ⟨4, ![32, 8, 64, 1]⟩
abbrev S1x8 : Shape := ⟨2, ![1, 8]⟩
abbrev S1x1x8x1 : Shape := ⟨4, ![1, 1, 8, 1]⟩
abbrev S32x1x8 : Shape := ⟨3, ![32, 1, 8]⟩
abbrev S32x1x8x1 : Shape := ⟨4, ![32, 1, 8, 1]⟩
abbrev S32x8x1x64 : Shape := ⟨4, ![32, 8, 1, 64]⟩

abbrev nBuf : Space → Nat
  | .hbm => 117
  | .vmem => 0
  | .smem => 0
  | _ => 0

abbrev bufTy : (tb : Table) → Fin (tcTables nBuf tb) → BufTy
  | .hbm, ⟨0, _⟩ => ⟨S2x32x8x64x64, .f32⟩
  | .hbm, ⟨1, _⟩ => ⟨S32x512, .f32⟩
  | .hbm, ⟨2, _⟩ => ⟨S32x512, .f32⟩
  | .hbm, ⟨3, _⟩ => ⟨S32x512, .f32⟩
  | .hbm, ⟨4, _⟩ => ⟨S32x512, .f32⟩
  | .hbm, ⟨5, _⟩ => ⟨S8, .f32⟩
  | .hbm, ⟨6, _⟩ => ⟨S_, .f32⟩
  | .hbm, ⟨7, _⟩ => ⟨S8, .f32⟩
  | .hbm, ⟨8, _⟩ => ⟨S8, .f32⟩
  | .hbm, ⟨9, _⟩ => ⟨S_, .f32⟩
  | .hbm, ⟨10, _⟩ => ⟨S8, .f32⟩
  | .hbm, ⟨11, _⟩ => ⟨S8, .f32⟩
  | .hbm, ⟨12, _⟩ => ⟨S8, .f32⟩
  | .hbm, ⟨13, _⟩ => ⟨S8, .f32⟩
  | .hbm, ⟨14, _⟩ => ⟨S1x32x8x64x64, .f32⟩
  | .hbm, ⟨15, _⟩ => ⟨S32x8x64x64, .f32⟩
  | .hbm, ⟨16, _⟩ => ⟨S32x1x8x64, .f32⟩
  | .hbm, ⟨17, _⟩ => ⟨S32x1x8x64, .f32⟩
  | .hbm, ⟨18, _⟩ => ⟨S_, .f32⟩
  | .hbm, ⟨19, _⟩ => ⟨S32x1x8x64, .f32⟩
  | .hbm, ⟨20, _⟩ => ⟨S32x1x8x64, .f32⟩
  | .hbm, ⟨21, _⟩ => ⟨S32x1x8x64, .f32⟩
  | .hbm, ⟨22, _⟩ => ⟨S1, .f32⟩
  | .hbm, ⟨23, _⟩ => ⟨S1x1, .f32⟩
  | .hbm, ⟨24, _⟩ => ⟨S1x1, .f32⟩
  | .hbm, ⟨25, _⟩ => ⟨S1x1, .f32⟩
  | .hbm, ⟨26, _⟩ => ⟨S_, .f32⟩
  | .hbm, ⟨27, _⟩ => ⟨S1x1, .f32⟩
  | .hbm, ⟨28, _⟩ => ⟨S1x1, .i1⟩
  | .hbm, ⟨29, _⟩ => ⟨S8x1x1, .f32⟩
  | .hbm, ⟨30, _⟩ => ⟨S_, .f32⟩
  | .hbm, ⟨31, _⟩ => ⟨S1x1, .f32⟩
  | .hbm, ⟨32, _⟩ => ⟨S1x1, .f32⟩
  | .hbm, ⟨33, _⟩ => ⟨S1x1x1, .f32⟩
  | .hbm, ⟨34, _⟩ => ⟨S8x1x1, .f32⟩
  | .hbm, ⟨35, _⟩ => ⟨S8x1x1, .f32⟩
  | .hbm, ⟨36, _⟩ => ⟨S8x1x1, .f32⟩
  | .hbm, ⟨37, _⟩ => ⟨S_, .f32⟩
  | .hbm, ⟨38, _⟩ => ⟨S_, .f32⟩
  | .hbm, ⟨39, _⟩ => ⟨S8x1x1, .i1⟩
  | .hbm, ⟨40, _⟩ => ⟨S8x1x1, .f32⟩
  | .hbm, ⟨41, _⟩ => ⟨S8x1x1, .f32⟩
  | .hbm, ⟨42, _⟩ => ⟨S32x8x1x1, .f32⟩
  | .hbm, ⟨43, _⟩ => ⟨S1x8x1x1, .f32⟩
  | .hbm, ⟨44, _⟩ => ⟨S32x8x1x1, .f32⟩
  | .hbm, ⟨45, _⟩ => ⟨S32x8x1x1, .f32⟩
  | .hbm, ⟨46, _⟩ => ⟨S32x8x64x1, .f32⟩
  | .hbm, ⟨47, _⟩ => ⟨S32x1x8x64, .f32⟩
  | .hbm, ⟨48, _⟩ => ⟨S1x8, .f32⟩
  | .hbm, ⟨49, _⟩ => ⟨S1x1, .f32⟩
  | .hbm, ⟨50, _⟩ => ⟨S_, .f32⟩
  | .hbm, ⟨51, _⟩ => ⟨S1x1, .f32⟩
  | .hbm, ⟨52, _⟩ => ⟨S1x1, .f32⟩
  | .hbm, ⟨53, _⟩ => ⟨S1x8, .f32⟩
  | .hbm, ⟨54, _⟩ => ⟨S1x8, .f32⟩
  | .hbm, ⟨55, _⟩ => ⟨S1x8, .f32⟩
  | .hbm, ⟨56, _⟩ => ⟨S32x8x64x1, .f32⟩
  | .hbm, ⟨57, _⟩ => ⟨S32x1x8x64, .f32⟩
  | .hbm, ⟨58, _⟩ => ⟨S1x1x8x1, .f32⟩
  | .hbm, ⟨59, _⟩ => ⟨S32x1x8x64, .f32⟩
  | .hbm, ⟨60, _⟩ => ⟨S32x1x8x64, .f32⟩
  | .hbm, ⟨61, _⟩ => ⟨S1x8, .f32⟩
  | .hbm, ⟨62, _⟩ => ⟨S1x1, .f32⟩
  | .hbm, ⟨63, _⟩ => ⟨S_, .f32⟩
  | .hbm, ⟨64, _⟩ => ⟨S1x1, .f32⟩
  | .hbm, ⟨65, _⟩ => ⟨S1x1, .f32⟩
  | .hbm, ⟨66, _⟩ => ⟨S1x8, .f32⟩
  | .hbm, ⟨67, _⟩ => ⟨S1x8, .f32⟩
  | .hbm, ⟨68, _⟩ => ⟨S1x8, .f32⟩
  | .hbm, ⟨69, _⟩ => ⟨S_, .f32⟩
  | .hbm, ⟨70, _⟩ => ⟨S8, .f32⟩
  | .hbm, ⟨71, _⟩ => ⟨S8, .f32⟩
  | .hbm, ⟨72, _⟩ => ⟨S8, .f32⟩
  | .hbm, ⟨73, _⟩ => ⟨S1x8x1x1, .f32⟩
  | .hbm, ⟨74, _⟩ => ⟨S32x8x64x64, .f32⟩
  | .hbm, ⟨75, _⟩ => ⟨S32x8x64x64, .f32⟩
  | .hbm, ⟨76, _⟩ => ⟨S1x1x8x1, .f32⟩
  | .hbm, ⟨77, _⟩ => ⟨S32x1x8x64, .f32⟩
  | .hbm, ⟨78, _⟩ => ⟨S32x1x8x64, .f32⟩
  | .hbm, ⟨79, _⟩ => ⟨S32x8x64x64, .f32⟩
  | .hbm, ⟨80, _⟩ => ⟨S32x8x64x64, .f32⟩
  | .hbm, ⟨81, _⟩ => ⟨S32x1x8x64, .f32⟩
  | .hbm, ⟨82, _⟩ => ⟨S_, .f32⟩
  | .hbm, ⟨83, _⟩ => ⟨S32x1x8, .f32⟩
  | .hbm, ⟨84, _⟩ => ⟨S32x1x8x1, .f32⟩
  | .hbm, ⟨85, _⟩ => ⟨S_, .f32⟩
  | .hbm, ⟨86, _⟩ => ⟨S32x1x8x1, .f32⟩
  | .hbm, ⟨87, _⟩ => ⟨S32x1x8x1, .f32⟩
  | .hbm, ⟨88, _⟩ => ⟨S32x1x8x64, .f32⟩
  | .hbm, ⟨89, _⟩ => ⟨S32x1x8x64, .f32⟩
  | .hbm, ⟨90, _⟩ => ⟨S32x1x8x64, .f32⟩
  | .hbm, ⟨91, _⟩ => ⟨S_, .f32⟩
  | .hbm, ⟨92, _⟩ => ⟨S32x1x8, .f32⟩
  | .hbm, ⟨93, _⟩ => ⟨S32x1x8x1, .f32⟩
  | .hbm, ⟨94, _⟩ => ⟨S_, .f32⟩
  | .hbm, ⟨95, _⟩ => ⟨S32x1x8x1, .f32⟩
  | .hbm, ⟨96, _⟩ => ⟨S32x1x8x1, .f32⟩
  | .hbm, ⟨97, _⟩ => ⟨S32x1x8x64, .f32⟩
  | .hbm, ⟨98, _⟩ => ⟨S32x1x8x64, .f32⟩
  | .hbm, ⟨99, _⟩ => ⟨S_, .f32⟩
  | .hbm, ⟨100, _⟩ => ⟨S32x1x8x1, .f32⟩
  | .hbm, ⟨101, _⟩ => ⟨S32x1x8x1, .f32⟩
  | .hbm, ⟨102, _⟩ => ⟨S32x1x8x1, .f32⟩
  | .hbm, ⟨103, _⟩ => ⟨S32x1x8x64, .f32⟩
  | .hbm, ⟨104, _⟩ => ⟨S32x1x8x64, .f32⟩
  | .hbm, ⟨105, _⟩ => ⟨S32x1x8x64, .f32⟩
  | .hbm, ⟨106, _⟩ => ⟨S32x1x8x64, .f32⟩
  | .hbm, ⟨107, _⟩ => ⟨S32x1x8x64, .f32⟩
  | .hbm, ⟨108, _⟩ => ⟨S_, .f32⟩
  | .hbm, ⟨109, _⟩ => ⟨S32x1x8x64, .f32⟩
  | .hbm, ⟨110, _⟩ => ⟨S32x1x8x64, .f32⟩
  | .hbm, ⟨111, _⟩ => ⟨S_, .f32⟩
  | .hbm, ⟨112, _⟩ => ⟨S32x1x8x64, .f32⟩
  | .hbm, ⟨113, _⟩ => ⟨S32x1x8x64, .f32⟩
  | .hbm, ⟨114, _⟩ => ⟨S32x1x8x64, .f32⟩
  | .hbm, ⟨115, _⟩ => ⟨S32x1x8x64, .f32⟩
  | .hbm, ⟨116, _⟩ => ⟨S32x8x1x64, .f32⟩
  | _, _ => ⟨S2x32x8x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_call0_v0 : Ref sig .tc := ⟨.hbm, 38, rfl⟩
abbrev main_call0_v1 : Ref sig .tc := ⟨.hbm, 39, rfl⟩
abbrev main_call0_v2 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_5 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_cst_6 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_cst_7 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_cst_8 : Ref sig .tc := ⟨.hbm, 82, rfl⟩
abbrev main_v65 : Ref sig .tc := ⟨.hbm, 83, rfl⟩
abbrev main_v66 : Ref sig .tc := ⟨.hbm, 84, rfl⟩
abbrev main_cst_9 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_cst_10 : Ref sig .tc := ⟨.hbm, 91, rfl⟩
abbrev main_v72 : Ref sig .tc := ⟨.hbm, 92, rfl⟩
abbrev main_v73 : Ref sig .tc := ⟨.hbm, 93, rfl⟩
abbrev main_cst_11 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_cst_12 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_call1_v0 : Ref sig .tc := ⟨.hbm, 106, rfl⟩
abbrev main_call1_v1 : Ref sig .tc := ⟨.hbm, 107, rfl⟩
abbrev main_call1_cst : Ref sig .tc := ⟨.hbm, 108, rfl⟩
abbrev main_call1_v2 : Ref sig .tc := ⟨.hbm, 109, rfl⟩
abbrev main_call1_v3 : Ref sig .tc := ⟨.hbm, 110, rfl⟩
abbrev main_call1_cst_0 : Ref sig .tc := ⟨.hbm, 111, rfl⟩
abbrev main_call1_v4 : Ref sig .tc := ⟨.hbm, 112, rfl⟩
abbrev main_call1_v5 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩

abbrev nD : Nat := 1
abbrev τ : Topo := Topo.v7x

variable {F : FTy → Type} [FloatOps F]
-- ==== Kernel6.lean ====
abbrev S32x1024 : Shape := ⟨2, ![32, 1024]⟩
abbrev S32x128 : Shape := ⟨2, ![32, 128]⟩
abbrev S2x16x1024x512 : Shape := ⟨4, ![2, 16, 1024, 512]⟩
abbrev S2x16x512x1024 : Shape := ⟨4, ![2, 16, 512, 1024]⟩
abbrev S1x1024 : Shape := ⟨2, ![1, 1024]⟩
abbrev S1x1x1024x512 : Shape := ⟨4, ![1, 1, 1024, 512]⟩
abbrev S1x1x512x1024 : Shape := ⟨4, ![1, 1, 512, 1024]⟩
abbrev S32 : Shape := ⟨1, ![32]⟩
abbrev S32x1 : Shape := ⟨2, ![32, 1]⟩
abbrev S1024x512 : Shape := ⟨2, ![1024, 512]⟩
abbrev S32x512 : Shape := ⟨2, ![32, 512]⟩
abbrev S512x1024 : Shape := ⟨2, ![512, 1024]⟩

abbrev nBuf : Space → Nat
  | .hbm => 9
  | .vmem => 13
  | .smem => 0
  | _ => 0

abbrev bufTy : (tb : Table) → Fin (tcTables nBuf tb) → BufTy
  | .hbm, ⟨0, _⟩ => ⟨S32x1024, .f32⟩
  | .hbm, ⟨1, _⟩ => ⟨S32x1024, .f32⟩
  | .hbm, ⟨2, _⟩ => ⟨S32x128, .f32⟩
  | .hbm, ⟨3, _⟩ => ⟨S32x1024, .f32⟩
  | .hbm, ⟨4, _⟩ => ⟨S2x16x1024x512, .f32⟩
  | .hbm, ⟨5, _⟩ => ⟨S2x16x1024x512, .f32⟩
  | .hbm, ⟨6, _⟩ => ⟨S2x16x512x1024, .f32⟩
  | .hbm, ⟨7, _⟩ => ⟨S1x1024, .f32⟩
  | .hbm, ⟨8, _⟩ => ⟨S32x1024, .f32⟩
  | .local _ .vmem, ⟨0, _⟩ => ⟨S32x1024, .f32⟩
  | .local _ .vmem, ⟨1, _⟩ => ⟨S32x1024, .f32⟩
  | .local _ .vmem, ⟨2, _⟩ => ⟨S32x128, .f32⟩
  | .local _ .vmem, ⟨3, _⟩ => ⟨S32x1024, .f32⟩
  | .local _ .vmem, ⟨4, _⟩ => ⟨S1x1x1024x512, .f32⟩
  | .local _ .vmem, ⟨5, _⟩ => ⟨S1x1x1024x512, .f32⟩
  | .local _ .vmem, ⟨6, _⟩ => ⟨S1x1x1024x512, .f32⟩
  | .local _ .vmem, ⟨7, _⟩ => ⟨S1x1x1024x512, .f32⟩
  | .local _ .vmem, ⟨8, _⟩ => ⟨S1x1x512x1024, .f32⟩
  | .local _ .vmem, ⟨9, _⟩ => ⟨S1x1x512x1024, .f32⟩
  | .local _ .vmem, ⟨10, _⟩ => ⟨S1x1024, .f32⟩
  | .local _ .vmem, ⟨11, _⟩ => ⟨S32x1024, .f32⟩
  | .local _ .vmem, ⟨12, _⟩ => ⟨S32x1024, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_scratch0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem8_0 : DmaSem sig := 11

abbrev nD : Nat := 1
abbrev τ : Topo := Topo.v7x

variable {F : FTy → Type} [FloatOps F]

abbrev grid0 : Pipeline.Grid := ⟨2, ![1, 16], ![false, false]⟩

def k0_cond2 (i : grid0.Coords) : BitVec 1 :=
  let arg1 : BitVec 32 := BitVec.ofNat 32 (i 1).val
  let c15_i32 : BitVec 32 := 15#32
  let v31 : BitVec 1 := Scalar.cmpi .eq arg1 c15_i32
  let v32 : BitVec 32 := Scalar.extui v31
  let c0_i32_24 : BitVec 32 := 0#32
  let v33 : BitVec 1 := Scalar.cmpi .ne v32 c0_i32_24
  v33

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, arg1.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, arg1.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S32x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S32x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S32x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S1x1x1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1x1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S32x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, false]
-- ==== Reference6Ideal.lean ====
abbrev S32x1024 : Shape := ⟨2, ![32, 1024]⟩
abbrev S32x128 : Shape := ⟨2, ![32, 128]⟩
abbrev S2x16x1024x512 : Shape := ⟨4, ![2, 16, 1024, 512]⟩
abbrev S2x16x512x1024 : Shape := ⟨4, ![2, 16, 512, 1024]⟩
abbrev S1x1024 : Shape := ⟨2, ![1, 1024]⟩
abbrev S1x16x1024x512 : Shape := ⟨4, ![1, 16, 1024, 512]⟩
abbrev S16x1024x512 : Shape := ⟨3, ![16, 1024, 512]⟩
abbrev S32x16x512 : Shape := ⟨3, ![32, 16, 512]⟩
abbrev S_ : Shape := ⟨0, ![]⟩
abbrev S32x16 : Shape := ⟨2, ![32, 16]⟩
abbrev S32x16x1 : Shape := ⟨3, ![32, 16, 1]⟩
abbrev S1x16x512x1024 : Shape := ⟨4, ![1, 16, 512, 1024]⟩
abbrev S16x512x1024 : Shape := ⟨3, ![16, 512, 1024]⟩
abbrev S32 : Shape := ⟨1, ![32]⟩
abbrev S32x1 : Shape := ⟨2, ![32, 1]⟩

abbrev nBuf : Space → Nat
  | .hbm => 48
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S32x1024, .f32⟩
  | .hbm, ⟨2, _⟩ => ⟨S32x128, .f32⟩
  | .hbm, ⟨3, _⟩ => ⟨S32x1024, .f32⟩
  | .hbm, ⟨4, _⟩ => ⟨S2x16x1024x512, .f32⟩
  | .hbm, ⟨5, _⟩ => ⟨S2x16x1024x512, .f32⟩
  | .hbm, ⟨6, _⟩ => ⟨S2x16x512x1024, .f32⟩
  | .hbm, ⟨7, _⟩ => ⟨S1x1024, .f32⟩
  | .hbm, ⟨8, _⟩ => ⟨S1x16x1024x512, .f32⟩
  | .hbm, ⟨9, _⟩ => ⟨S16x1024x512, .f32⟩
  | .hbm, ⟨10, _⟩ => ⟨S32x16x512, .f32⟩
  | .hbm, ⟨11, _⟩ => ⟨S1x16x1024x512, .f32⟩
  | .hbm, ⟨12, _⟩ => ⟨S16x1024x512, .f32⟩
  | .hbm, ⟨13, _⟩ => ⟨S32x16x512, .f32⟩
  | .hbm, ⟨14, _⟩ => ⟨S32x16x512, .f32⟩
  | .hbm, ⟨15, _⟩ => ⟨S32x16x512, .f32⟩
  | .hbm, ⟨16, _⟩ => ⟨S_, .f32⟩
  | .hbm, ⟨17, _⟩ => ⟨S32x16x512, .f32⟩
  | .hbm, ⟨18, _⟩ => ⟨S32x16x512, .f32⟩
  | .hbm, ⟨19, _⟩ => ⟨S_, .f32⟩
  | .hbm, ⟨20, _⟩ => ⟨S32x16x512, .f32⟩
  | .hbm, ⟨21, _⟩ => ⟨S32x16x512, .f32⟩
  | .hbm, ⟨22, _⟩ => ⟨S32x16x512, .f32⟩
  | .hbm, ⟨23, _⟩ => ⟨S32x16x512, .f32⟩
  | .hbm, ⟨24, _⟩ => ⟨S32x16, .f32⟩
  | .hbm, ⟨25, _⟩ => ⟨S32x16x1, .f32⟩
  | .hbm, ⟨26, _⟩ => ⟨S32x16x512, .f32⟩
  | .hbm, ⟨27, _⟩ => ⟨S32x16x512, .f32⟩
  | .hbm, ⟨28, _⟩ => ⟨S1x16x512x1024, .f32⟩
  | .hbm, ⟨29, _⟩ => ⟨S16x512x1024, .f32⟩
  | .hbm, ⟨30, _⟩ => ⟨S32x1024, .f32⟩
  | .hbm, ⟨31, _⟩ => ⟨S32x1024, .f32⟩
  | .hbm, ⟨32, _⟩ => ⟨S32x1024, .f32⟩
  | .hbm, ⟨33, _⟩ => ⟨S32x1024, .f32⟩
  | .hbm, ⟨34, _⟩ => ⟨S_, .f32⟩
  | .hbm, ⟨35, _⟩ => ⟨S32, .f32⟩
  | .hbm, ⟨36, _⟩ => ⟨S32x1, .f32⟩
  | .hbm, ⟨37, _⟩ => ⟨S_, .f32⟩
  | .hbm, ⟨38, _⟩ => ⟨S32x1, .f32⟩
  | .hbm, ⟨39, _⟩ => ⟨S32x1, .f32⟩
  | .hbm, ⟨40, _⟩ => ⟨S_, .f32⟩
  | .hbm, ⟨41, _⟩ => ⟨S32x1, .f32⟩
  | .hbm, ⟨42, _⟩ => ⟨S32x1, .f32⟩
  | .hbm, ⟨43, _⟩ => ⟨S32x1, .f32⟩
  | .hbm, ⟨44, _⟩ => ⟨S32x1024, .f32⟩
  | .hbm, ⟨45, _⟩ => ⟨S32x1024, .f32⟩
  | .hbm, ⟨46, _⟩ => ⟨S32x1024, .f32⟩
  | .hbm, ⟨47, _⟩ => ⟨S32x1024, .f32⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_call0_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst : Ref sig .tc := ⟨.hbm, 34, rfl⟩
abbrev main_v18 : Ref sig .tc := ⟨.hbm, 35, rfl⟩
abbrev main_v19 : Ref sig .tc := ⟨.hbm, 36, rfl⟩
abbrev main_cst_0 : Ref sig .tc := ⟨.hbm, 37, rfl⟩
abbrev main_v20 : Ref sig .tc := ⟨.hbm, 38, rfl⟩
abbrev main_v21 : Ref sig .tc := ⟨.hbm, 39, rfl⟩
abbrev main_cst_1 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩

abbrev nD : Nat := 1
abbrev τ : Topo := Topo.v7x

variable {F : FTy → Type} [FloatOps F]
-- ==== Kernel7.lean ====
abbrev S40x1024 : Shape := ⟨2, ![40, 1024]⟩
abbrev S2x1024x6144 : Shape := ⟨3, ![2, 1024, 6144]⟩
abbrev S2x6144 : Shape := ⟨2, ![2, 6144]⟩
abbrev S2x1x6144 : Shape := ⟨3, ![2, 1, 6144]⟩
abbrev S2x40x6144 : Shape := ⟨3, ![2, 40, 6144]⟩
abbrev S1x1024x1024 : Shape := ⟨3, ![1, 1024, 1024]⟩
abbrev S1x1x1024 : Shape := ⟨3, ![1, 1, 1024]⟩
abbrev S1x40x1024 : Shape := ⟨3, ![1, 40, 1024]⟩
abbrev S1024x1024 : Shape := ⟨2, ![1024, 1024]⟩
abbrev S1x1024 : Shape := ⟨2, ![1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S40x1024, .f32⟩
  | .hbm, ⟨1, _⟩ => ⟨S2x1024x6144, .f32⟩
  | .hbm, ⟨2, _⟩ => ⟨S2x6144, .f32⟩
  | .hbm, ⟨3, _⟩ => ⟨S2x1x6144, .f32⟩
  | .hbm, ⟨4, _⟩ => ⟨S2x40x6144, .f32⟩
  | .local _ .vmem, ⟨0, _⟩ => ⟨S40x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x40x1024, .f32⟩
  | .local _ .vmem, ⟨6, _⟩ => ⟨S1x40x1024, .f32⟩
  | _, _ => ⟨S40x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S40x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x40x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference7Ideal.lean ====
abbrev S40x1024 : Shape := ⟨2, ![40, 1024]⟩
abbrev S2x1024x6144 : Shape := ⟨3, ![2, 1024, 6144]⟩
abbrev S2x6144 : Shape := ⟨2, ![2, 6144]⟩
abbrev S_ : Shape := ⟨0, ![]⟩
abbrev S1x1024x6144 : Shape := ⟨3, ![1, 1024, 6144]⟩
abbrev S1024x6144 : Shape := ⟨2, ![1024, 6144]⟩
abbrev S40x6144 : Shape := ⟨2, ![40, 6144]⟩
abbrev S1x6144 : Shape := ⟨2, ![1, 6144]⟩
abbrev S6144 : Shape := ⟨1, ![6144]⟩
abbrev S1x40x6144 : Shape := ⟨3, ![1, 40, 6144]⟩
abbrev S2x40x6144 : Shape := ⟨3, ![2, 40, 6144]⟩

abbrev nBuf : Space → Nat
  | .hbm => 40
  | .vmem => 0
  | .smem => 0
  | _ => 0

abbrev bufTy : (tb : Table) → Fin (tcTables nBuf tb) → BufTy
  | .hbm, ⟨0, _⟩ => ⟨S40x1024, .f32⟩
  | .hbm, ⟨1, _⟩ => ⟨S2x1024x6144, .f32⟩
  | .hbm, ⟨2, _⟩ => ⟨S2x6144, .f32⟩
  | .hbm, ⟨3, _⟩ => ⟨S40x1024, .f32⟩
  | .hbm, ⟨4, _⟩ => ⟨S40x1024, .f32⟩
  | .hbm, ⟨5, _⟩ => ⟨S_, .f32⟩
  | .hbm, ⟨6, _⟩ => ⟨S40x1024, .f32⟩
  | .hbm, ⟨7, _⟩ => ⟨S40x1024, .f32⟩
  | .hbm, ⟨8, _⟩ => ⟨S_, .f32⟩
  | .hbm, ⟨9, _⟩ => ⟨S40x1024, .f32⟩
  | .hbm, ⟨10, _⟩ => ⟨S40x1024, .f32⟩
  | .hbm, ⟨11, _⟩ => ⟨S40x1024, .f32⟩
  | .hbm, ⟨12, _⟩ => ⟨S1x1024x6144, .f32⟩
  | .hbm, ⟨13, _⟩ => ⟨S1024x6144, .f32⟩
  | .hbm, ⟨14, _⟩ => ⟨S40x6144, .f32⟩
  | .hbm, ⟨15, _⟩ => ⟨S1x6144, .f32⟩
  | .hbm, ⟨16, _⟩ => ⟨S6144, .f32⟩
  | .hbm, ⟨17, _⟩ => ⟨S1x6144, .f32⟩
  | .hbm, ⟨18, _⟩ => ⟨S40x6144, .f32⟩
  | .hbm, ⟨19, _⟩ => ⟨S40x6144, .f32⟩
  | .hbm, ⟨20, _⟩ => ⟨S40x1024, .f32⟩
  | .hbm, ⟨21, _⟩ => ⟨S40x1024, .f32⟩
  | .hbm, ⟨22, _⟩ => ⟨S_, .f32⟩
  | .hbm, ⟨23, _⟩ => ⟨S40x1024, .f32⟩
  | .hbm, ⟨24, _⟩ => ⟨S40x1024, .f32⟩
  | .hbm, ⟨25, _⟩ => ⟨S_, .f32⟩
  | .hbm, ⟨26, _⟩ => ⟨S40x1024, .f32⟩
  | .hbm, ⟨27, _⟩ => ⟨S40x1024, .f32⟩
  | .hbm, ⟨28, _⟩ => ⟨S40x1024, .f32⟩
  | .hbm, ⟨29, _⟩ => ⟨S1x1024x6144, .f32⟩
  | .hbm, ⟨30, _⟩ => ⟨S1024x6144, .f32⟩
  | .hbm, ⟨31, _⟩ => ⟨S40x6144, .f32⟩
  | .hbm, ⟨32, _⟩ => ⟨S1x6144, .f32⟩
  | .hbm, ⟨33, _⟩ => ⟨S6144, .f32⟩
  | .hbm, ⟨34, _⟩ => ⟨S1x6144, .f32⟩
  | .hbm, ⟨35, _⟩ => ⟨S40x6144, .f32⟩
  | .hbm, ⟨36, _⟩ => ⟨S40x6144, .f32⟩
  | .hbm, ⟨37, _⟩ => ⟨S1x40x6144, .f32⟩
  | .hbm, ⟨38, _⟩ => ⟨S1x40x6144, .f32⟩
  | .hbm, ⟨39, _⟩ => ⟨S2x40x6144, .f32⟩
  | _, _ => ⟨S40x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_call1_v0 : Ref sig .tc := ⟨.hbm, 20, rfl⟩
abbrev main_call1_v1 : Ref sig .tc := ⟨.hbm, 21, rfl⟩
abbrev main_call1_cst : Ref sig .tc := ⟨.hbm, 22, rfl⟩
abbrev main_call1_v2 : Ref sig .tc := ⟨.hbm, 23, rfl⟩
abbrev main_call1_v3 : Ref sig .tc := ⟨.hbm, 24, rfl⟩
abbrev main_call1_cst_0 : Ref sig .tc := ⟨.hbm, 25, rfl⟩
abbrev main_call1_v4 : Ref sig .tc := ⟨.hbm, 26, rfl⟩
abbrev main_call1_v5 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩

abbrev nD : Nat := 1
abbrev τ : Topo := Topo.v7x

variable {F : FTy → Type} [FloatOps F]
-- ==== Kernel8.lean ====
abbrev S16384x1024 : Shape := ⟨2, ![16384, 1024]⟩
abbrev S16384x128 : Shape := ⟨2, ![16384, 128]⟩
abbrev S1x1024 : Shape := ⟨2, ![1, 1024]⟩
abbrev S2x16x1024x512 : Shape := ⟨4, ![2, 16, 1024, 512]⟩
abbrev S2x16x512x1024 : Shape := ⟨4, ![2, 16, 512, 1024]⟩
abbrev S1x16x1024x512 : Shape := ⟨4, ![1, 16, 1024, 512]⟩
abbrev S16x1024x512 : Shape := ⟨3, ![16, 1024, 512]⟩
abbrev S1x16x512x1024 : Shape := ⟨4, ![1, 16, 512, 1024]⟩
abbrev S16x512x1024 : Shape := ⟨3, ![16, 512, 1024]⟩
abbrev S1024x1024 : Shape := ⟨2, ![1024, 1024]⟩
abbrev S1024x128 : Shape := ⟨2, ![1024, 128]⟩
abbrev S1x1024x512 : Shape := ⟨3, ![1, 1024, 512]⟩
abbrev S1x512x1024 : Shape := ⟨3, ![1, 512, 1024]⟩
abbrev S1024 : Shape := ⟨1, ![1024]⟩
abbrev S1024x1 : Shape := ⟨2, ![1024, 1]⟩
abbrev S1024x512 : Shape := ⟨2, ![1024, 512]⟩
abbrev S512x1024 : Shape := ⟨2, ![512, 1024]⟩

abbrev nBuf : Space → Nat
  | .hbm => 18
  | .vmem => 17
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S16384x128, .f32⟩
  | .hbm, ⟨3, _⟩ => ⟨S1x1024, .f32⟩
  | .hbm, ⟨4, _⟩ => ⟨S2x16x1024x512, .f32⟩
  | .hbm, ⟨5, _⟩ => ⟨S2x16x1024x512, .f32⟩
  | .hbm, ⟨6, _⟩ => ⟨S2x16x512x1024, .f32⟩
  | .hbm, ⟨7, _⟩ => ⟨S1x1024, .f32⟩
  | .hbm, ⟨8, _⟩ => ⟨S1x16x1024x512, .f32⟩
  | .hbm, ⟨9, _⟩ => ⟨S16x1024x512, .f32⟩
  | .hbm, ⟨10, _⟩ => ⟨S16x1024x512, .bf16⟩
  | .hbm, ⟨11, _⟩ => ⟨S1x16x1024x512, .f32⟩
  | .hbm, ⟨12, _⟩ => ⟨S16x1024x512, .f32⟩
  | .hbm, ⟨13, _⟩ => ⟨S16x1024x512, .bf16⟩
  | .hbm, ⟨14, _⟩ => ⟨S1x16x512x1024, .f32⟩
  | .hbm, ⟨15, _⟩ => ⟨S16x512x1024, .f32⟩
  | .hbm, ⟨16, _⟩ => ⟨S16x512x1024, .bf16⟩
  | .hbm, ⟨17, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x128, .f32⟩
  | .local _ .vmem, ⟨5, _⟩ => ⟨S1024x128, .f32⟩
  | .local _ .vmem, ⟨6, _⟩ => ⟨S1x1024, .f32⟩
  | .local _ .vmem, ⟨7, _⟩ => ⟨S1x1024x512, .bf16⟩
  | .local _ .vmem, ⟨8, _⟩ => ⟨S1x1024x512, .bf16⟩
  | .local _ .vmem, ⟨9, _⟩ => ⟨S1x1024x512, .bf16⟩
  | .local _ .vmem, ⟨10, _⟩ => ⟨S1x1024x512, .bf16⟩
  | .local _ .vmem, ⟨11, _⟩ => ⟨S1x512x1024, .bf16⟩
  | .local _ .vmem, ⟨12, _⟩ => ⟨S1x512x1024, .bf16⟩
  | .local _ .vmem, ⟨13, _⟩ => ⟨S1x1024, .f32⟩
  | .local _ .vmem, ⟨14, _⟩ => ⟨S1024x1024, .f32⟩
  | .local _ .vmem, ⟨15, _⟩ => ⟨S1024x1024, .f32⟩
  | .local _ .vmem, ⟨16, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![16, 16], ![false, false]⟩

def k0_cond2 (i : grid0.Coords) : BitVec 1 :=
  let arg1 : BitVec 32 := BitVec.ofNat 32 (i 1).val
  let c15_i32 : BitVec 32 := 15#32
  let v32 : BitVec 1 := Scalar.cmpi .eq arg1 c15_i32
  let v33 : BitVec 32 := Scalar.extui v32
  let c0_i32_21 : BitVec 32 := 0#32
  let v34 : BitVec 1 := Scalar.cmpi .ne v33 c0_i32_21
  v34

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Reference8Ideal.lean ====
abbrev S16384x1024 : Shape := ⟨2, ![16384, 1024]⟩
abbrev S16384x128 : Shape := ⟨2, ![16384, 128]⟩
abbrev S1x1024 : Shape := ⟨2, ![1, 1024]⟩
abbrev S2x16x1024x512 : Shape := ⟨4, ![2, 16, 1024, 512]⟩
abbrev S2x16x512x1024 : Shape := ⟨4, ![2, 16, 512, 1024]⟩
abbrev S1x16x1024x512 : Shape := ⟨4, ![1, 16, 1024, 512]⟩
abbrev S16x1024x512 : Shape := ⟨3, ![16, 1024, 512]⟩
abbrev S16384x16x512 : Shape := ⟨3, ![16384, 16, 512]⟩
abbrev S_ : Shape := ⟨0, ![]⟩
abbrev S16384x16 : Shape := ⟨2, ![16384, 16]⟩
abbrev S16384x16x1 : Shape := ⟨3, ![16384, 16, 1]⟩
abbrev S1x16x512x1024 : Shape := ⟨4, ![1, 16, 512, 1024]⟩
abbrev S16x512x1024 : Shape := ⟨3, ![16, 512, 1024]⟩
abbrev S16384 : Shape := ⟨1, ![16384]⟩
abbrev S16384x1 : Shape := ⟨2, ![16384, 1]⟩

abbrev nBuf : Space → Nat
  | .hbm => 50
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S16384x128, .f32⟩
  | .hbm, ⟨3, _⟩ => ⟨S1x1024, .f32⟩
  | .hbm, ⟨4, _⟩ => ⟨S2x16x1024x512, .f32⟩
  | .hbm, ⟨5, _⟩ => ⟨S2x16x1024x512, .f32⟩
  | .hbm, ⟨6, _⟩ => ⟨S2x16x512x1024, .f32⟩
  | .hbm, ⟨7, _⟩ => ⟨S1x1024, .f32⟩
  | .hbm, ⟨8, _⟩ => ⟨S16384x1024, .f32⟩
  | .hbm, ⟨9, _⟩ => ⟨S1x16x1024x512, .f32⟩
  | .hbm, ⟨10, _⟩ => ⟨S16x1024x512, .f32⟩
  | .hbm, ⟨11, _⟩ => ⟨S16384x16x512, .f32⟩
  | .hbm, ⟨12, _⟩ => ⟨S1x16x1024x512, .f32⟩
  | .hbm, ⟨13, _⟩ => ⟨S16x1024x512, .f32⟩
  | .hbm, ⟨14, _⟩ => ⟨S16384x16x512, .f32⟩
  | .hbm, ⟨15, _⟩ => ⟨S16384x16x512, .f32⟩
  | .hbm, ⟨16, _⟩ => ⟨S16384x16x512, .f32⟩
  | .hbm, ⟨17, _⟩ => ⟨S_, .f32⟩
  | .hbm, ⟨18, _⟩ => ⟨S16384x16x512, .f32⟩
  | .hbm, ⟨19, _⟩ => ⟨S16384x16x512, .f32⟩
  | .hbm, ⟨20, _⟩ => ⟨S_, .f32⟩
  | .hbm, ⟨21, _⟩ => ⟨S16384x16x512, .f32⟩
  | .hbm, ⟨22, _⟩ => ⟨S16384x16x512, .f32⟩
  | .hbm, ⟨23, _⟩ => ⟨S16384x16x512, .f32⟩
  | .hbm, ⟨24, _⟩ => ⟨S16384x16x512, .f32⟩
  | .hbm, ⟨25, _⟩ => ⟨S16384x16, .f32⟩
  | .hbm, ⟨26, _⟩ => ⟨S16384x16x1, .f32⟩
  | .hbm, ⟨27, _⟩ => ⟨S16384x16x512, .f32⟩
  | .hbm, ⟨28, _⟩ => ⟨S16384x16x512, .f32⟩
  | .hbm, ⟨29, _⟩ => ⟨S1x16x512x1024, .f32⟩
  | .hbm, ⟨30, _⟩ => ⟨S16x512x1024, .f32⟩
  | .hbm, ⟨31, _⟩ => ⟨S16384x1024, .f32⟩
  | .hbm, ⟨32, _⟩ => ⟨S16384x1024, .f32⟩
  | .hbm, ⟨33, _⟩ => ⟨S16384x1024, .f32⟩
  | .hbm, ⟨34, _⟩ => ⟨S16384x1024, .f32⟩
  | .hbm, ⟨35, _⟩ => ⟨S16384x1024, .f32⟩
  | .hbm, ⟨36, _⟩ => ⟨S_, .f32⟩
  | .hbm, ⟨37, _⟩ => ⟨S16384, .f32⟩
  | .hbm, ⟨38, _⟩ => ⟨S16384x1, .f32⟩
  | .hbm, ⟨39, _⟩ => ⟨S_, .f32⟩
  | .hbm, ⟨40, _⟩ => ⟨S16384x1, .f32⟩
  | .hbm, ⟨41, _⟩ => ⟨S16384x1, .f32⟩
  | .hbm, ⟨42, _⟩ => ⟨S_, .f32⟩
  | .hbm, ⟨43, _⟩ => ⟨S16384x1, .f32⟩
  | .hbm, ⟨44, _⟩ => ⟨S16384x1, .f32⟩
  | .hbm, ⟨45, _⟩ => ⟨S16384x1, .f32⟩
  | .hbm, ⟨46, _⟩ => ⟨S16384x1024, .f32⟩
  | .hbm, ⟨47, _⟩ => ⟨S16384x1024, .f32⟩
  | .hbm, ⟨48, _⟩ => ⟨S16384x1024, .f32⟩
  | .hbm, ⟨49, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_call0_v0 : Ref sig .tc := ⟨.hbm, 15, rfl⟩
abbrev main_call0_v1 : Ref sig .tc := ⟨.hbm, 16, rfl⟩
abbrev main_call0_cst : Ref sig .tc := ⟨.hbm, 17, rfl⟩
abbrev main_call0_v2 : Ref sig .tc := ⟨.hbm, 18, rfl⟩
abbrev main_call0_v3 : Ref sig .tc := ⟨.hbm, 19, rfl⟩
abbrev main_call0_cst_0 : Ref sig .tc := ⟨.hbm, 20, rfl⟩
abbrev main_call0_v4 : Ref sig .tc := ⟨.hbm, 21, rfl⟩
abbrev main_call0_v5 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst : Ref sig .tc := ⟨.hbm, 36, rfl⟩
abbrev main_v20 : Ref sig .tc := ⟨.hbm, 37, rfl⟩
abbrev main_v21 : Ref sig .tc := ⟨.hbm, 38, rfl⟩
abbrev main_cst_0 : Ref sig .tc := ⟨.hbm, 39, rfl⟩
abbrev main_v22 : Ref sig .tc := ⟨.hbm, 40, rfl⟩
abbrev main_v23 : Ref sig .tc := ⟨.hbm, 41, rfl⟩
abbrev main_cst_1 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩

abbrev nD : Nat := 1
abbrev τ : Topo := Topo.v7x

variable {F : FTy → Type} [FloatOps F]
-- ==== Proof.Recurrence.lean ====
module

public import Mathlib.Analysis.SpecialFunctions.Exp
public import Mathlib.Data.EReal.Operations

@[expose] public section

namespace Cert.Recurrence
open Finset

/-- A finite sum of finite extended reals is the extended real of their sum. -/
theorem coe_sum {ι : Type} (s : Finset ι) (f : ι → ℝ) : (∑ i ∈ s, (f i : EReal)) = ((∑ i ∈ s, f i : ℝ) : EReal) := by
  classical
  induction s using Finset.induction_on with
  | empty => simp
  | insert a s ha ih => rw [sum_insert ha, sum_insert ha, ih, EReal.coe_add]

/-- One element of the recurrent state after `N` rows: the rows' products, each decayed by its age. -/
noncomputable def stR (g : ℝ) (kv : ℕ → ℝ) (N : ℕ) : ℝ := ∑ m ∈ range N, g ^ (N - 1 - m) * kv m

/-- One element of the retention of row `n`: the scores of all rows up to `n`, each decayed by its distance. -/
noncomputable def oR (g : ℝ) (s : ℕ → ℝ) (v : ℕ → ℝ) (n : ℕ) : ℝ := ∑ m ∈ range (n + 1), g ^ (n - m) * (s m * v m)

theorem stR_zero (g : ℝ) (kv : ℕ → ℝ) : stR g kv 0 = 0 := by simp [stR]

/-- The state after one more chunk of `C` rows. -/
theorem stR_add (g : ℝ) (kv : ℕ → ℝ) (N C : ℕ) :
    g ^ C * stR g kv N + ∑ m ∈ range C, g ^ (C - 1 - m) * kv (N + m) = stR g kv (N + C) := by
  unfold stR
  rw [sum_range_add (fun m => g ^ (N + C - 1 - m) * kv m) N C, mul_sum]
  congr 1
  · refine sum_congr rfl fun m hm => ?_
    have := mem_range.mp hm
    rw [← mul_assoc, ← pow_add]; congr 2; omega
  · refine sum_congr rfl fun m hm => ?_
    have := mem_range.mp hm
    congr 2; omega

/-- The retention of row `N + r` of a chunk that starts at row `N`: the chunk's own rows and the state that enters it. -/
theorem oR_chunk {D : ℕ} (g : ℝ) (q : Fin D → ℝ) (k : ℕ → Fin D → ℝ) (v : ℕ → ℝ) (N C r : ℕ) (hr : r < C) :
    (∑ m ∈ range C, (∑ d, q d * k (N + m) d) * (if m ≤ r then g ^ (r - m) else 0) * v (N + m))
      + (∑ d, q d * stR g (fun m => k m d * v m) N) * g ^ (r + 1) = oR g (fun m => ∑ d, q d * k m d) v (N + r) := by
  have h1 : (∑ m ∈ range C, (∑ d, q d * k (N + m) d) * (if m ≤ r then g ^ (r - m) else 0) * v (N + m))
      = ∑ m ∈ range (r + 1), g ^ (r - m) * ((∑ d, q d * k (N + m) d) * v (N + m)) := by
    have : C = (r + 1) + (C - (r + 1)) := by omega
    rw [this, sum_range_add, add_eq_left.mpr]
    · refine sum_congr rfl fun m hm => ?_
      have := mem_range.mp hm
      rw [if_pos (by omega)]; ring
    · refine sum_eq_zero fun m hm => ?_
      rw [if_neg (by omega)]; simp
  have h2 : (∑ d, q d * stR g (fun m => k m d * v m) N) * g ^ (r + 1)
      = ∑ m ∈ range N, g ^ (N + r - m) * ((∑ d, q d * k m d) * v m) := by
    unfold stR
    simp_rw [mul_sum]
    rw [sum_comm, sum_mul]
    refine sum_congr rfl fun m hm => ?_
    have := mem_range.mp hm
    rw [sum_mul, sum_mul, mul_sum]
    refine sum_congr rfl fun d _ => ?_
    have e : N + r - m = (N - 1 - m) + (r + 1) := by omega
    rw [e, pow_add]; ring
  rw [h1, h2, oR, add_assoc, sum_range_add (fun m => g ^ (N + r - m) * ((∑ d, q d * k m d) * v m)) N (r + 1), add_comm]
  congr 1
  refine sum_congr rfl fun m hm => ?_
  congr 2; omega

/-- The lane `d` of the head that lane `l` of a pair of heads lies in. -/
def lane (l : Fin 128) (d : Fin 64) : Fin 128 := ⟨64 * (l.val / 64) + d.val, by omega⟩

theorem lane_div (l : Fin 128) (d : Fin 64) : (lane l d).val / 64 = l.val / 64 := by simp only [lane]; omega

theorem lane_lane (l : Fin 128) (d d' : Fin 64) : lane (lane l d) d' = lane l d' := by
  simp only [lane, Fin.mk.injEq]; omega

theorem lane_self (l : Fin 128) : lane l ⟨l.val % 64, by omega⟩ = l := by
  simp only [lane, Fin.ext_iff]; omega

/-- A sum over the lanes of a pair of heads that keeps one head's lanes is the sum over that head's lanes. -/
theorem head_sum (l : Fin 128) (f : Fin 128 → ℝ) :
    (∑ x : Fin 128, if x.val / 64 = l.val / 64 then f x else 0) = ∑ d : Fin 64, f (lane l d) := by
  rw [Fin.sum_univ_add (a := 64) (b := 64) (fun x : Fin 128 => if x.val / 64 = l.val / 64 then f x else 0)]
  have h : l.val / 64 = 0 ∨ l.val / 64 = 1 := by omega
  rcases h with h | h
  · rw [add_eq_left.mpr]
    · refine sum_congr rfl fun d _ => ?_
      rw [if_pos (by simp only [Fin.val_castAdd]; omega)]
      congr 1; simp only [lane, Fin.ext_iff, Fin.val_castAdd]; omega
    · refine sum_eq_zero fun d _ => ?_
      rw [if_neg (by simp only [Fin.val_natAdd]; omega)]
  · rw [add_eq_right.mpr]
    · refine sum_congr rfl fun d _ => ?_
      rw [if_pos (by simp only [Fin.val_natAdd]; omega)]
      congr 1; simp only [lane, Fin.ext_iff, Fin.val_natAdd]; omega
    · refine sum_eq_zero fun d _ => ?_
      rw [if_neg (by simp only [Fin.val_castAdd]; omega)]

theorem lane_val (l : Fin 128) (d : Fin 64) : (lane l d).val = 64 * (l.val / 64) + d.val := rfl

/-- The mean over a head's values. -/
noncomputable def mean64 (f : Fin 64 → ℝ) : ℝ := (∑ d, f d) * (1 / 64)

/-- The variance over a head's values. -/
noncomputable def var64 (f : Fin 64 → ℝ) : ℝ := (∑ d, (f d - mean64 f) * (f d - mean64 f)) * (1 / 64)

end Cert.Recurrence
end
-- ==== Proof.Pair.lean ====
module

public import proofs.«01_k».proof.Proof.Gen.KernelIdeal.Frame
public import Idealize.ShloMosaic.Lib.Pipeline.ValueKit
public import Idealize.ShloMosaic.Lib.Pointwise
public import proofs.«01_k».proof.Proof.Recurrence

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen Cert.Recurrence Finset

/-- What one pair of heads leaves in its columns of the output block. -/
def OUTP (q k v : FVec Ideal S256x128 .bf16) (st : FVec Ideal S1x128x128 .f32) (xi : FVec Ideal S256x128 .f32)
    (d0 d1 : FVec Ideal S1x256x256 .f32) (avg : FVec Ideal S128x128 .f32) (rg : FVec Ideal S256x128 .f32) : FVec Ideal S256x128 .bf16 :=
  k0_pay18 (k0_pay8 avg) (k0_pay15 q k v (k0_pay10 q st xi)
    (k0_pay13 q k v (iota Kind.tc S256x128 32 [1] iota_S256x128_d1_w32) (64#32) k0_pay11 k0_pay12 d0) k0_pay14 (1#32) d1) rg

/-- What one pair of heads leaves in its slab of the state. -/
def STP (k v : FVec Ideal S256x128 .bf16) (st : FVec Ideal S1x128x128 .f32) (zeta : FVec Ideal S256x128 .f32)
    (gc : FVec Ideal S1x128 .f32) : FVec Ideal S1x128x128 .f32 :=
  k0_pay17 (k0_pay7 (iota Kind.tc S128x128 32 [1] iota_S128x128_d1_w32) k0_pay3 (64#32) k0_pay4 k0_pay5 k0_pay6) v
    (k0_pay9 st) (k0_pay16 k zeta) gc

/-- The integer quotient by 64 as it is printed, on a lane's number. -/
theorem fdiv64 : ∀ a : Fin 128, Scalar.select
            (IntOp.andi
              (IntOp.cmpi CmpIPredicate.ne
                (IntOp.subi (BitVec.setWidth 32 (IntOp.cmpi CmpIPredicate.sgt (BitVec.ofNat 32 ↑a) 0#32))
                  (BitVec.setWidth 32 (IntOp.cmpi CmpIPredicate.slt (BitVec.ofNat 32 ↑a) 0#32)))
                (Scalar.subi (Scalar.extui (Scalar.cmpi CmpIPredicate.sgt 64#32 0#32))
                  (Scalar.extui (Scalar.cmpi CmpIPredicate.slt 64#32 0#32))))
              (IntOp.cmpi CmpIPredicate.ne (IntOp.remsi ArithUnit.vector (BitVec.ofNat 32 ↑a) 64#32) 0#32))
            (IntOp.subi (IntOp.divsi ArithUnit.vector (BitVec.ofNat 32 ↑a) 64#32) 1#32)
            (IntOp.divsi ArithUnit.vector (BitVec.ofNat 32 ↑a) 64#32) = BitVec.ofNat 32 (a.val / 64) := by decide +kernel

theorem eq64 : ∀ a b : Fin 128, IntOp.cmpi CmpIPredicate.eq (BitVec.ofNat 32 (a.val / 64)) (BitVec.ofNat 32 (b.val / 64)) = BitVec.ofBool (decide (a.val / 64 = b.val / 64)) := by decide +kernel
theorem eq64_0 : ∀ a : Fin 128, IntOp.cmpi CmpIPredicate.eq (BitVec.ofNat 32 (a.val / 64)) 0#32 = BitVec.ofBool (decide (a.val / 64 = 0)) := by decide +kernel
theorem eq64_1 : ∀ a : Fin 128, IntOp.cmpi CmpIPredicate.eq (BitVec.ofNat 32 (a.val / 64)) 1#32 = BitVec.ofBool (decide (a.val / 64 = 1)) := by decide +kernel

theorem sel_bool {α : Type} (p : Prop) [Decidable p] (x y : α) : Scalar.select (BitVec.ofBool (decide p)) x y = if p then x else y := by
  by_cases h : p <;> simp [h, Scalar.select]

theorem stp_apply (k v : FVec Ideal S256x128 .bf16) (st : FVec Ideal S1x128x128 .f32) (zeta : FVec Ideal S256x128 .f32)
    (gc : FVec Ideal S1x128 .f32) (a b : Fin 128) : STP k v st zeta gc (ix3 0 a b) =
      gc (ix2 0 b) * st (ix3 0 a b) + if a.val / 64 = b.val / 64 then ∑ x : Fin 256, k (ix2 x a) * zeta (ix2 x a) * v (ix2 x b) else 0 := by
  unfold STP
  unfold_payloads
  pointwise
  simp only [fdiv64, eq64, sel_bool]

/-- The retention of one row at one lane, before the norm: the chunk's own scores by the lane's head, and the carried state. -/
def oraw (q k v : FVec Ideal S256x128 .bf16) (st : FVec Ideal S1x128x128 .f32) (xi : FVec Ideal S256x128 .f32)
    (d0 d1 : FVec Ideal S1x256x256 .f32) (r : Fin 256) (l : Fin 128) : Ideal .f32 :=
  (if l.val / 64 = 0 then
      ∑ m : Fin 256, (∑ x : Fin 128, if x.val / 64 = 0 then q (ix2 r x) * k (ix2 m x) else 0) * d0 (ix3 0 r m) * v (ix2 m l)
    else
      ∑ m : Fin 256, (∑ x : Fin 128, if x.val / 64 = 1 then q (ix2 r x) * k (ix2 m x) else 0) * d1 (ix3 0 r m) * v (ix2 m l)) +
    (∑ x : Fin 128, q (ix2 r x) * st (ix3 0 x l)) * xi (ix2 r l)

theorem oraw_def (q k v : FVec Ideal S256x128 .bf16) (st : FVec Ideal S1x128x128 .f32) (xi : FVec Ideal S256x128 .f32)
    (d0 d1 : FVec Ideal S1x256x256 .f32) (r : Fin 256) (l : Fin 128) : (if l.val / 64 = 0 then
      ∑ m : Fin 256, (∑ x : Fin 128, if x.val / 64 = 0 then q (ix2 r x) * k (ix2 m x) else 0) * d0 (ix3 0 r m) * v (ix2 m l)
    else
      ∑ m : Fin 256, (∑ x : Fin 128, if x.val / 64 = 1 then q (ix2 r x) * k (ix2 m x) else 0) * d1 (ix3 0 r m) * v (ix2 m l)) +
    (∑ x : Fin 128, q (ix2 r x) * st (ix3 0 x l)) * xi (ix2 r l) = oraw q k v st xi d0 d1 r l := rfl

/-- A head's values normed: less their mean, times the reciprocal root of their variance and the printed constant. -/
def hnorm (f : Fin 64 → ℝ) (e : Fin 64) : EReal :=
  ((f e - mean64 f : ℝ) : EReal) * Ideal.rsqrt (((var64 f : ℝ) : EReal) + Ideal.ofBits FTy.f32 897988541#32)

/-- The unnormed retention of a row at a lane, over the reals. -/
def orawR (Q K V S : Fin 256 → Fin 128 → ℝ) (T : Fin 128 → Fin 128 → ℝ) (D : ℕ → Fin 256 → Fin 256 → ℝ) (XI : Fin 256 → Fin 128 → ℝ)
    (r : Fin 256) (l : Fin 128) : ℝ :=
  ∑ m : Fin 256, (∑ d : Fin 64, Q r (lane l d) * K m (lane l d)) * D (l.val / 64) r m * V m l
    + (∑ d : Fin 64, Q r (lane l d) * T (lane l d) l) * XI r l

theorem oraw_real (q k v : FVec Ideal S256x128 .bf16) (st : FVec Ideal S1x128x128 .f32) (xi : FVec Ideal S256x128 .f32)
    (d0 d1 : FVec Ideal S1x256x256 .f32) (Q K V : Fin 256 → Fin 128 → ℝ) (T : Fin 128 → Fin 128 → ℝ) (D : ℕ → Fin 256 → Fin 256 → ℝ)
    (XI : Fin 256 → Fin 128 → ℝ) (hq : ∀ r x, q (ix2 r x) = ((Q r x : ℝ) : EReal)) (hk : ∀ r x, k (ix2 r x) = ((K r x : ℝ) : EReal))
    (hv : ∀ r x, v (ix2 r x) = ((V r x : ℝ) : EReal))
    (hst : ∀ x l : Fin 128, st (ix3 0 x l) = ((if x.val / 64 = l.val / 64 then T x l else 0 : ℝ) : EReal))
    (hxi : ∀ r l, xi (ix2 r l) = ((XI r l : ℝ) : EReal))
    (hd0 : ∀ r m, d0 (ix3 0 r m) = ((D 0 r m : ℝ) : EReal)) (hd1 : ∀ r m, d1 (ix3 0 r m) = ((D 1 r m : ℝ) : EReal))
    (r : Fin 256) (l : Fin 128) : oraw q k v st xi d0 d1 r l = ((orawR Q K V Q T D XI r l : ℝ) : EReal) := by
  have hz : ∀ (p : Prop) [Decidable p] (x : ℝ), (if p then (x : EReal) else 0) = ((if p then x else 0 : ℝ) : EReal) := by
    intro p _ x; split <;> simp
  have hl : l.val / 64 = 0 ∨ l.val / 64 = 1 := by omega
  unfold oraw orawR
  simp only [hq, hk, hv, hst, hxi, hd0, hd1, ← EReal.coe_mul, hz, coe_sum, mul_ite, mul_zero]
  rw [head_sum l fun x => Q r x * T x l]
  rcases hl with hl | hl
  · have hs : ∀ f : Fin 128 → ℝ, (∑ x : Fin 128, if x.val / 64 = 0 then f x else 0) = ∑ d : Fin 64, f (lane l d) := by
      intro f; rw [← head_sum l f]; simp only [hl]
    rw [if_pos hl, hl, ← EReal.coe_add]
    simp only [hs fun x => Q r x * K _ x]
  · have hs : ∀ f : Fin 128 → ℝ, (∑ x : Fin 128, if x.val / 64 = 1 then f x else 0) = ∑ d : Fin 64, f (lane l d) := by
      intro f; rw [← head_sum l f]; simp only [hl]
    rw [if_neg (by omega), hl, ← EReal.coe_add]
    simp only [hs fun x => Q r x * K _ x]

theorem outp_apply (q k v : FVec Ideal S256x128 .bf16) (st : FVec Ideal S1x128x128 .f32) (xi : FVec Ideal S256x128 .f32)
    (d0 d1 : FVec Ideal S1x256x256 .f32) (avg : FVec Ideal S128x128 .f32) (rg : FVec Ideal S256x128 .f32) (r : Fin 256) (l : Fin 128)
    (f : Fin 128 → ℝ) (hf : ∀ x, oraw q k v st xi d0 d1 r x = ((f x : ℝ) : EReal))
    (ha : ∀ x l : Fin 128, avg (ix2 x l) = ((if x.val / 64 = l.val / 64 then 1 / 64 else 0 : ℝ) : EReal)) :
    OUTP q k v st xi d0 d1 avg rg (ix2 r l) = rg (ix2 r l) * Ideal.logistic (rg (ix2 r l)) * hnorm (fun d => f (lane l d)) ⟨l.val % 64, by omega⟩ := by
  unfold OUTP
  unfold_payloads
  pointwise
  simp only [fdiv64, eq64_0, eq64_1, sel_bool]
  simp only [oraw_def q k v st xi d0 d1]
  generalize oraw q k v st xi d0 d1 = F at hf ⊢
  simp only [hf, ha, ← EReal.coe_mul, ← EReal.coe_sub, ← EReal.coe_add, coe_sum, sub_self, zero_mul, sum_const_zero, add_zero, mul_ite, mul_zero]
  have hm : ∀ l, (∑ x : Fin 128, if x.val / 64 = l.val / 64 then f x * (1 / 64) else 0) = mean64 (fun d => f (lane l d)) := by
    intro l
    rw [head_sum l fun x => f x * (1 / 64), mean64, sum_mul]
  have hs := head_sum l
  have hml : ∀ d, mean64 (fun d' => f (lane (lane l d) d')) = mean64 (fun d' => f (lane l d')) := by
    intro d; simp only [lane_lane]
  simp only [hm, hs, hml, ite_self, sum_const_zero, add_zero]
  rw [hnorm, lane_self, var64, sum_mul]
end Cert.KernelIdeal.Value
end
-- ==== Proof.Out.lean ====
module

public import proofs.«01_k».proof.Proof.Gen.KernelIdeal.Frame
public import Idealize.ShloMosaic.Lib.Pipeline.ValueKit
public import Idealize.ShloMosaic.Lib.Pointwise
public import proofs.«01_k».proof.Proof.Pair
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen Cert.Recurrence Finset

/-- One pair's columns of a block. -/
def cols {e : EltTy} (x : Vec Ideal S256x512 e) (p : Fin 4) : Vec Ideal S256x128 e := fun j =>
  x (ix2 (j 0) ⟨128 * p.val + (j 1).val, by have h : (j 1).val < 128 := (j 1).isLt; omega⟩)

/-- One pair's columns of a row. -/
def rcols {e : EltTy} (x : Vec Ideal S1x512 e) (p : Fin 4) : Vec Ideal S1x128 e := fun j =>
  x (ix2 0 ⟨128 * p.val + (j 1).val, by have h : (j 1).val < 128 := (j 1).isLt; omega⟩)

/-- One pair's slab of the state. -/
def slab {e : EltTy} (x : Vec Ideal S4x128x128 e) (p : Fin 4) : Vec Ideal S1x128x128 e := fun j => x (ix3 p (j 1) (j 2))

/-- One head's table of decays. -/
def dec {e : EltTy} (x : Vec Ideal S8x256x256 e) (p : Fin 8) : Vec Ideal S1x256x256 e := fun j => x (ix3 p (j 1) (j 2))

theorem ld_cols0 {e : EltTy} (x : Vec Ideal S256x512 e) (h) : View.ld x (Rect.unit ![0, 0] ![256, 128] h) = cols x 0 := by
  funext j
  pointwise
  exact congrArg (fun k => x (ix2 (j 0) k)) (Fin.ext (by change (j 1).val = 128 * 0 + (j 1).val; omega))

theorem ld_rcols0 {e : EltTy} (x : Vec Ideal S1x512 e) (h) : View.ld x (Rect.unit ![0, 0] ![1, 128] h) = rcols x 0 := by
  funext j
  pointwise
  exact congrArg (fun k => x (ix2 0 k)) (Fin.ext (by change (j 1).val = 128 * 0 + (j 1).val; omega))

theorem ld_slab0 {e : EltTy} (x : Vec Ideal S4x128x128 e) (h) : View.ld x (Rect.unit ![0, 0, 0] ![1, 128, 128] h) = slab x 0 := by
  funext j
  pointwise
  rfl

theorem ld_cols1 {e : EltTy} (x : Vec Ideal S256x512 e) (h) : View.ld x (Rect.unit ![0, 128] ![256, 128] h) = cols x 1 := by
  funext j
  pointwise
  rfl

theorem ld_rcols1 {e : EltTy} (x : Vec Ideal S1x512 e) (h) : View.ld x (Rect.unit ![0, 128] ![1, 128] h) = rcols x 1 := by
  funext j
  pointwise
  rfl

theorem ld_slab1 {e : EltTy} (x : Vec Ideal S4x128x128 e) (h) : View.ld x (Rect.unit ![1, 0, 0] ![1, 128, 128] h) = slab x 1 := by
  funext j
  pointwise
  rfl

theorem ld_cols2 {e : EltTy} (x : Vec Ideal S256x512 e) (h) : View.ld x (Rect.unit ![0, 256] ![256, 128] h) = cols x 2 := by
  funext j
  pointwise
  rfl

theorem ld_rcols2 {e : EltTy} (x : Vec Ideal S1x512 e) (h) : View.ld x (Rect.unit ![0, 256] ![1, 128] h) = rcols x 2 := by
  funext j
  pointwise
  rfl

theorem ld_slab2 {e : EltTy} (x : Vec Ideal S4x128x128 e) (h) : View.ld x (Rect.unit ![2, 0, 0] ![1, 128, 128] h) = slab x 2 := by
  funext j
  pointwise
  rfl

theorem ld_cols3 {e : EltTy} (x : Vec Ideal S256x512 e) (h) : View.ld x (Rect.unit ![0, 384] ![256, 128] h) = cols x 3 := by
  funext j
  pointwise
  rfl

theorem ld_rcols3 {e : EltTy} (x : Vec Ideal S1x512 e) (h) : View.ld x (Rect.unit ![0, 384] ![1, 128] h) = rcols x 3 := by
  funext j
  pointwise
  rfl

theorem ld_slab3 {e : EltTy} (x : Vec Ideal S4x128x128 e) (h) : View.ld x (Rect.unit ![3, 0, 0] ![1, 128, 128] h) = slab x 3 := by
  funext j
  pointwise
  rfl

theorem ld_dec0 {e : EltTy} (x : Vec Ideal S8x256x256 e) (h) : View.ld x (Rect.unit ![0, 0, 0] ![1, 256, 256] h) = dec x 0 := by
  funext j
  pointwise
  rfl

theorem ld_dec1 {e : EltTy} (x : Vec Ideal S8x256x256 e) (h) : View.ld x (Rect.unit ![1, 0, 0] ![1, 256, 256] h) = dec x 1 := by
  funext j
  pointwise
  rfl

theorem ld_dec2 {e : EltTy} (x : Vec Ideal S8x256x256 e) (h) : View.ld x (Rect.unit ![2, 0, 0] ![1, 256, 256] h) = dec x 2 := by
  funext j
  pointwise
  rfl

theorem ld_dec3 {e : EltTy} (x : Vec Ideal S8x256x256 e) (h) : View.ld x (Rect.unit ![3, 0, 0] ![1, 256, 256] h) = dec x 3 := by
  funext j
  pointwise
  rfl

theorem ld_dec4 {e : EltTy} (x : Vec Ideal S8x256x256 e) (h) : View.ld x (Rect.unit ![4, 0, 0] ![1, 256, 256] h) = dec x 4 := by
  funext j
  pointwise
  rfl

theorem ld_dec5 {e : EltTy} (x : Vec Ideal S8x256x256 e) (h) : View.ld x (Rect.unit ![5, 0, 0] ![1, 256, 256] h) = dec x 5 := by
  funext j
  pointwise
  rfl

theorem ld_dec6 {e : EltTy} (x : Vec Ideal S8x256x256 e) (h) : View.ld x (Rect.unit ![6, 0, 0] ![1, 256, 256] h) = dec x 6 := by
  funext j
  pointwise
  rfl

theorem ld_dec7 {e : EltTy} (x : Vec Ideal S8x256x256 e) (h) : View.ld x (Rect.unit ![7, 0, 0] ![1, 256, 256] h) = dec x 7 := by
  funext j
  pointwise
  rfl

theorem pair_idx (x : S256x128.Idx) (r : Fin 256) (l : Fin 128) (h0 : r.val = (x 0).val) (h1 : l.val = (x 1).val) : x = ix2 r l := by
  funext k; fin_cases k
  · exact Fin.ext h0.symm
  · exact Fin.ext h1.symm

theorem slab_idx (x : S1x128x128.Idx) (a b : Fin 128) (h1 : a.val = (x 1).val) (h2 : b.val = (x 2).val) : x = ix3 0 a b := by
  funext k; fin_cases k
  · exact Subsingleton.elim (α := Fin 1) _ _
  · exact Fin.ext h1.symm
  · exact Fin.ext h2.symm

theorem out_B (c : Dev nD) (i : grid0.Coords) (a1 : Memref sig .tc .vmem S256x512 .bf16) (h1 : a1.IsWhole) (a2 : Memref sig .tc .vmem S256x512 .bf16) (h2 : a2.IsWhole) (a3 : Memref sig .tc .vmem S256x512 .bf16) (h3 : a3.IsWhole) (a4 : Memref sig .tc .vmem S256x512 .f32) (h4 : a4.IsWhole) (a5 : Memref sig .tc .vmem S8x256x256 .f32) (h5 : a5.IsWhole) (a6 : Memref sig .tc .vmem S256x512 .f32) (h6 : a6.IsWhole) (a7 : Memref sig .tc .vmem S256x512 .f32) (h7 : a7.IsWhole) (a8 : Memref sig .tc .vmem S1x512 .f32) (h8 : a8.IsWhole) (a9 : Memref sig .tc .vmem S128x128 .f32) (h9 : a9.IsWhole) (a10 : Memref sig .tc .vmem S256x512 .bf16) (h10 : a10.IsWhole) (a11 : Memref sig .tc .vmem S4x128x128 .f32) (h11 : a11.IsWhole) (hc0 : ¬cond0_0 i)
    (x0 : Vec Ideal S256x512 .bf16) (x1 : Vec Ideal S256x512 .bf16) (x2 : Vec Ideal S256x512 .bf16) (x3 : Vec Ideal S256x512 .f32) (x4 : Vec Ideal S8x256x256 .f32) (x5 : Vec Ideal S256x512 .f32) (x6 : Vec Ideal S256x512 .f32) (x7 : Vec Ideal S1x512 .f32) (x8 : Vec Ideal S128x128 .f32) (xo10 : Vec Ideal S4x128x128 .f32) (p : Fin 4) (r : Fin 256) (l : Fin 128) :
    out0_B_9 c i a1 h1 a2 h2 a3 h3 a4 h4 a5 h5 a6 h6 a7 h7 a8 h8 a9 h9 a10 h10 a11 h11 hc0 x0 x1 x2 x3 x4 x5 x6 x7 x8 xo10 (ix2 r ⟨128 * p.val + l.val, by omega⟩) =
      OUTP (cols x0 p) (cols x1 p) (cols x2 p) (slab xo10 p) (cols x5 p) (dec x4 ⟨2 * p.val, by omega⟩) (dec x4 ⟨2 * p.val + 1, by omega⟩)
        x8 (cols x3 p) (ix2 r l) := by
  frame_out
  canon_tiles x h
  · obtain rfl : p = 3 := Fin.ext (by change 128 * p.val + l.val = _ at h1; change p.val = 3; omega)
    obtain rfl : x = ix2 r l := pair_idx x r l h0 (by change 128 * 3 + l.val = _ at h1; omega)
    simp only [ld_cols0, ld_cols1, ld_cols2, ld_cols3, ld_rcols0, ld_rcols1, ld_rcols2, ld_rcols3, ld_slab0, ld_slab1, ld_slab2, ld_slab3, ld_dec0, ld_dec1, ld_dec2, ld_dec3, ld_dec4, ld_dec5, ld_dec6, ld_dec7]
    rfl
  · obtain rfl : p = 2 := Fin.ext (by change 128 * p.val + l.val = _ at h1; change p.val = 2; omega)
    obtain rfl : x = ix2 r l := pair_idx x r l h0 (by change 128 * 2 + l.val = _ at h1; omega)
    simp only [ld_cols0, ld_cols1, ld_cols2, ld_cols3, ld_rcols0, ld_rcols1, ld_rcols2, ld_rcols3, ld_slab0, ld_slab1, ld_slab2, ld_slab3, ld_dec0, ld_dec1, ld_dec2, ld_dec3, ld_dec4, ld_dec5, ld_dec6, ld_dec7]
    rfl
  · obtain rfl : p = 1 := Fin.ext (by change 128 * p.val + l.val = _ at h1; change p.val = 1; omega)
    obtain rfl : x = ix2 r l := pair_idx x r l h0 (by change 128 * 1 + l.val = _ at h1; omega)
    simp only [ld_cols0, ld_cols1, ld_cols2, ld_cols3, ld_rcols0, ld_rcols1, ld_rcols2, ld_rcols3, ld_slab0, ld_slab1, ld_slab2, ld_slab3, ld_dec0, ld_dec1, ld_dec2, ld_dec3, ld_dec4, ld_dec5, ld_dec6, ld_dec7]
    rfl
  · obtain rfl : p = 0 := Fin.ext (by change 128 * p.val + l.val = _ at h1; change p.val = 0; omega)
    obtain rfl : x = ix2 r l := pair_idx x r l h0 (by change 128 * 0 + l.val = _ at h1; omega)
    simp only [ld_cols0, ld_cols1, ld_cols2, ld_cols3, ld_rcols0, ld_rcols1, ld_rcols2, ld_rcols3, ld_slab0, ld_slab1, ld_slab2, ld_slab3, ld_dec0, ld_dec1, ld_dec2, ld_dec3, ld_dec4, ld_dec5, ld_dec6, ld_dec7]
    rfl

theorem st_B (c : Dev nD) (i : grid0.Coords) (a1 : Memref sig .tc .vmem S256x512 .bf16) (h1 : a1.IsWhole) (a2 : Memref sig .tc .vmem S256x512 .bf16) (h2 : a2.IsWhole) (a3 : Memref sig .tc .vmem S256x512 .bf16) (h3 : a3.IsWhole) (a4 : Memref sig .tc .vmem S256x512 .f32) (h4 : a4.IsWhole) (a5 : Memref sig .tc .vmem S8x256x256 .f32) (h5 : a5.IsWhole) (a6 : Memref sig .tc .vmem S256x512 .f32) (h6 : a6.IsWhole) (a7 : Memref sig .tc .vmem S256x512 .f32) (h7 : a7.IsWhole) (a8 : Memref sig .tc .vmem S1x512 .f32) (h8 : a8.IsWhole) (a9 : Memref sig .tc .vmem S128x128 .f32) (h9 : a9.IsWhole) (a10 : Memref sig .tc .vmem S256x512 .bf16) (h10 : a10.IsWhole) (a11 : Memref sig .tc .vmem S4x128x128 .f32) (h11 : a11.IsWhole) (hc0 : ¬cond0_0 i)
    (x0 : Vec Ideal S256x512 .bf16) (x1 : Vec Ideal S256x512 .bf16) (x2 : Vec Ideal S256x512 .bf16) (x3 : Vec Ideal S256x512 .f32) (x4 : Vec Ideal S8x256x256 .f32) (x5 : Vec Ideal S256x512 .f32) (x6 : Vec Ideal S256x512 .f32) (x7 : Vec Ideal S1x512 .f32) (x8 : Vec Ideal S128x128 .f32) (xo10 : Vec Ideal S4x128x128 .f32) (p : Fin 4) (r : Fin 128) (l : Fin 128) :
    out0_B_10 c i a1 h1 a2 h2 a3 h3 a4 h4 a5 h5 a6 h6 a7 h7 a8 h8 a9 h9 a10 h10 a11 h11 hc0 x0 x1 x2 x3 x4 x5 x6 x7 x8 xo10 (ix3 p r l) =
      STP (cols x1 p) (cols x2 p) (slab xo10 p) (cols x6 p) (rcols x7 p) (ix3 0 r l) := by
  frame_out
  canon_tiles x h
  · obtain rfl : p = 3 := Fin.ext (by change p.val = _ at h0; change p.val = 3; omega)
    obtain rfl : x = ix3 0 r l := slab_idx x r l h1 h2
    simp only [ld_cols0, ld_cols1, ld_cols2, ld_cols3, ld_rcols0, ld_rcols1, ld_rcols2, ld_rcols3, ld_slab0, ld_slab1, ld_slab2, ld_slab3, ld_dec0, ld_dec1, ld_dec2, ld_dec3, ld_dec4, ld_dec5, ld_dec6, ld_dec7]
    rfl
  · obtain rfl : p = 2 := Fin.ext (by change p.val = _ at h0; change p.val = 2; omega)
    obtain rfl : x = ix3 0 r l := slab_idx x r l h1 h2
    simp only [ld_cols0, ld_cols1, ld_cols2, ld_cols3, ld_rcols0, ld_rcols1, ld_rcols2, ld_rcols3, ld_slab0, ld_slab1, ld_slab2, ld_slab3, ld_dec0, ld_dec1, ld_dec2, ld_dec3, ld_dec4, ld_dec5, ld_dec6, ld_dec7]
    rfl
  · obtain rfl : p = 1 := Fin.ext (by change p.val = _ at h0; change p.val = 1; omega)
    obtain rfl : x = ix3 0 r l := slab_idx x r l h1 h2
    simp only [ld_cols0, ld_cols1, ld_cols2, ld_cols3, ld_rcols0, ld_rcols1, ld_rcols2, ld_rcols3, ld_slab0, ld_slab1, ld_slab2, ld_slab3, ld_dec0, ld_dec1, ld_dec2, ld_dec3, ld_dec4, ld_dec5, ld_dec6, ld_dec7]
    rfl
  · obtain rfl : p = 0 := Fin.ext (by change p.val = _ at h0; change p.val = 0; omega)
    obtain rfl : x = ix3 0 r l := slab_idx x r l h1 h2
    simp only [ld_cols0, ld_cols1, ld_cols2, ld_cols3, ld_rcols0, ld_rcols1, ld_rcols2, ld_rcols3, ld_slab0, ld_slab1, ld_slab2, ld_slab3, ld_dec0, ld_dec1, ld_dec2, ld_dec3, ld_dec4, ld_dec5, ld_dec6, ld_dec7]
    rfl

end Cert.KernelIdeal.Value
end
-- ==== Proof.OutA.lean ====
module

public import proofs.«01_k».proof.Proof.Gen.KernelIdeal.Frame
public import Idealize.ShloMosaic.Lib.Pipeline.ValueKit
public import Idealize.ShloMosaic.Lib.Pointwise
public import proofs.«01_k».proof.Proof.Out
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen Cert.Recurrence Finset

/-- A store made before four stores that cover the buffer leaves no trace. -/
theorem canon_drop {Val : EltTy → Type} {S : Shape} {e : EltTy} [∀ e, Nonempty (Val e)] (L' : List (View.Piece Val S e)) :
    ∀ (L : List (View.Piece Val S e)) (y : S.Idx), (∃ p ∈ L, y ∈ p.1.set) → View.canon (L ++ L') y = View.canon L y
  | [], _, hy => by obtain ⟨p, hp, _⟩ := hy; simp at hp
  | p :: L, y, hy => by
    by_cases hm : y ∈ p.1.set
    · obtain ⟨x, rfl⟩ := p.1.exists_idx_of_mem hm
      rw [List.cons_append, show p.1.idx x = p.1.emb x from rfl, View.canon_cons_emb, View.canon_cons_emb]
    · rw [List.cons_append, View.canon_cons_of_not_mem _ _ hm, View.canon_cons_of_not_mem _ _ hm]
      refine canon_drop L' L y ?_
      obtain ⟨q, hq, hyq⟩ := hy
      rcases List.mem_cons.mp hq with rfl | hq'
      · exact absurd hyq hm
      · exact ⟨q, hq', hyq⟩

theorem out_A (c : Dev nD) (i : grid0.Coords) (a1 : Memref sig .tc .vmem S256x512 .bf16) (h1 : a1.IsWhole) (a2 : Memref sig .tc .vmem S256x512 .bf16) (h2 : a2.IsWhole) (a3 : Memref sig .tc .vmem S256x512 .bf16) (h3 : a3.IsWhole) (a4 : Memref sig .tc .vmem S256x512 .f32) (h4 : a4.IsWhole) (a5 : Memref sig .tc .vmem S8x256x256 .f32) (h5 : a5.IsWhole) (a6 : Memref sig .tc .vmem S256x512 .f32) (h6 : a6.IsWhole) (a7 : Memref sig .tc .vmem S256x512 .f32) (h7 : a7.IsWhole) (a8 : Memref sig .tc .vmem S1x512 .f32) (h8 : a8.IsWhole) (a9 : Memref sig .tc .vmem S128x128 .f32) (h9 : a9.IsWhole) (a10 : Memref sig .tc .vmem S256x512 .bf16) (h10 : a10.IsWhole) (a11 : Memref sig .tc .vmem S4x128x128 .f32) (h11 : a11.IsWhole) (hc0 : cond0_0 i)
    (x0 : Vec Ideal S256x512 .bf16) (x1 : Vec Ideal S256x512 .bf16) (x2 : Vec Ideal S256x512 .bf16) (x3 : Vec Ideal S256x512 .f32) (x4 : Vec Ideal S8x256x256 .f32) (x5 : Vec Ideal S256x512 .f32) (x6 : Vec Ideal S256x512 .f32) (x7 : Vec Ideal S1x512 .f32) (x8 : Vec Ideal S128x128 .f32) (p : Fin 4) (r : Fin 256) (l : Fin 128) :
    out0_A_9 c i a1 h1 a2 h2 a3 h3 a4 h4 a5 h5 a6 h6 a7 h7 a8 h8 a9 h9 a10 h10 a11 h11 hc0 x0 x1 x2 x3 x4 x5 x6 x7 x8 (ix2 r ⟨128 * p.val + l.val, by omega⟩) =
      OUTP (cols x0 p) (cols x1 p) (cols x2 p) (slab (e := .f32) (k0_pay2 (F := Ideal)) p) (cols x5 p) (dec x4 ⟨2 * p.val, by omega⟩) (dec x4 ⟨2 * p.val + 1, by omega⟩)
        x8 (cols x3 p) (ix2 r l) := by
  frame_open
  simp (disch := decide) only [↓ View.readCov_skip, ↓ View.readCov_cons_toLoadRect, ↓ View.readCov_fill]
  frame_out
  canon_tiles x h
  · obtain rfl : p = 3 := Fin.ext (by change 128 * p.val + l.val = _ at h1; change p.val = 3; omega)
    obtain rfl : x = ix2 r l := pair_idx x r l h0 (by change 128 * 3 + l.val = _ at h1; omega)
    simp only [ld_cols0, ld_cols1, ld_cols2, ld_cols3, ld_rcols0, ld_rcols1, ld_rcols2, ld_rcols3, ld_slab0, ld_slab1, ld_slab2, ld_slab3, ld_dec0, ld_dec1, ld_dec2, ld_dec3, ld_dec4, ld_dec5, ld_dec6, ld_dec7]
    rfl
  · obtain rfl : p = 2 := Fin.ext (by change 128 * p.val + l.val = _ at h1; change p.val = 2; omega)
    obtain rfl : x = ix2 r l := pair_idx x r l h0 (by change 128 * 2 + l.val = _ at h1; omega)
    simp only [ld_cols0, ld_cols1, ld_cols2, ld_cols3, ld_rcols0, ld_rcols1, ld_rcols2, ld_rcols3, ld_slab0, ld_slab1, ld_slab2, ld_slab3, ld_dec0, ld_dec1, ld_dec2, ld_dec3, ld_dec4, ld_dec5, ld_dec6, ld_dec7]
    rfl
  · obtain rfl : p = 1 := Fin.ext (by change 128 * p.val + l.val = _ at h1; change p.val = 1; omega)
    obtain rfl : x = ix2 r l := pair_idx x r l h0 (by change 128 * 1 + l.val = _ at h1; omega)
    simp only [ld_cols0, ld_cols1, ld_cols2, ld_cols3, ld_rcols0, ld_rcols1, ld_rcols2, ld_rcols3, ld_slab0, ld_slab1, ld_slab2, ld_slab3, ld_dec0, ld_dec1, ld_dec2, ld_dec3, ld_dec4, ld_dec5, ld_dec6, ld_dec7]
    rfl
  · obtain rfl : p = 0 := Fin.ext (by change 128 * p.val + l.val = _ at h1; change p.val = 0; omega)
    obtain rfl : x = ix2 r l := pair_idx x r l h0 (by change 128 * 0 + l.val = _ at h1; omega)
    simp only [ld_cols0, ld_cols1, ld_cols2, ld_cols3, ld_rcols0, ld_rcols1, ld_rcols2, ld_rcols3, ld_slab0, ld_slab1, ld_slab2, ld_slab3, ld_dec0, ld_dec1, ld_dec2, ld_dec3, ld_dec4, ld_dec5, ld_dec6, ld_dec7]
    rfl

theorem st_A (c : Dev nD) (i : grid0.Coords) (a1 : Memref sig .tc .vmem S256x512 .bf16) (h1 : a1.IsWhole) (a2 : Memref sig .tc .vmem S256x512 .bf16) (h2 : a2.IsWhole) (a3 : Memref sig .tc .vmem S256x512 .bf16) (h3 : a3.IsWhole) (a4 : Memref sig .tc .vmem S256x512 .f32) (h4 : a4.IsWhole) (a5 : Memref sig .tc .vmem S8x256x256 .f32) (h5 : a5.IsWhole) (a6 : Memref sig .tc .vmem S256x512 .f32) (h6 : a6.IsWhole) (a7 : Memref sig .tc .vmem S256x512 .f32) (h7 : a7.IsWhole) (a8 : Memref sig .tc .vmem S1x512 .f32) (h8 : a8.IsWhole) (a9 : Memref sig .tc .vmem S128x128 .f32) (h9 : a9.IsWhole) (a10 : Memref sig .tc .vmem S256x512 .bf16) (h10 : a10.IsWhole) (a11 : Memref sig .tc .vmem S4x128x128 .f32) (h11 : a11.IsWhole) (hc0 : cond0_0 i)
    (x0 : Vec Ideal S256x512 .bf16) (x1 : Vec Ideal S256x512 .bf16) (x2 : Vec Ideal S256x512 .bf16) (x3 : Vec Ideal S256x512 .f32) (x4 : Vec Ideal S8x256x256 .f32) (x5 : Vec Ideal S256x512 .f32) (x6 : Vec Ideal S256x512 .f32) (x7 : Vec Ideal S1x512 .f32) (x8 : Vec Ideal S128x128 .f32) (p : Fin 4) (r : Fin 128) (l : Fin 128) :
    out0_A_10 c i a1 h1 a2 h2 a3 h3 a4 h4 a5 h5 a6 h6 a7 h7 a8 h8 a9 h9 a10 h10 a11 h11 hc0 x0 x1 x2 x3 x4 x5 x6 x7 x8 (ix3 p r l) =
      STP (cols x1 p) (cols x2 p) (slab (e := .f32) (k0_pay2 (F := Ideal)) p) (cols x6 p) (rcols x7 p) (ix3 0 r l) := by
  frame_open
  simp (disch := decide) only [↓ View.readCov_skip, ↓ View.readCov_cons_toLoadRect, ↓ View.readCov_fill]
  frame_out
  refine (canon_drop [_] [_, _, _, _] _ (View.cover_of_tiled_head _ _ _ (by rfl) _)).trans ?_
  canon_tiles x h
  · obtain rfl : p = 3 := Fin.ext (by change p.val = _ at h0; change p.val = 3; omega)
    obtain rfl : x = ix3 0 r l := slab_idx x r l h1 h2
    simp only [ld_cols0, ld_cols1, ld_cols2, ld_cols3, ld_rcols0, ld_rcols1, ld_rcols2, ld_rcols3, ld_slab0, ld_slab1, ld_slab2, ld_slab3, ld_dec0, ld_dec1, ld_dec2, ld_dec3, ld_dec4, ld_dec5, ld_dec6, ld_dec7]
    rfl
  · obtain rfl : p = 2 := Fin.ext (by change p.val = _ at h0; change p.val = 2; omega)
    obtain rfl : x = ix3 0 r l := slab_idx x r l h1 h2
    simp only [ld_cols0, ld_cols1, ld_cols2, ld_cols3, ld_rcols0, ld_rcols1, ld_rcols2, ld_rcols3, ld_slab0, ld_slab1, ld_slab2, ld_slab3, ld_dec0, ld_dec1, ld_dec2, ld_dec3, ld_dec4, ld_dec5, ld_dec6, ld_dec7]
    rfl
  · obtain rfl : p = 1 := Fin.ext (by change p.val = _ at h0; change p.val = 1; omega)
    obtain rfl : x = ix3 0 r l := slab_idx x r l h1 h2
    simp only [ld_cols0, ld_cols1, ld_cols2, ld_cols3, ld_rcols0, ld_rcols1, ld_rcols2, ld_rcols3, ld_slab0, ld_slab1, ld_slab2, ld_slab3, ld_dec0, ld_dec1, ld_dec2, ld_dec3, ld_dec4, ld_dec5, ld_dec6, ld_dec7]
    rfl
  · obtain rfl : p = 0 := Fin.ext (by change p.val = _ at h0; change p.val = 0; omega)
    obtain rfl : x = ix3 0 r l := slab_idx x r l h1 h2
    simp only [ld_cols0, ld_cols1, ld_cols2, ld_cols3, ld_rcols0, ld_rcols1, ld_rcols2, ld_rcols3, ld_slab0, ld_slab1, ld_slab2, ld_slab3, ld_dec0, ld_dec1, ld_dec2, ld_dec3, ld_dec4, ld_dec5, ld_dec6, ld_dec7]
    rfl

end Cert.KernelIdeal.Value
end
-- ==== Proof.Decay.lean ====
module

public import Idealize.ShloMosaic.Lib.Pointwise
public import Idealize.ShloMosaic.Lib.IdealHost
public import proofs.«01_k».proof.Proof.Recurrence

@[expose] public section

noncomputable section

open Idealize.ShloMosaic

namespace Cert.Recurrence

theorem bits_two : Ideal.ofBits .f32 1073741824#32 = ((2 : ℝ) : EReal) := by
  simp [Ideal.ofBits, Ideal.ieee, -EReal.coe_mul]; norm_num

theorem bits_neg_five : Ideal.ofBits .f32 3231711232#32 = ((-5 : ℝ) : EReal) := by
  simp [Ideal.ofBits, Ideal.ieee, -EReal.coe_mul, -EReal.coe_neg]; norm_num

theorem bits_255 : Ideal.ofBits .f32 1132396544#32 = ((255 : ℝ) : EReal) := by
  simp [Ideal.ofBits, Ideal.ieee, -EReal.coe_mul]; norm_num

theorem bits_256 : Ideal.ofBits .f32 1132462080#32 = ((256 : ℝ) : EReal) := by
  simp [Ideal.ofBits, Ideal.ieee, -EReal.coe_mul]; norm_num

theorem bits_127 : Ideal.ofBits .f32 1123942400#32 = ((127 : ℝ) : EReal) := by
  simp [Ideal.ofBits, Ideal.ieee, -EReal.coe_mul]; norm_num

theorem bits_128 : Ideal.ofBits .f32 1124073472#32 = ((128 : ℝ) : EReal) := by
  simp [Ideal.ofBits, Ideal.ieee, -EReal.coe_mul]; norm_num

theorem bits_64 : Ideal.ofBits .f32 1115684864#32 = ((64 : ℝ) : EReal) := by
  simp [Ideal.ofBits, Ideal.ieee, -EReal.coe_mul]; norm_num

theorem bits_64th : Ideal.ofBits .f32 1015021568#32 = ((1 / 64 : ℝ) : EReal) := by
  simp [Ideal.ofBits, Ideal.ieee, -EReal.coe_mul]; norm_num

/-- A small number converted to a float is that number. -/
theorem sitofp_nat (n : ℕ) (h : n < 2 ^ 31) : (FloatOps.sitofp (F := Ideal) FTy.f32 (BitVec.ofNat 32 n) : EReal) = ((n : ℝ) : EReal) := by
  change (((BitVec.ofNat 32 n).toInt : ℝ) : EReal) = _
  have hn : (BitVec.ofNat 32 n).toNat = n := by rw [BitVec.toNat_ofNat, Nat.mod_eq_of_lt (by omega)]
  rw [BitVec.toInt_eq_toNat_of_lt (by omega), hn]
  norm_cast

/-- The logarithm of head `h`'s decay. -/
def lgR (h : ℕ) : ℝ := Real.log (1 + -Real.rpow 2 (-5 - h))

/-- Head `h`'s decay. -/
def gR (h : ℕ) : ℝ := Real.exp (lgR h)

theorem lg_printed (h : ℕ) (hh : h < 2 ^ 31) : Ideal.log1p (-Ideal.pow (Ideal.ofBits FTy.f32 1073741824#32)
    (Ideal.ofBits FTy.f32 3231711232#32 - FloatOps.sitofp (F := Ideal) FTy.f32 (BitVec.ofNat 32 h))) = ((lgR h : ℝ) : EReal) := by
  rw [bits_two, bits_neg_five, sitofp_nat h hh, ← EReal.coe_sub, Ideal.pow_coe_coe, ← EReal.coe_neg, Ideal.log1p,
    ← EReal.coe_one, ← EReal.coe_add, Ideal.log_coe, if_neg, lgR]
  have : Real.rpow 2 (-5 - h) < 1 := Real.rpow_lt_one_of_one_lt_of_neg (by norm_num) (by have : (0 : ℝ) ≤ h := Nat.cast_nonneg h; linarith)
  linarith

/-- The decay over `n` rows. -/
theorem exp_lg (h n : ℕ) (x : ℝ) (hx : x = n) : Ideal.exp (((lgR h : ℝ) : EReal) * ((x : ℝ) : EReal)) = ((gR h ^ n : ℝ) : EReal) := by
  rw [← EReal.coe_mul, Ideal.exp_coe, gR, ← Real.exp_nat_mul, hx, mul_comm]

end Cert.Recurrence
end
-- ==== Proof.Step.lean ====
module

public import proofs.«01_k».proof.Proof.Gen.KernelIdeal.Frame
public import Idealize.ShloMosaic.Lib.Pipeline.ValueKit
public import Idealize.ShloMosaic.Lib.Pointwise
public import proofs.«01_k».proof.Proof.OutA
public import proofs.«01_k».proof.Proof.Decay
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen Cert.Recurrence Finset

/-- Element `d` of head `h`'s retention of row `n`, over the reals. -/
def oV (Q K V : ℕ → ℕ → ℝ) (n h d : ℕ) : ℝ :=
  oR (gR h) (fun m => ∑ d' : Fin 64, Q n (64 * h + d'.val) * K m (64 * h + d'.val)) (fun m => V m (64 * h + d)) n

/-- Element `(a, b)` of head `h`'s state after `N` rows, over the reals, the columns counted over all heads. -/
def stV (K V : ℕ → ℕ → ℝ) (N h a b : ℕ) : ℝ := stR (gR h) (fun m => K m a * V m b) N

theorem stp_real (k v : FVec Ideal S256x128 .bf16) (st : FVec Ideal S1x128x128 .f32) (zeta : FVec Ideal S256x128 .f32)
    (gc : FVec Ideal S1x128 .f32) (K V Z : Fin 256 → Fin 128 → ℝ) (T : Fin 128 → Fin 128 → ℝ) (G : Fin 128 → ℝ)
    (hk : ∀ r x, k (ix2 r x) = ((K r x : ℝ) : EReal)) (hv : ∀ r x, v (ix2 r x) = ((V r x : ℝ) : EReal))
    (hst : ∀ x l : Fin 128, st (ix3 0 x l) = ((if x.val / 64 = l.val / 64 then T x l else 0 : ℝ) : EReal))
    (hz : ∀ r l, zeta (ix2 r l) = ((Z r l : ℝ) : EReal)) (hg : ∀ l, gc (ix2 0 l) = ((G l : ℝ) : EReal)) (a b : Fin 128) :
    STP k v st zeta gc (ix3 0 a b) =
      ((if a.val / 64 = b.val / 64 then G b * T a b + ∑ x : Fin 256, K x a * Z x a * V x b else 0 : ℝ) : EReal) := by
  rw [stp_apply]
  simp only [hk, hv, hst, hz, hg, ← EReal.coe_mul, coe_sum]
  by_cases h : a.val / 64 = b.val / 64
  · simp only [if_pos h, ← EReal.coe_add]
  · simp only [if_neg h, mul_zero, EReal.coe_zero, add_zero]

section Step
variable (x0 x1 x2 : Vec Ideal S256x512 .bf16) (x3 : Vec Ideal S256x512 .f32) (x4 : Vec Ideal S8x256x256 .f32) (x5 x6 : Vec Ideal S256x512 .f32)
  (x7 : Vec Ideal S1x512 .f32) (x8 : Vec Ideal S128x128 .f32) (xo : Vec Ideal S4x128x128 .f32) (Q K V : ℕ → ℕ → ℝ) (N : ℕ)

/-- The state one chunk leaves in a pair's slab, given the state that enters it. -/
theorem step_st (hk : ∀ (r : Fin 256) (c : Fin 512), x1 (ix2 r c) = ((K (N + r.val) c.val : ℝ) : EReal))
    (hv : ∀ (r : Fin 256) (c : Fin 512), x2 (ix2 r c) = ((V (N + r.val) c.val : ℝ) : EReal))
    (h6 : ∀ (r : Fin 256) (c : Fin 512), x6 (ix2 r c) = ((gR (c.val / 64) ^ (255 - r.val) : ℝ) : EReal))
    (h7 : ∀ c : Fin 512, x7 (ix2 0 c) = ((gR (c.val / 64) ^ 256 : ℝ) : EReal))
    (hs : ∀ (p : Fin 4) (a b : Fin 128), xo (ix3 p a b) =
      ((if a.val / 64 = b.val / 64 then stV K V N (2 * p.val + b.val / 64) (128 * p.val + a.val) (128 * p.val + b.val) else 0 : ℝ) : EReal))
    (p : Fin 4) (a b : Fin 128) :
    STP (cols x1 p) (cols x2 p) (slab xo p) (cols x6 p) (rcols x7 p) (ix3 0 a b) =
      ((if a.val / 64 = b.val / 64 then stV K V (N + 256) (2 * p.val + b.val / 64) (128 * p.val + a.val) (128 * p.val + b.val) else 0 : ℝ) : EReal) := by
  rw [stp_real (cols x1 p) (cols x2 p) (slab xo p) (cols x6 p) (rcols x7 p) (fun r x => K (N + r.val) (128 * p.val + x.val))
    (fun r x => V (N + r.val) (128 * p.val + x.val)) (fun r x => gR (2 * p.val + x.val / 64) ^ (255 - r.val))
    (fun a b => stV K V N (2 * p.val + b.val / 64) (128 * p.val + a.val) (128 * p.val + b.val))
    (fun b => gR (2 * p.val + b.val / 64) ^ 256) (fun r x => hk _ _) (fun r x => hv _ _) (fun x l => hs p x l)
    (fun r l => (h6 _ _).trans (by congr 3; change (128 * p.val + l.val) / 64 = _; omega))
    (fun l => (h7 _).trans (by congr 3; change (128 * p.val + l.val) / 64 = _; omega))]
  congr 1
  by_cases h : a.val / 64 = b.val / 64
  · rw [if_pos h, if_pos h, stV, stV, ← stR_add, h,
      ← Fin.sum_univ_eq_sum_range (fun m => gR (2 * p.val + b.val / 64) ^ (256 - 1 - m) * (K (N + m) (128 * p.val + a.val) * V (N + m) (128 * p.val + b.val))) 256]
    congr 1
    refine sum_congr rfl fun m _ => ?_
    rw [show 256 - 1 - m.val = 255 - m.val by omega]; ring
  · rw [if_neg h, if_neg h]

/-- What one chunk leaves in a pair's columns of the output, given the state that enters it. -/
theorem step_out (hq : ∀ (r : Fin 256) (c : Fin 512), x0 (ix2 r c) = ((Q (N + r.val) c.val : ℝ) : EReal))
    (hk : ∀ (r : Fin 256) (c : Fin 512), x1 (ix2 r c) = ((K (N + r.val) c.val : ℝ) : EReal))
    (hv : ∀ (r : Fin 256) (c : Fin 512), x2 (ix2 r c) = ((V (N + r.val) c.val : ℝ) : EReal))
    (h4 : ∀ (h : Fin 8) (r n : Fin 256), x4 (ix3 h r n) = ((if n.val ≤ r.val then gR h.val ^ (r.val - n.val) else 0 : ℝ) : EReal))
    (h5 : ∀ (r : Fin 256) (c : Fin 512), x5 (ix2 r c) = ((gR (c.val / 64) ^ (r.val + 1) : ℝ) : EReal))
    (h8 : ∀ x l : Fin 128, x8 (ix2 x l) = ((if x.val / 64 = l.val / 64 then 1 / 64 else 0 : ℝ) : EReal))
    (hs : ∀ (p : Fin 4) (a b : Fin 128), xo (ix3 p a b) =
      ((if a.val / 64 = b.val / 64 then stV K V N (2 * p.val + b.val / 64) (128 * p.val + a.val) (128 * p.val + b.val) else 0 : ℝ) : EReal))
    (p : Fin 4) (r : Fin 256) (l : Fin 128) :
    OUTP (cols x0 p) (cols x1 p) (cols x2 p) (slab xo p) (cols x5 p) (dec x4 ⟨2 * p.val, by omega⟩) (dec x4 ⟨2 * p.val + 1, by omega⟩)
        x8 (cols x3 p) (ix2 r l) =
      x3 (ix2 r ⟨128 * p.val + l.val, by omega⟩) * Ideal.logistic (x3 (ix2 r ⟨128 * p.val + l.val, by omega⟩))
        * hnorm (fun d => oV Q K V (N + r.val) (2 * p.val + l.val / 64) d.val) ⟨l.val % 64, by omega⟩ := by
  rw [outp_apply (cols x0 p) (cols x1 p) (cols x2 p) (slab xo p) (cols x5 p) (dec x4 ⟨2 * p.val, by omega⟩) (dec x4 ⟨2 * p.val + 1, by omega⟩)
    x8 (cols x3 p) r l _ (fun x => oraw_real (cols x0 p) (cols x1 p) (cols x2 p) (slab xo p) (cols x5 p) (dec x4 ⟨2 * p.val, by omega⟩) (dec x4 ⟨2 * p.val + 1, by omega⟩)
      (fun r x => Q (N + r.val) (128 * p.val + x.val)) (fun r x => K (N + r.val) (128 * p.val + x.val)) (fun r x => V (N + r.val) (128 * p.val + x.val))
      (fun a b => stV K V N (2 * p.val + b.val / 64) (128 * p.val + a.val) (128 * p.val + b.val))
      (fun a r n => if n.val ≤ r.val then gR (2 * p.val + a) ^ (r.val - n.val) else 0) (fun r l => gR (2 * p.val + l.val / 64) ^ (r.val + 1))
      (fun r x => hq _ _) (fun r x => hk _ _) (fun r x => hv _ _) (fun x l => hs p x l)
      (fun r l => (h5 _ _).trans (by congr 3; change (128 * p.val + l.val) / 64 = _; omega)) (fun r n => h4 _ _ _) (fun r n => h4 _ _ _) r x) h8]
  congr 2
  funext d
  have hl : ∀ d : Fin 64, 128 * p.val + (lane l d).val = 64 * (2 * p.val + l.val / 64) + d.val := fun d => by rw [lane_val]; omega
  simp only [orawR, lane_lane, lane_div, hl, stV, oV]
  rw [← oR_chunk (gR (2 * p.val + l.val / 64)) (fun d' : Fin 64 => Q (N + r.val) (64 * (2 * p.val + l.val / 64) + d'.val))
    (fun m d' => K m (64 * (2 * p.val + l.val / 64) + d'.val)) (fun m => V m (64 * (2 * p.val + l.val / 64) + d.val)) N 256 r.val r.isLt,
    ← Fin.sum_univ_eq_sum_range (fun m => (∑ d' : Fin 64, Q (N + r.val) (64 * (2 * p.val + l.val / 64) + d'.val) * K (N + m) (64 * (2 * p.val + l.val / 64) + d'.val)) *
          (if m ≤ r.val then gR (2 * p.val + l.val / 64) ^ (r.val - m) else 0) * V (N + m) (64 * (2 * p.val + l.val / 64) + d.val)) 256]

end Step

end Cert.KernelIdeal.Value
end
-- ==== Proof.RefStep.lean ====
module

public import proofs.«01_k».proof.Proof.Gen.ReferenceIdeal.Run
public import Idealize.ShloMosaic.Lib.Pointwise
public import proofs.«01_k».proof.Proof.Step
public import proofs.«01_k».proof.Proof.Decay

@[expose] public section

set_option maxRecDepth 16384

noncomputable section

open Idealize.ShloMosaic Idealize.ShloMosaic.TcCoe Idealize.SL.Sem
open Cert.KernelIdeal.Value (oV stV)

namespace Cert.ReferenceIdeal.Value

open Cert.ReferenceIdeal Cert.ReferenceIdeal.Gen Cert.Recurrence Finset

/-- The row numbers of a chunk. -/
def rowN : FVec Ideal S128 .f32 := sitofp .f32 (iotaInDim S128 32 0)

/-- Row number less column number. -/
def rowD : FVec Ideal S128x128 .f32 :=
  subf (broadcastInDim S128x128 ![0, 1] bcast_S128x1_S128x128_0_1 (broadcastInDim S128x1 ![0] bcast_S128_S128x1_0 rowN)) (broadcastInDim S128x128 ![0, 1] bcast_S1x128_S128x128_0_1 (broadcastInDim S1x128 ![1] bcast_S128_S1x128_1 rowN))

/-- The decay to the end of the chunk, by row and head. -/
def zetaR (lg : FVec Ideal S8 .f32) : FVec Ideal S128x8 .f32 :=
  Host.exp (mulf (broadcastInDim S128x8 ![0, 1] bcast_S1x8_S128x8_0_1 (broadcastInDim S1x8 ![1] bcast_S8_S1x8_1 lg)) (broadcastInDim S128x8 ![0, 1] bcast_S128x1_S128x8_0_1 (subf (broadcastInDim S128x1 ![] bcast_S_S128x1 (constant S_ .f32 0x42FE0000#32)) (broadcastInDim S128x1 ![0] bcast_S128_S128x1_0 rowN))))

/-- The decay from before the chunk, by row and head. -/
def xiR (lg : FVec Ideal S8 .f32) : FVec Ideal S128x8 .f32 :=
  Host.exp (mulf (broadcastInDim S128x8 ![0, 1] bcast_S1x8_S128x8_0_1 (broadcastInDim S1x8 ![1] bcast_S8_S1x8_1 lg)) (broadcastInDim S128x8 ![0, 1] bcast_S128x1_S128x8_0_1 (addf (broadcastInDim S128x1 ![0] bcast_S128_S128x1_0 rowN) (broadcastInDim S128x1 ![] bcast_S_S128x1 (constant S_ .f32 0x3F800000#32)))))

/-- The decay inside a chunk, by head, row and earlier row. -/
def decR (lg : FVec Ideal S8 .f32) : FVec Ideal S8x128x128 .f32 :=
  select (broadcastInDim S8x128x128 ![1, 2] bcast_S128x128_S8x128x128_1_2 (cmpf .oge rowD (broadcastInDim S128x128 ![] bcast_S_S128x128 (constant S_ .f32 0x00000000#32)))) (Host.exp (mulf (broadcastInDim S8x128x128 ![0, 1, 2] bcast_S8x1x1_S8x128x128_0_1_2 (broadcastInDim S8x1x1 ![0] bcast_S8_S8x1x1_0 lg)) (broadcastInDim S8x128x128 ![0, 1, 2] bcast_S1x128x128_S8x128x128_0_1_2 (broadcastInDim S1x128x128 ![1, 2] bcast_S128x128_S1x128x128_1_2 (maximumf rowD (broadcastInDim S128x128 ![] bcast_S_S128x128 (constant S_ .f32 0x00000000#32))))))) (broadcastInDim S8x128x128 ![] bcast_S_S8x128x128 (id (constant S_ .f32 0x00000000#32)))

/-- The decay over a whole chunk, by head. -/
def gcR (lg : FVec Ideal S8 .f32) : FVec Ideal S8 .f32 := Host.exp (mulf lg (broadcastInDim S8 ![] bcast_S_S8 (constant S_ .f32 0x43000000#32)))

/-- The state after a chunk. -/
def stNew (lg : FVec Ideal S8 .f32) (st : FVec Ideal S1x8x64x64 .f32) (k v : FVec Ideal S1x128x8x64 .f32) : FVec Ideal S1x8x64x64 .f32 :=
  addf (mulf (broadcastInDim S1x8x64x64 ![0, 1, 2, 3] bcast_S1x8x1x1_S1x8x64x64_0_1_2_3 (broadcastInDim S1x8x1x1 ![1] bcast_S8_S1x8x1x1_1 (gcR lg))) st) (Host.dotGeneral (F := Ideal) (φ₁ := .f32) (φ₂ := .f32) dot_S1x128x8x64_S1x128x8x64_S1x8x64x64_1_1_3_3_02_02 none (mulf k (broadcastInDim S1x128x8x64 ![0, 1, 2, 3] bcast_S1x128x8x1_S1x128x8x64_0_1_2_3 (broadcastInDim S1x128x8x1 ![1, 2] bcast_S128x8_S1x128x8x1_1_2 (zetaR lg)))) v)

/-- The outputs of a chunk. -/
def oNew (lg : FVec Ideal S8 .f32) (st : FVec Ideal S1x8x64x64 .f32) (q k v : FVec Ideal S1x128x8x64 .f32) : FVec Ideal S1x128x8x64 .f32 :=
  addf (transpose S1x128x8x64 [0, 3, 1, 2] (Host.dotGeneral (F := Ideal) (φ₁ := .f32) (φ₂ := .f32) dot_S1x128x8x64_S1x8x128x128_S1x8x64x128_1_3_3_2_02_01 none v (mulf (Host.dotGeneral (F := Ideal) (φ₁ := .f32) (φ₂ := .f32) dot_S1x128x8x64_S1x128x8x64_S1x8x128x128_3_3_1_1_02_02 none q k) (broadcastInDim S1x8x128x128 ![1, 2, 3] bcast_S8x128x128_S1x8x128x128_1_2_3 (decR lg)))) transposes_S1x8x64x128_S1x128x8x64_0_3_1_2) (mulf (transpose S1x128x8x64 [0, 3, 1, 2] (Host.dotGeneral (F := Ideal) (φ₁ := .f32) (φ₂ := .f32) dot_S1x8x64x64_S1x128x8x64_S1x8x64x128_2_3_3_1_01_02 none st q) transposes_S1x8x64x128_S1x128x8x64_0_3_1_2) (broadcastInDim S1x128x8x64 ![0, 1, 2, 3] bcast_S1x128x8x1_S1x128x8x64_0_1_2_3 (broadcastInDim S1x128x8x1 ![1, 2] bcast_S128x8_S1x128x8x1_1_2 (xiR lg))))

/-- Where a chunk starts in a stack, by dimension. -/
def starts (s : IVec S_ 32) : Fin 5 → Int := fun k => (((![s, constantI S_ 32 0#32, constantI S_ 32 0#32, constantI S_ 32 0#32, constantI S_ 32 0#32] : Fin 5 → (⟨S_, .i32⟩ : BufTy).Contents (Elt Ideal))) k (Shape.Idx.first h_S_)).toInt

/-- One chunk of a stack. -/
def chunk (x : FVec Ideal S128x1x128x8x64 .f32) (s : IVec S_ 32) : FVec Ideal S1x128x8x64 .f32 :=
  shapeCast S1x128x8x64 (Host.dynamicSlice S1x1x128x8x64 x (starts s) sliceFits_S128x1x128x8x64_S1x1x128x8x64) shapeCasts_S1x1x128x8x64_S1x128x8x64

variable (V0 : Valuation τ sig (Elt Ideal))

theorem res_q : res_main_while0b_v53 V0 = chunk (V0 (Proc.devRef .tc main_v18_0)) (V0 (Proc.devRef .tc main_v18_4)) := rfl
theorem res_k : res_main_while0b_v54 V0 = chunk (V0 (Proc.devRef .tc main_v18_1)) (V0 (Proc.devRef .tc main_v18_4)) := rfl
theorem res_v : res_main_while0b_v55 V0 = chunk (V0 (Proc.devRef .tc main_v18_2)) (V0 (Proc.devRef .tc main_v18_4)) := rfl
theorem res_row : res_main_while0b_v56 V0 = rowN := rfl
theorem res_diff : res_main_while0b_v61 V0 = rowD := rfl

theorem step5 : step_main_v18_5 V0 = stNew (V0 (Proc.devRef .tc main_v18_3)) (V0 (Proc.devRef .tc main_v18_5))
    (chunk (V0 (Proc.devRef .tc main_v18_1)) (V0 (Proc.devRef .tc main_v18_4))) (chunk (V0 (Proc.devRef .tc main_v18_2)) (V0 (Proc.devRef .tc main_v18_4))) := rfl

theorem step6 : step_main_v18_6 V0 = Host.dynamicUpdateSlice (V0 (Proc.devRef .tc main_v18_6)) (broadcastInDim S1x1x128x8x64 ![1, 2, 3, 4] bcast_S1x128x8x64_S1x1x128x8x64_1_2_3_4
    (oNew (V0 (Proc.devRef .tc main_v18_3)) (V0 (Proc.devRef .tc main_v18_5))
    (chunk (V0 (Proc.devRef .tc main_v18_0)) (V0 (Proc.devRef .tc main_v18_4)))
    (chunk (V0 (Proc.devRef .tc main_v18_1)) (V0 (Proc.devRef .tc main_v18_4))) (chunk (V0 (Proc.devRef .tc main_v18_2)) (V0 (Proc.devRef .tc main_v18_4)))))
     (starts (V0 (Proc.devRef .tc main_v18_4))) updateFits_S128x1x128x8x64_S1x1x128x8x64 := by
  unfold step_main_v18_6 oNew decR xiR starts
  rw [res_q, res_k, res_v, res_row, res_diff]
  rfl

theorem starts_0 (s : IVec S_ 32) (k : ℕ) (hk : k < 128) (hs : s = fun _ => BitVec.ofNat 32 k) : starts s 0 = k := by
  subst hs
  change (BitVec.ofNat 32 k).toInt = k
  rw [BitVec.toInt_eq_toNat_of_lt (by rw [BitVec.toNat_ofNat]; omega), BitVec.toNat_ofNat]; omega

theorem clamp_0 (s : IVec S_ 32) (k : ℕ) (hk : k < 128) (hs : s = fun _ => BitVec.ofNat 32 k) (h : S1x1x128x8x64.rank = S128x1x128x8x64.rank) :
    Host.clampedStart S128x1x128x8x64 S1x1x128x8x64 h (starts s) 0 = k :=
  Host.clampedStart_of_le _ _ _ _ (starts_0 s k hk hs) (by change k + 1 ≤ 128; omega)

theorem clamp_S (s : IVec S_ 32) (h : S1x1x128x8x64.rank = S128x1x128x8x64.rank) (a : Fin 4) :
    Host.clampedStart S128x1x128x8x64 S1x1x128x8x64 h (starts s) a.succ = 0 :=
  Host.clampedStart_of_le _ _ _ _ (by fin_cases a <;> rfl) (by fin_cases a <;> exact le_of_eq rfl)

theorem chunk_apply (x : FVec Ideal S128x1x128x8x64 .f32) (s : IVec S_ 32) (k : Fin 128) (hs : s = fun _ => BitVec.ofNat 32 k.val)
    (r : Fin 128) (h : Fin 8) (d : Fin 64) : chunk x s (ix4 0 r h d) = x (ix5 k 0 r h d) := by
  unfold chunk
  pointwise
  have h0 := clamp_0 s k.val k.isLt hs rfl
  have h1 := clamp_S s rfl 0
  have h2 := clamp_S s rfl 1
  have h3 := clamp_S s rfl 2
  have h4 := clamp_S s rfl 3
  refine congrArg x (funext fun a => Fin.ext ?_)
  fin_cases a
  · exact h0
  · exact h1
  · change Host.clampedStart S128x1x128x8x64 S1x1x128x8x64 rfl (starts s) (Fin.succ 1) + r.val = r.val
    omega
  · change Host.clampedStart S128x1x128x8x64 S1x1x128x8x64 rfl (starts s) (Fin.succ 2) + h.val = h.val
    omega
  · change Host.clampedStart S128x1x128x8x64 S1x1x128x8x64 rfl (starts s) (Fin.succ 3) + d.val = d.val
    omega

theorem stNew_apply (lg : FVec Ideal S8 .f32) (st : FVec Ideal S1x8x64x64 .f32) (k v : FVec Ideal S1x128x8x64 .f32) (h : Fin 8) (d e : Fin 64) :
    stNew lg st k v (ix4 0 h d e) = gcR lg (ix1 h) * st (ix4 0 h d e) + ∑ m : Fin 128, k (ix4 0 m h d) * zetaR lg (ix2 m h) * v (ix4 0 m h e) := by
  unfold stNew
  pointwise

theorem oNew_apply (lg : FVec Ideal S8 .f32) (st : FVec Ideal S1x8x64x64 .f32) (q k v : FVec Ideal S1x128x8x64 .f32) (r : Fin 128) (h : Fin 8) (e : Fin 64) :
    oNew lg st q k v (ix4 0 r h e) = (∑ m : Fin 128, v (ix4 0 m h e) * ((∑ d : Fin 64, q (ix4 0 r h d) * k (ix4 0 m h d)) * decR lg (ix3 h r m)))
      + (∑ d : Fin 64, st (ix4 0 h d e) * q (ix4 0 r h d)) * xiR lg (ix2 r h) := by
  unfold oNew
  pointwise

theorem rowN_apply (r : Fin 128) : rowN (ix1 r) = ((r.val : ℝ) : EReal) := by
  unfold rowN
  pointwise
  exact sitofp_nat r.val (by omega)

section Tables
variable (lg : FVec Ideal S8 .f32) (hlg : ∀ h : Fin 8, lg (ix1 h) = ((lgR h.val : ℝ) : EReal))
include hlg

theorem gc_at (h : Fin 8) : gcR lg (ix1 h) = ((gR h.val ^ 128 : ℝ) : EReal) := by
  unfold gcR
  pointwise
  rw [hlg, bits_128]
  exact exp_lg _ _ _ (by norm_num)

theorem zeta_at (m : Fin 128) (h : Fin 8) : zetaR lg (ix2 m h) = ((gR h.val ^ (127 - m.val) : ℝ) : EReal) := by
  unfold zetaR
  pointwise
  rw [hlg, bits_127, rowN_apply, ← EReal.coe_sub]
  exact exp_lg _ _ _ (by rw [Nat.cast_sub (by omega)]; norm_num)

theorem xi_at (r : Fin 128) (h : Fin 8) : xiR lg (ix2 r h) = ((gR h.val ^ (r.val + 1) : ℝ) : EReal) := by
  unfold xiR
  pointwise
  rw [hlg, rowN_apply, ← EReal.coe_one, ← EReal.coe_add]
  exact exp_lg _ _ _ (by push_cast; ring)

theorem dec_at (h : Fin 8) (r m : Fin 128) : decR lg (ix3 h r m) = ((if m.val ≤ r.val then gR h.val ^ (r.val - m.val) else 0 : ℝ) : EReal) := by
  unfold decR rowD
  pointwise
  rw [hlg, rowN_apply, rowN_apply, ← EReal.coe_sub]
  have hc : (0 ≤ (((r.val : ℝ) - (m.val : ℝ) : ℝ) : EReal)) ↔ m.val ≤ r.val := by
    rw [EReal.coe_nonneg, sub_nonneg, Nat.cast_le]
  by_cases h : m.val ≤ r.val
  · rw [if_pos (hc.mpr h), if_pos h, max_eq_left (hc.mpr h)]
    exact exp_lg _ _ _ (by rw [Nat.cast_sub h])
  · rw [if_neg (fun h' => h (hc.mp h')), if_neg h]
    exact Ideal.ofBits_zero_f32

end Tables

end Cert.ReferenceIdeal.Value
end
-- ==== Proof.RefFold.lean ====
module

public import proofs.«01_k».proof.Proof.RefStep

@[expose] public section

set_option maxRecDepth 16384

noncomputable section

open Idealize.ShloMosaic Idealize.ShloMosaic.TcCoe Idealize.SL.Sem
open Cert.KernelIdeal.Value (oV stV)

namespace Cert.ReferenceIdeal.Value

open Cert.ReferenceIdeal Cert.ReferenceIdeal.Gen Cert.Recurrence Finset

section Step
variable (lg : FVec Ideal S8 .f32) (hlg : ∀ h : Fin 8, lg (ix1 h) = ((lgR h.val : ℝ) : EReal))
  (Q K V : ℕ → ℕ → ℝ) (N : ℕ) (st : FVec Ideal S1x8x64x64 .f32) (q k v : FVec Ideal S1x128x8x64 .f32)
  (hq : ∀ (r : Fin 128) (h : Fin 8) (d : Fin 64), q (ix4 0 r h d) = ((Q (N + r.val) (64 * h.val + d.val) : ℝ) : EReal))
  (hk : ∀ (r : Fin 128) (h : Fin 8) (d : Fin 64), k (ix4 0 r h d) = ((K (N + r.val) (64 * h.val + d.val) : ℝ) : EReal))
  (hv : ∀ (r : Fin 128) (h : Fin 8) (d : Fin 64), v (ix4 0 r h d) = ((V (N + r.val) (64 * h.val + d.val) : ℝ) : EReal))
  (hs : ∀ (h : Fin 8) (d e : Fin 64), st (ix4 0 h d e) = ((stV K V N h.val (64 * h.val + d.val) (64 * h.val + e.val) : ℝ) : EReal))

include hlg hk hv hs in
/-- The state after one chunk of the reference is the state of the longer recurrence. -/
theorem stNew_real (h : Fin 8) (d e : Fin 64) :
    stNew lg st k v (ix4 0 h d e) = ((stV K V (N + 128) h.val (64 * h.val + d.val) (64 * h.val + e.val) : ℝ) : EReal) := by
  rw [stNew_apply]
  simp only [gc_at lg hlg, zeta_at lg hlg, hk, hv, hs, ← EReal.coe_mul, coe_sum, ← EReal.coe_add]
  congr 1
  rw [stV, stV, ← stR_add,
    ← Fin.sum_univ_eq_sum_range (fun m => gR h.val ^ (128 - 1 - m) * (K (N + m) (64 * h.val + d.val) * V (N + m) (64 * h.val + e.val))) 128]
  congr 1
  refine sum_congr rfl fun m _ => ?_
  rw [show 128 - 1 - m.val = 127 - m.val by omega]; ring

include hlg hq hk hv hs in
/-- The outputs of one chunk of the reference are the recurrence's outputs at the chunk's rows. -/
theorem oNew_real (r : Fin 128) (h : Fin 8) (e : Fin 64) :
    oNew lg st q k v (ix4 0 r h e) = ((oV Q K V (N + r.val) h.val e.val : ℝ) : EReal) := by
  rw [oNew_apply]
  simp only [xi_at lg hlg, dec_at lg hlg, hq, hk, hv, hs, ← EReal.coe_mul, coe_sum, ← EReal.coe_add]
  congr 1
  simp only [stV, oV]
  rw [← oR_chunk (gR h.val) (fun d' : Fin 64 => Q (N + r.val) (64 * h.val + d'.val))
    (fun m d' => K m (64 * h.val + d'.val)) (fun m => V m (64 * h.val + e.val)) N 128 r.val r.isLt,
    ← Fin.sum_univ_eq_sum_range (fun m => (∑ d' : Fin 64, Q (N + r.val) (64 * h.val + d'.val) * K (N + m) (64 * h.val + d'.val)) *
          (if m ≤ r.val then gR h.val ^ (r.val - m) else 0) * V (N + m) (64 * h.val + e.val)) 128]
  congr 1
  · refine sum_congr rfl fun m _ => ?_
    ring
  · congr 1
    refine sum_congr rfl fun d _ => ?_
    ring

end Step

/-- What holds before the `k`-th chunk: the counter, the arguments' chunks, the decay's logarithm, the state and the chunks already made. -/
structure Inv (Q K V : ℕ → ℕ → ℝ) (n : ℕ) (W : Valuation τ sig (Elt Ideal)) : Prop where
  q : ∀ (j r : Fin 128) (h : Fin 8) (d : Fin 64), (W (Proc.devRef .tc main_v18_0) : FVec Ideal S128x1x128x8x64 .f32) (ix5 j 0 r h d)
    = ((Q (128 * j.val + r.val) (64 * h.val + d.val) : ℝ) : EReal)
  k : ∀ (j r : Fin 128) (h : Fin 8) (d : Fin 64), (W (Proc.devRef .tc main_v18_1) : FVec Ideal S128x1x128x8x64 .f32) (ix5 j 0 r h d)
    = ((K (128 * j.val + r.val) (64 * h.val + d.val) : ℝ) : EReal)
  v : ∀ (j r : Fin 128) (h : Fin 8) (d : Fin 64), (W (Proc.devRef .tc main_v18_2) : FVec Ideal S128x1x128x8x64 .f32) (ix5 j 0 r h d)
    = ((V (128 * j.val + r.val) (64 * h.val + d.val) : ℝ) : EReal)
  lg : ∀ h : Fin 8, (W (Proc.devRef .tc main_v18_3) : FVec Ideal S8 .f32) (ix1 h) = ((lgR h.val : ℝ) : EReal)
  ctr : (W (Proc.devRef .tc main_v18_4) : IVec S_ 32) = fun _ => BitVec.ofNat 32 n
  st : ∀ (h : Fin 8) (d e : Fin 64), (W (Proc.devRef .tc main_v18_5) : FVec Ideal S1x8x64x64 .f32) (ix4 0 h d e)
    = ((stV K V (128 * n) h.val (64 * h.val + d.val) (64 * h.val + e.val) : ℝ) : EReal)
  o : ∀ (j r : Fin 128) (h : Fin 8) (e : Fin 64), j.val < n → (W (Proc.devRef .tc main_v18_6) : FVec Ideal S128x1x128x8x64 .f32) (ix5 j 0 r h e)
    = ((oV Q K V (128 * j.val + r.val) h.val e.val : ℝ) : EReal)

/-- A chunk written into a stack: the chunk at its own place, the stack elsewhere. -/
theorem put_apply (x : FVec Ideal S128x1x128x8x64 .f32) (y : FVec Ideal S1x128x8x64 .f32) (s : IVec S_ 32) (k : Fin 128) (hs : s = fun _ => BitVec.ofNat 32 k.val)
    (j r : Fin 128) (h : Fin 8) (d : Fin 64) :
    (Host.dynamicUpdateSlice x (broadcastInDim S1x1x128x8x64 ![1, 2, 3, 4] bcast_S1x128x8x64_S1x1x128x8x64_1_2_3_4 y) (starts s)
      updateFits_S128x1x128x8x64_S1x1x128x8x64 : FVec Ideal S128x1x128x8x64 .f32) (ix5 j 0 r h d) = if j = k then y (ix4 0 r h d) else x (ix5 j 0 r h d) := by
  have h0 := clamp_0 s k.val k.isLt hs rfl
  have h1 := clamp_S s rfl 0
  have h2 := clamp_S s rfl 1
  have h3 := clamp_S s rfl 2
  have h4 := clamp_S s rfl 3
  rw [Host.dynamicUpdateSlice_apply]
  split
  · rename_i hin
    have hj := hin 0
    rw [h0] at hj
    have hjk : j = k := Fin.ext (by have : k.val ≤ j.val ∧ j.val < k.val + 1 := hj; omega)
    rw [if_pos hjk]
    pointwise
    refine congrArg y (funext fun a => Fin.ext ?_)
    fin_cases a
    · rfl
    · change r.val - Host.clampedStart S128x1x128x8x64 S1x1x128x8x64 rfl (starts s) (Fin.succ 1) = r.val
      omega
    · change h.val - Host.clampedStart S128x1x128x8x64 S1x1x128x8x64 rfl (starts s) (Fin.succ 2) = h.val
      omega
    · change d.val - Host.clampedStart S128x1x128x8x64 S1x1x128x8x64 rfl (starts s) (Fin.succ 3) = d.val
      omega
  · rename_i hin
    rw [if_neg]
    intro hjk
    apply hin
    intro a
    fin_cases a
    · change Host.clampedStart S128x1x128x8x64 S1x1x128x8x64 rfl (starts s) 0 ≤ j.val ∧ j.val < Host.clampedStart S128x1x128x8x64 S1x1x128x8x64 rfl (starts s) 0 + 1
      rw [h0, hjk]; omega
    · change Host.clampedStart S128x1x128x8x64 S1x1x128x8x64 rfl (starts s) (Fin.succ 0) ≤ 0 ∧ 0 < Host.clampedStart S128x1x128x8x64 S1x1x128x8x64 rfl (starts s) (Fin.succ 0) + 1
      omega
    · change Host.clampedStart S128x1x128x8x64 S1x1x128x8x64 rfl (starts s) (Fin.succ 1) ≤ r.val ∧ r.val < Host.clampedStart S128x1x128x8x64 S1x1x128x8x64 rfl (starts s) (Fin.succ 1) + 128
      omega
    · change Host.clampedStart S128x1x128x8x64 S1x1x128x8x64 rfl (starts s) (Fin.succ 2) ≤ h.val ∧ h.val < Host.clampedStart S128x1x128x8x64 S1x1x128x8x64 rfl (starts s) (Fin.succ 2) + 8
      omega
    · change Host.clampedStart S128x1x128x8x64 S1x1x128x8x64 rfl (starts s) (Fin.succ 3) ≤ d.val ∧ d.val < Host.clampedStart S128x1x128x8x64 S1x1x128x8x64 rfl (starts s) (Fin.succ 3) + 64
      omega

theorem inv_step (Q K V : ℕ → ℕ → ℝ) (k : ℕ) (hk : k < 128) (W : Valuation τ sig (Elt Ideal)) (I : Inv Q K V k W) : Inv Q K V (k + 1) (STEP W) := by
  have hc := I.ctr
  have eq : ∀ (r : Fin 128) (h : Fin 8) (d : Fin 64), chunk (W (Proc.devRef .tc main_v18_0)) (W (Proc.devRef .tc main_v18_4)) (ix4 0 r h d)
      = ((Q (128 * k + r.val) (64 * h.val + d.val) : ℝ) : EReal) := fun r h d => (chunk_apply _ _ ⟨k, hk⟩ hc r h d).trans (I.q _ r h d)
  have ek : ∀ (r : Fin 128) (h : Fin 8) (d : Fin 64), chunk (W (Proc.devRef .tc main_v18_1)) (W (Proc.devRef .tc main_v18_4)) (ix4 0 r h d)
      = ((K (128 * k + r.val) (64 * h.val + d.val) : ℝ) : EReal) := fun r h d => (chunk_apply _ _ ⟨k, hk⟩ hc r h d).trans (I.k _ r h d)
  have ev : ∀ (r : Fin 128) (h : Fin 8) (d : Fin 64), chunk (W (Proc.devRef .tc main_v18_2)) (W (Proc.devRef .tc main_v18_4)) (ix4 0 r h d)
      = ((V (128 * k + r.val) (64 * h.val + d.val) : ℝ) : EReal) := fun r h d => (chunk_apply _ _ ⟨k, hk⟩ hc r h d).trans (I.v _ r h d)
  constructor
  · rw [STEP_main_v18_0]; exact I.q
  · rw [STEP_main_v18_1]; exact I.k
  · rw [STEP_main_v18_2]; exact I.v
  · rw [STEP_main_v18_3]; exact I.lg
  · rw [STEP_main_v18_4]; unfold step_main_v18_4; rw [hc]; funext i
    change BitVec.ofNat 32 k + 1#32 = BitVec.ofNat 32 (k + 1)
    rw [BitVec.ofNat_add]
  · intro h d e
    rw [STEP_main_v18_5, step5]
    exact stNew_real _ I.lg K V (128 * k) _ _ _ ek ev I.st h d e
  · intro j r h e hj
    rw [STEP_main_v18_6, step6]
    refine (put_apply _ _ _ ⟨k, hk⟩ hc j r h e).trans ?_
    split
    · rename_i hjk
      subst hjk
      exact oNew_real _ I.lg Q K V (128 * k) _ _ _ _ eq ek ev I.st r h e
    · rename_i hjk
      exact I.o j r h e (by have : ¬ j.val = k := fun h' => hjk (Fin.ext h'); omega)

theorem inv_all (Q K V : ℕ → ℕ → ℝ) (W : Valuation τ sig (Elt Ideal)) (I : Inv Q K V 0 W) : ∀ k, k ≤ 128 → Inv Q K V k (STEP^[k] W)
  | 0, _ => I
  | k + 1, h => by
    rw [Function.iterate_succ_apply']
    exact inv_step Q K V k (by omega) _ (inv_all Q K V W I k (by omega))

section Entry
variable (m : (ℓ : Loc nD τ sig) → Buf (Elt Ideal) ℓ) (c : Dev nD) (Q K V : ℕ → ℕ → ℝ)
    (hq : ∀ (n : Fin 16384) (j : Fin 512), (m ((c.tc : Thread nD τ).loc main_arg0) : FVec Ideal S16384x512 .bf16) (ix2 n j) = ((Q n.val j.val : ℝ) : EReal))
    (hk : ∀ (n : Fin 16384) (j : Fin 512), (m ((c.tc : Thread nD τ).loc main_arg1) : FVec Ideal S16384x512 .bf16) (ix2 n j) = ((K n.val j.val : ℝ) : EReal))
    (hv : ∀ (n : Fin 16384) (j : Fin 512), (m ((c.tc : Thread nD τ).loc main_arg2) : FVec Ideal S16384x512 .bf16) (ix2 n j) = ((V n.val j.val : ℝ) : EReal))
include hq hk hv

theorem inv_entry : Inv Q K V 0 (StableHlo.entryContents preI m c) := by
  constructor
  · intro j r h d
    simp only [StableHlo.entryContents, StableHlo.afterL_cons, StableHlo.afterL_nil]
    after_reads_simp
    dsimp only [id]
    pointwise
    refine Eq.trans ?_ (hq ⟨128 * j.val + r.val, by omega⟩ ⟨64 * h.val + d.val, by omega⟩)
    refine congrArg (m ((c.tc : Thread nD τ).loc main_arg0) : FVec Ideal S16384x512 .bf16) (funext fun a => Fin.ext ?_)
    fin_cases a
    · change j.val * 128 + r.val = 128 * j.val + r.val
      omega
    · change h.val * 64 + d.val = 64 * h.val + d.val
      omega
  · intro j r h d
    simp only [StableHlo.entryContents, StableHlo.afterL_cons, StableHlo.afterL_nil]
    after_reads_simp
    dsimp only [id]
    pointwise
    refine Eq.trans ?_ (hk ⟨128 * j.val + r.val, by omega⟩ ⟨64 * h.val + d.val, by omega⟩)
    refine congrArg (m ((c.tc : Thread nD τ).loc main_arg1) : FVec Ideal S16384x512 .bf16) (funext fun a => Fin.ext ?_)
    fin_cases a
    · change j.val * 128 + r.val = 128 * j.val + r.val
      omega
    · change h.val * 64 + d.val = 64 * h.val + d.val
      omega
  · intro j r h d
    simp only [StableHlo.entryContents, StableHlo.afterL_cons, StableHlo.afterL_nil]
    after_reads_simp
    dsimp only [id]
    pointwise
    refine Eq.trans ?_ (hv ⟨128 * j.val + r.val, by omega⟩ ⟨64 * h.val + d.val, by omega⟩)
    refine congrArg (m ((c.tc : Thread nD τ).loc main_arg2) : FVec Ideal S16384x512 .bf16) (funext fun a => Fin.ext ?_)
    fin_cases a
    · change j.val * 128 + r.val = 128 * j.val + r.val
      omega
    · change h.val * 64 + d.val = 64 * h.val + d.val
      omega
  · intro h
    simp only [StableHlo.entryContents, StableHlo.afterL_cons, StableHlo.afterL_nil]
    after_reads_simp
    pointwise
    exact lg_printed h.val (by omega)
  · simp only [StableHlo.entryContents, StableHlo.afterL_cons, StableHlo.afterL_nil]
    after_reads_simp
    rfl
  · intro h d e
    simp only [StableHlo.entryContents, StableHlo.afterL_cons, StableHlo.afterL_nil]
    after_reads_simp
    dsimp only [id]
    pointwise
    rw [stV, stR_zero, EReal.coe_zero]
  · intro j r h e hj
    omega

end Entry

end Cert.ReferenceIdeal.Value
end
-- ==== Proof.Tables.lean ====
module

public import proofs.«01_k».proof.Proof.Gen.KernelIdeal.Frame
public import Idealize.ShloMosaic.Lib.Pipeline.ValueKit
public import Idealize.ShloMosaic.Lib.StableHlo.RunRead
public import Idealize.ShloMosaic.Lib.Pointwise
public import proofs.«01_k».proof.Proof.Decay
public import proofs.«01_k».proof.Proof.Pair
public import proofs.«01_k».proof.Proof.Gen.KernelIdeal.Value
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen Cert.Recurrence Finset

theorem idx : ∀ t : Fin cfg0.N, win0_0.index t = ![t.val, 0] ∧ win0_1.index t = ![t.val, 0] ∧ win0_2.index t = ![t.val, 0]
    ∧ win0_3.index t = ![t.val, 0] ∧ win0_4.index t = ![0, 0, 0] ∧ win0_5.index t = ![0, 0] ∧ win0_6.index t = ![0, 0]
    ∧ win0_7.index t = ![0, 0] ∧ win0_8.index t = ![0, 0] ∧ win0_9.index t = ![t.val, 0] ∧ win0_10.index t = ![0, 0, 0] :=
  (by decide +kernel : ∀ t : Fin grid0.N, _)

/-- The host's integer quotient by 64, on a lane's number. -/
theorem fdivH : ∀ x : Fin 128, Scalar.select
          (IntOp.andi
            (IntOp.cmpi CmpIPredicate.ne
              (if BitVec.ofNat 32 ↑x = 0 then (0 : BitVec 32) else if (BitVec.ofNat 32 ↑x).msb = true then -1 else 1)
              (if constantI S_ 32 64#32 ix0 = 0 then (0 : BitVec 32)
              else if BitVec.msb (constantI S_ 32 64#32 ix0) = true then -1 else 1))
            (IntOp.cmpi CmpIPredicate.ne
              (IntOp.remsi ArithUnit.host (BitVec.ofNat 32 ↑x) (constantI S_ 32 64#32 ix0)) 0#32))
          (IntOp.subi (IntOp.divsi ArithUnit.host (BitVec.ofNat 32 ↑x) (constantI S_ 32 64#32 ix0)) 1#32)
          (IntOp.divsi ArithUnit.host (BitVec.ofNat 32 ↑x) (constantI S_ 32 64#32 ix0)) = BitVec.ofNat 32 (x.val / 64) := by decide +kernel

theorem blk4 (m : (ℓ : Loc nD τ sig) → Buf (Elt Ideal) ℓ) (c : Dev nD) (t : Fin cfg0.N) (h : Fin 8) (r n : Fin 256) : (iblk m c 4 t : Vec Ideal S8x256x256 .f32) (ix3 h r n) = (V m c main_v23 : Vec Ideal S8x256x256 .f32) (ix3 h r n) := by
  blk_ext [iblk, idx t]

theorem tab4 (m : (ℓ : Loc nD τ sig) → Buf (Elt Ideal) ℓ) (c : Dev nD) (h : Fin 8) (r n : Fin 256) : (V m c main_v23 : Vec Ideal S8x256x256 .f32) (ix3 h r n) = ((if n.val ≤ r.val then gR h.val ^ (r.val - n.val) else 0 : ℝ) : EReal) := by
  simp only [V, hostOps0, hostOps0_1, hostOps0_2, hostOps0_3, hostOps0_4, hostOps0_5, hostOps0_6, hostOps0_7, hostOps0_8, List.flatten_cons, List.flatten_nil, List.append_nil, List.cons_append, List.nil_append]
  after_reads_simp
  simp only [StableHlo.TRef.ofBuf, StableHlo.TRef.toBuf, cast_eq]
  pointwise
  rw [lg_printed _ (by omega), sitofp_nat _ (by omega), sitofp_nat _ (by omega), ← EReal.coe_sub]
  have hc : (0 ≤ (((r.val : ℝ) - (n.val : ℝ) : ℝ) : EReal)) ↔ n.val ≤ r.val := by
    rw [EReal.coe_nonneg, sub_nonneg, Nat.cast_le]
  by_cases h : n.val ≤ r.val
  · rw [if_pos (hc.mpr h), if_pos h, max_eq_left (hc.mpr h)]
    exact exp_lg _ _ _ (by rw [Nat.cast_sub h])
  · rw [if_neg (fun h' => h (hc.mp h')), if_neg h]
    exact Ideal.ofBits_zero_f32

theorem blk5 (m : (ℓ : Loc nD τ sig) → Buf (Elt Ideal) ℓ) (c : Dev nD) (t : Fin cfg0.N) (r : Fin 256) (n : Fin 512) : (iblk m c 5 t : Vec Ideal S256x512 .f32) (ix2 r n) = (V m c main_v45 : Vec Ideal S256x512 .f32) (ix2 r n) := by
  blk_ext [iblk, idx t]

theorem tab5 (m : (ℓ : Loc nD τ sig) → Buf (Elt Ideal) ℓ) (c : Dev nD) (r : Fin 256) (n : Fin 512) : (V m c main_v45 : Vec Ideal S256x512 .f32) (ix2 r n) = ((gR (n.val / 64) ^ (r.val + 1) : ℝ) : EReal) := by
  simp only [V, hostOps0, hostOps0_1, hostOps0_2, hostOps0_3, hostOps0_4, hostOps0_5, hostOps0_6, hostOps0_7, hostOps0_8, List.flatten_cons, List.flatten_nil, List.append_nil, List.cons_append, List.nil_append]
  after_reads_simp
  pointwise
  rw [lg_printed _ (by omega), sitofp_nat _ (by omega), ← EReal.coe_one, ← EReal.coe_add]
  exact exp_lg _ _ _ (by push_cast; ring)

theorem blk6 (m : (ℓ : Loc nD τ sig) → Buf (Elt Ideal) ℓ) (c : Dev nD) (t : Fin cfg0.N) (r : Fin 256) (n : Fin 512) : (iblk m c 6 t : Vec Ideal S256x512 .f32) (ix2 r n) = (V m c main_v47 : Vec Ideal S256x512 .f32) (ix2 r n) := by
  blk_ext [iblk, idx t]

theorem tab6 (m : (ℓ : Loc nD τ sig) → Buf (Elt Ideal) ℓ) (c : Dev nD) (r : Fin 256) (n : Fin 512) : (V m c main_v47 : Vec Ideal S256x512 .f32) (ix2 r n) = ((gR (n.val / 64) ^ (255 - r.val) : ℝ) : EReal) := by
  simp only [V, hostOps0, hostOps0_1, hostOps0_2, hostOps0_3, hostOps0_4, hostOps0_5, hostOps0_6, hostOps0_7, hostOps0_8, List.flatten_cons, List.flatten_nil, List.append_nil, List.cons_append, List.nil_append]
  after_reads_simp
  pointwise
  rw [lg_printed _ (by omega), sitofp_nat _ (by omega), bits_255, ← EReal.coe_sub]
  exact exp_lg _ _ _ (by rw [Nat.cast_sub (by omega)]; norm_num)

theorem blk7 (m : (ℓ : Loc nD τ sig) → Buf (Elt Ideal) ℓ) (c : Dev nD) (t : Fin cfg0.N) (n : Fin 512) : (iblk m c 7 t : Vec Ideal S1x512 .f32) (ix2 0 n) = (V m c main_v49 : Vec Ideal S1x512 .f32) (ix2 0 n) := by
  blk_ext [iblk, idx t]

theorem tab7 (m : (ℓ : Loc nD τ sig) → Buf (Elt Ideal) ℓ) (c : Dev nD) (n : Fin 512) : (V m c main_v49 : Vec Ideal S1x512 .f32) (ix2 0 n) = ((gR (n.val / 64) ^ 256 : ℝ) : EReal) := by
  simp only [V, hostOps0, hostOps0_1, hostOps0_2, hostOps0_3, hostOps0_4, hostOps0_5, hostOps0_6, hostOps0_7, hostOps0_8, List.flatten_cons, List.flatten_nil, List.append_nil, List.cons_append, List.nil_append]
  after_reads_simp
  pointwise
  rw [lg_printed _ (by omega), bits_256]
  exact exp_lg _ _ _ (by norm_num)

theorem blk8 (m : (ℓ : Loc nD τ sig) → Buf (Elt Ideal) ℓ) (c : Dev nD) (t : Fin cfg0.N) (x l : Fin 128) : (iblk m c 8 t : Vec Ideal S128x128 .f32) (ix2 x l) = (V m c main_v59 : Vec Ideal S128x128 .f32) (ix2 x l) := by
  blk_ext [iblk, idx t]

theorem tab8 (m : (ℓ : Loc nD τ sig) → Buf (Elt Ideal) ℓ) (c : Dev nD) (x l : Fin 128) : (V m c main_v59 : Vec Ideal S128x128 .f32) (ix2 x l) = ((if x.val / 64 = l.val / 64 then 1 / 64 else 0 : ℝ) : EReal) := by
  simp only [V, hostOps0, hostOps0_1, hostOps0_2, hostOps0_3, hostOps0_4, hostOps0_5, hostOps0_6, hostOps0_7, hostOps0_8, List.flatten_cons, List.flatten_nil, List.append_nil, List.cons_append, List.nil_append]
  after_reads_simp
  simp only [StableHlo.TRef.ofBuf, StableHlo.TRef.toBuf, cast_eq]
  refine (congrFun (id_eq _) (ix2 x l)).trans ?_
  pointwise
  simp only [id_eq, fdivH, eq64, sel_bool, bits_64th]
  split <;> simp

end Cert.KernelIdeal.Value
end
-- ==== Proof.Fold.lean ====
module

public import proofs.«01_k».proof.Proof.Gen.KernelIdeal.Frame
public import Idealize.ShloMosaic.Lib.Pipeline.ValueKit
public import Idealize.ShloMosaic.Lib.Pointwise
public import proofs.«01_k».proof.Proof.Step
public import proofs.«01_k».proof.Proof.Tables
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen Cert.Recurrence Finset

section Fold
variable (m : (ℓ : Loc nD τ sig) → Buf (Elt Ideal) ℓ) (c : Dev nD)

theorem hN : ∀ t : Fin cfg0.N, t.val < 64 := (by decide +kernel : ∀ t : Fin grid0.N, t.val < 64)

theorem blk0 (t : Fin cfg0.N) (r : Fin 256) (j : Fin 512) : (iblk m c 0 t : Vec Ideal S256x512 .bf16) (ix2 r j)
    = (m ((c : Thread nD τ).loc main_arg0) : Vec Ideal S16384x512 .bf16) (ix2 ⟨256 * t.val + r.val, by have := hN t; omega⟩ j) := by
  rw [← V_main_arg0 m c]
  blk_ext [iblk, idx t]

theorem blk1 (t : Fin cfg0.N) (r : Fin 256) (j : Fin 512) : (iblk m c 1 t : Vec Ideal S256x512 .bf16) (ix2 r j)
    = (m ((c : Thread nD τ).loc main_arg1) : Vec Ideal S16384x512 .bf16) (ix2 ⟨256 * t.val + r.val, by have := hN t; omega⟩ j) := by
  rw [← V_main_arg1 m c]
  blk_ext [iblk, idx t]

theorem blk2 (t : Fin cfg0.N) (r : Fin 256) (j : Fin 512) : (iblk m c 2 t : Vec Ideal S256x512 .bf16) (ix2 r j)
    = (m ((c : Thread nD τ).loc main_arg2) : Vec Ideal S16384x512 .bf16) (ix2 ⟨256 * t.val + r.val, by have := hN t; omega⟩ j) := by
  rw [← V_main_arg2 m c]
  blk_ext [iblk, idx t]

theorem blk3 (t : Fin cfg0.N) (r : Fin 256) (j : Fin 512) : (iblk m c 3 t : Vec Ideal S256x512 .f32) (ix2 r j)
    = (m ((c : Thread nD τ).loc main_arg3) : Vec Ideal S16384x512 .f32) (ix2 ⟨256 * t.val + r.val, by have := hN t; omega⟩ j) := by
  rw [← V_main_arg3 m c]
  blk_ext [iblk, idx t]

variable (Q K V : ℕ → ℕ → ℝ) (R : ℕ → ℕ → EReal)
  (hq : ∀ (n : Fin 16384) (j : Fin 512), (m ((c : Thread nD τ).loc main_arg0) : Vec Ideal S16384x512 .bf16) (ix2 n j) = ((Q n.val j.val : ℝ) : EReal))
  (hk : ∀ (n : Fin 16384) (j : Fin 512), (m ((c : Thread nD τ).loc main_arg1) : Vec Ideal S16384x512 .bf16) (ix2 n j) = ((K n.val j.val : ℝ) : EReal))
  (hv : ∀ (n : Fin 16384) (j : Fin 512), (m ((c : Thread nD τ).loc main_arg2) : Vec Ideal S16384x512 .bf16) (ix2 n j) = ((V n.val j.val : ℝ) : EReal))
  (hr : ∀ (n : Fin 16384) (j : Fin 512), (m ((c : Thread nD τ).loc main_arg3) : Vec Ideal S16384x512 .f32) (ix2 n j) = R n.val j.val)

theorem zero_slab (p : Fin 4) (a b : Fin 128) : (k0_pay2 (F := Ideal) : Vec Ideal S4x128x128 .f32) (ix3 p a b) =
      ((if a.val / 64 = b.val / 64 then stV K V 0 (2 * p.val + b.val / 64) (128 * p.val + a.val) (128 * p.val + b.val) else 0 : ℝ) : EReal) := by
  simp only [stV, stR_zero, ite_self]
  exact Ideal.ofBits_zero_f32

include hk hv in
/-- The carried state after every grid point. -/
theorem st_at : ∀ (n : ℕ) (hn : n < cfg0.N) (p : Fin 4) (a b : Fin 128), (outsAt0 m c n hn).2 (ix3 p a b) =
      ((if a.val / 64 = b.val / 64 then stV K V (256 * (n + 1)) (2 * p.val + b.val / 64) (128 * p.val + a.val) (128 * p.val + b.val) else 0 : ℝ) : EReal) := by
  intro n
  induction n with
  | zero =>
    intro hn p a b
    have h0 : (⟨0, hn⟩ : Fin cfg0.N).val % 64 = 0 := rfl
    rw [outsAt0_A m c ⟨0, hn⟩ h0]
    dsimp only
    rw [st_A]
    exact step_st _ _ _ _ _ K V (256 * 0) (fun r j => by rw [blk1, hk]) (fun r j => by rw [blk2, hv])
      (fun r j => by rw [Value.blk6, tab6]) (fun j => by rw [Value.blk7, tab7]) (zero_slab K V) p a b
  | succ n ih =>
    intro hn p a b
    have h0 : ¬ (n + 1) % 64 = 0 := by have := hN ⟨n + 1, hn⟩; simp only at this; omega
    rw [outsAt0_B m c ⟨n + 1, hn⟩ h0]
    dsimp only
    rw [st_B]
    exact step_st _ _ _ _ _ K V (256 * (n + 1)) (fun r j => by rw [blk1, hk]) (fun r j => by rw [blk2, hv])
      (fun r j => by rw [Value.blk6, tab6]) (fun j => by rw [Value.blk7, tab7]) (ih (by omega)) p a b

include hq hk hv hr in
/-- What every grid point leaves in its block of the output. -/
theorem out_at (t : Fin cfg0.N) (p : Fin 4) (r : Fin 256) (l : Fin 128) :
    (outsAt0 m c t.val t.isLt).1 (ix2 r ⟨128 * p.val + l.val, by omega⟩) =
      R (256 * t.val + r.val) (128 * p.val + l.val) * Ideal.logistic (R (256 * t.val + r.val) (128 * p.val + l.val))
        * hnorm (fun d => oV Q K V (256 * t.val + r.val) (2 * p.val + l.val / 64) d.val) ⟨l.val % 64, by omega⟩ := by
  have hr' : (iblk m c 3 t : Vec Ideal S256x512 .f32) (ix2 r ⟨128 * p.val + l.val, by omega⟩) = R (256 * t.val + r.val) (128 * p.val + l.val) := by
    rw [blk3, hr]
  rw [← hr']
  by_cases h0 : t.val % 64 = 0
  · have ht : t.val = 0 := by have := hN t; omega
    rw [outsAt0_A m c t h0]
    dsimp only
    rw [out_A]
    exact step_out _ _ _ _ _ _ _ _ Q K V (256 * t.val) (fun r j => by rw [blk0, hq]) (fun r j => by rw [blk1, hk]) (fun r j => by rw [blk2, hv])
      (fun h r n => by rw [Value.blk4, tab4]) (fun r j => by rw [Value.blk5, tab5]) (fun x l => by rw [Value.blk8, tab8]) (by rw [ht]; exact zero_slab K V) p r l
  · rw [outsAt0_B m c t h0]
    dsimp only
    rw [out_B]
    have hp : t.val - 1 < cfg0.N := by have := t.isLt; omega
    exact step_out _ _ _ _ _ _ _ _ Q K V (256 * t.val) (fun r j => by rw [blk0, hq]) (fun r j => by rw [blk1, hk]) (fun r j => by rw [blk2, hv])
      (fun h r n => by rw [Value.blk4, tab4]) (fun r j => by rw [Value.blk5, tab5]) (fun x l => by rw [Value.blk8, tab8])
      (fun p a b => by have := st_at m c K V hk hv (t.val - 1) hp p a b; rw [show t.val - 1 + 1 = t.val by omega] at this; exact this) p r l

end Fold

end Cert.KernelIdeal.Value
end
-- ==== Proof.Arrays.lean ====
module

public import proofs.«01_k».proof.Proof.Gen.KernelIdeal.Frame
public import Idealize.ShloMosaic.Lib.Pipeline.ValueKit
public import Idealize.ShloMosaic.Lib.Pointwise
public import proofs.«01_k».proof.Proof.Fold
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen Cert.Recurrence Finset

section Arrays
variable (m : (ℓ : Loc nD τ sig) → Buf (Elt Ideal) ℓ) (c : Dev nD)

variable (Q K V : ℕ → ℕ → ℝ) (R : ℕ → ℕ → EReal)
  (hq : ∀ (n : Fin 16384) (j : Fin 512), (m ((c : Thread nD τ).loc main_arg0) : Vec Ideal S16384x512 .bf16) (ix2 n j) = ((Q n.val j.val : ℝ) : EReal))
  (hk : ∀ (n : Fin 16384) (j : Fin 512), (m ((c : Thread nD τ).loc main_arg1) : Vec Ideal S16384x512 .bf16) (ix2 n j) = ((K n.val j.val : ℝ) : EReal))
  (hv : ∀ (n : Fin 16384) (j : Fin 512), (m ((c : Thread nD τ).loc main_arg2) : Vec Ideal S16384x512 .bf16) (ix2 n j) = ((V n.val j.val : ℝ) : EReal))
  (hr : ∀ (n : Fin 16384) (j : Fin 512), (m ((c : Thread nD τ).loc main_arg3) : Vec Ideal S16384x512 .f32) (ix2 n j) = R n.val j.val)

/-- The output array: every row's retention, normed by head and gated. -/
def resO : Vec Ideal S16384x512 .bf16 := fun i =>
  R (i 0).val (i 1).val * Ideal.logistic (R (i 0).val (i 1).val)
    * hnorm (fun d => oV Q K V (i 0).val ((i 1).val / 64) d.val) ⟨(i 1).val % 64, by omega⟩

/-- The state array: each pair's two heads on the diagonal blocks. -/
def resS : Vec Ideal S4x128x128 .f32 := fun i =>
  ((if (i 1).val / 64 = (i 2).val / 64 then
    stV K V 16384 (2 * (i 0).val + (i 2).val / 64) (128 * (i 0).val + (i 1).val) (128 * (i 0).val + (i 2).val) else 0 : ℝ) : EReal)

include hq hk hv hr in
theorem arr9 : (dats m 0 c).arrAt 9 cfg0.N = resO Q K V R := by
  refine (dats m 0 c).arrAt_eq_of_covers 9 _ (by decide +kernel) fun t hf y => ?_
  rw [after0_9]
  idx_vars y
  have he : ((View.whole main_v60_0).slice ((win0 9).rect t)).emb (ix2 y0 y1) = (ix2 ⟨256 * t.val + y0.val, by have := hN t; omega⟩ y1 : S16384x512.Idx) := by
    blk_ext [idx t]
  have h := out_at m c Q K V R hq hk hv hr t ⟨y1.val / 128, by omega⟩ y0 ⟨y1.val % 128, by omega⟩
  have hy : (⟨128 * (y1.val / 128) + y1.val % 128, by omega⟩ : Fin 512) = y1 := Fin.ext (by change 128 * (y1.val / 128) + y1.val % 128 = y1.val; omega)
  simp only at h
  rw [hy] at h
  refine (show _ = (outsAt0 m c t.val t.isLt).1 (ix2 y0 y1) from rfl).trans (h.trans ?_)
  refine Eq.trans ?_ (congrArg (resO Q K V R) he).symm
  change _ = R (256 * t.val + y0.val) y1.val * Ideal.logistic (R (256 * t.val + y0.val) y1.val)
    * hnorm (fun d => oV Q K V (256 * t.val + y0.val) (y1.val / 64) d.val) ⟨y1.val % 64, by omega⟩
  have e1 : 128 * (y1.val / 128) + y1.val % 128 = y1.val := by omega
  have e2 : 2 * (y1.val / 128) + y1.val % 128 / 64 = y1.val / 64 := by omega
  have e3 : y1.val % 128 % 64 = y1.val % 64 := by omega
  simp only [e1, e2, e3]

include hk hv in
theorem arr10 : (dats m 0 c).arrAt 10 cfg0.N = resS K V := by
  refine Dat.arrAt_eq_of_after_last (dats m 0 c) 10 ⟨63, by decide⟩ (by decide +kernel) _ fun j => ?_
  rw [after0_10]
  idx_vars j
  exact st_at m c K V hk hv 63 (by decide) j0 j1 j2
end Arrays

end Cert.KernelIdeal.Value
end
-- ==== Proof.RefOut.lean ====
module

public import proofs.«01_k».proof.Proof.RefFold
public import proofs.«01_k».proof.Proof.Arrays

@[expose] public section

set_option maxRecDepth 16384

noncomputable section

open Idealize.ShloMosaic Idealize.ShloMosaic.TcCoe Idealize.SL.Sem
open Cert.KernelIdeal.Value (oV stV hnorm)

namespace Cert.ReferenceIdeal.Value

open Cert.ReferenceIdeal Cert.ReferenceIdeal.Gen Cert.Recurrence Finset

variable (Q K V : ℕ → ℕ → ℝ) (W : Valuation τ sig (Elt Ideal)) (I : Inv Q K V 128 W)

/-- The chunks' outputs, put back in the order of the rows. -/
def rows (s : FVec Ideal S128x1x128x8x64 .f32) : FVec Ideal S1x16384x8x64 .f32 :=
  shapeCast _ (transpose S1x128x128x8x64 [1, 0, 2, 3, 4] s transposes_S128x1x128x8x64_S1x128x128x8x64_1_0_2_3_4) shapeCasts_S1x128x128x8x64_S1x16384x8x64

/-- The mean over a head's 64 columns. -/
def meanV (o : FVec Ideal S1x16384x8x64 .f32) : FVec Ideal S1x16384x8x1 .f32 :=
  Host.divf (broadcastInDim S1x16384x8x1 ![0, 1, 2] bcast_S1x16384x8_S1x16384x8x1_0_1_2 (Host.reduceAdd o (constant S_ .f32 0x00000000#32) reducesTo_S1x16384x8x64_S1x16384x8_d3 h_S_)) (broadcastInDim S1x16384x8x1 ![] bcast_S_S1x16384x8x1 (constant S_ .f32 0x42800000#32))

/-- A head's columns less their mean. -/
def centV (o : FVec Ideal S1x16384x8x64 .f32) : FVec Ideal S1x16384x8x64 .f32 :=
  subf o (broadcastInDim S1x16384x8x64 ![0, 1, 2, 3] bcast_S1x16384x8x1_S1x16384x8x64_0_1_2_3 (meanV o))

/-- The normalised outputs. -/
def normV (o : FVec Ideal S1x16384x8x64 .f32) : FVec Ideal S1x16384x8x64 .f32 :=
  mulf (centV o) (broadcastInDim S1x16384x8x64 ![0, 1, 2, 3] bcast_S1x16384x8x1_S1x16384x8x64_0_1_2_3 (Host.rsqrt (addf (meanV (mulf (centV o) (centV o))) (broadcastInDim S1x16384x8x1 ![] bcast_S_S1x16384x8x1 (constant S_ .f32 0x358637BD#32)))))

/-- The gate. -/
def gateV (g : FVec Ideal S16384x512 .f32) : FVec Ideal S16384x512 .f32 :=
  mulf g (Host.divf (broadcastInDim S16384x512 ![] bcast_S_S16384x512 (constant S_ .f32 0x3F800000#32)) (addf (broadcastInDim S16384x512 ![] bcast_S_S16384x512 (constant S_ .f32 0x3F800000#32)) (Host.exp (Host.negf g))))

theorem out52 : out_main_v52 W = (truncf .bf16 (mulf (gateV (W (Proc.devRef .tc main_arg3)))
    (shapeCast S16384x512 (normV (rows (W (Proc.devRef .tc main_v18_6)))) shapeCasts_S1x16384x8x64_S16384x512)) bitsLt_bf16_f32 : FVec Ideal S16384x512 .bf16) := rfl

theorem rows_apply (s : FVec Ideal S128x1x128x8x64 .f32) (n : Fin 16384) (h : Fin 8) (e : Fin 64) :
    rows s (ix4 0 n h e) = s (ix5 ⟨n.val / 128, by omega⟩ 0 ⟨n.val % 128, by omega⟩ h e) := by
  unfold rows
  pointwise

/-- A quotient by 64 is a product with 1/64. -/
theorem div_64 (x : ℝ) : Ideal.div ((x : ℝ) : EReal) ((64 : ℝ) : EReal) = ((x * (1 / 64) : ℝ) : EReal) := by
  rw [Ideal.div, if_neg (by rw [← EReal.coe_zero, EReal.coe_eq_coe_iff]; norm_num), ← EReal.coe_inv, ← EReal.coe_mul, one_div]

theorem meanV_apply (o : FVec Ideal S1x16384x8x64 .f32) (n : Fin 16384) (h : Fin 8) (f : Fin 64 → ℝ) (hf : ∀ e, o (ix4 0 n h e) = ((f e : ℝ) : EReal)) :
    meanV o (ix4 0 n h 0) = ((mean64 f : ℝ) : EReal) := by
  unfold meanV
  pointwise
  simp only [hf, coe_sum]
  rw [bits_64, div_64, mean64]

theorem centV_apply (o : FVec Ideal S1x16384x8x64 .f32) (n : Fin 16384) (h : Fin 8) (f : Fin 64 → ℝ) (hf : ∀ e, o (ix4 0 n h e) = ((f e : ℝ) : EReal)) (e : Fin 64) :
    centV o (ix4 0 n h e) = ((f e - mean64 f : ℝ) : EReal) := by
  unfold centV
  pointwise
  rw [meanV_apply o n h f hf, hf, EReal.coe_sub]

theorem normV_apply (o : FVec Ideal S1x16384x8x64 .f32) (n : Fin 16384) (h : Fin 8) (f : Fin 64 → ℝ) (hf : ∀ e, o (ix4 0 n h e) = ((f e : ℝ) : EReal)) (e : Fin 64) :
    normV o (ix4 0 n h e) = hnorm f e := by
  unfold normV
  pointwise
  rw [centV_apply o n h f hf, meanV_apply (mulf (centV o) (centV o)) n h (fun e => (f e - mean64 f) * (f e - mean64 f)) (fun e => ?_)]
  · rfl
  · pointwise
    rw [centV_apply o n h f hf, EReal.coe_mul]

theorem gateV_apply (g : FVec Ideal S16384x512 .f32) (n : Fin 16384) (j : Fin 512) : gateV g (ix2 n j) = g (ix2 n j) * Ideal.logistic (g (ix2 n j)) := by
  unfold gateV
  pointwise
  rfl

include I in
theorem out52_apply (n : Fin 16384) (j : Fin 512) (x : EReal) (hx : (W (Proc.devRef .tc main_arg3) : FVec Ideal S16384x512 .f32) (ix2 n j) = x) : (out_main_v52 W : FVec Ideal S16384x512 .bf16) (ix2 n j) =
    x * Ideal.logistic x
      * hnorm (fun d => oV Q K V n.val (j.val / 64) d.val) (⟨j.val % 64, by omega⟩ : Fin 64) := by
  rw [out52]
  pointwise
  rw [gateV_apply, hx]
  have hj : ∀ e : Fin 64, rows (W (Proc.devRef .tc main_v18_6)) (ix4 0 n ⟨j.val / 64, by omega⟩ e) = ((oV Q K V n.val (j.val / 64) e.val : ℝ) : EReal) := fun e => by
    rw [rows_apply, I.o _ _ _ _ (by change n.val / 128 < 128; omega)]
    have : 128 * (n.val / 128) + n.val % 128 = n.val := by omega
    simp only [this]
  exact congrArg (_ * ·) (normV_apply _ n ⟨j.val / 64, by omega⟩ _ hj _)

include I in
theorem out51_apply (p : Fin 4) (a b : Fin 128) : (out_main_v51 W : FVec Ideal S4x128x128 .f32) (ix3 p a b) =
    ((if a.val / 64 = b.val / 64 then stV K V 16384 (2 * p.val + b.val / 64) (128 * p.val + a.val) (128 * p.val + b.val) else 0 : ℝ) : EReal) := by
  unfold out_main_v51
  pointwise
  split
  · rename_i ha
    split
    · rename_i hb
      have h : a.val / 64 = b.val / 64 := by omega
      refine (I.st _ _ _).trans (congrArg (fun x : ℝ => (x : EReal)) (Eq.trans ?_ (if_pos h).symm))
      change stV K V (128 * 128) (p.val * 2) (64 * (p.val * 2) + a.val) (64 * (p.val * 2) + b.val) = _
      congr 1 <;> omega
    · rename_i hb
      have h : ¬ a.val / 64 = b.val / 64 := by omega
      exact EReal.coe_zero.symm.trans (congrArg (fun x : ℝ => (x : EReal)) (if_neg h)).symm
  · rename_i ha
    split
    · rename_i hb
      have h : ¬ a.val / 64 = b.val / 64 := by omega
      exact EReal.coe_zero.symm.trans (congrArg (fun x : ℝ => (x : EReal)) (if_neg h)).symm
    · rename_i hb
      have h : a.val / 64 = b.val / 64 := by omega
      refine (I.st _ _ _).trans (congrArg (fun x : ℝ => (x : EReal)) (Eq.trans ?_ (if_pos h).symm))
      change stV K V (128 * 128) (p.val * 2 + 1) (64 * (p.val * 2 + 1) + (a.val - 64)) (64 * (p.val * 2 + 1) + (b.val - 64)) = _
      congr 1 <;> omega

end Cert.ReferenceIdeal.Value
end
-- ==== Proof.Finite.lean ====
module

public import proofs.«01_k».proof.Pre_finite_qkv
public import Idealize.ShloMosaic.Lib.Pointwise

@[expose] public section

set_option maxRecDepth 16384

noncomputable section

open Idealize.ShloMosaic Idealize.ShloMosaic.TcCoe Idealize.SL.Sem

namespace Cert.Pre_finite_qkv

/-- The shape relation the precondition states. -/
theorem facts : Facts := ⟨by decide⟩

/-- The real number at a row and a column of a finite array, zero outside the array. -/
def realAt (x : FVec Ideal S16384x512 .bf16) (n j : ℕ) : ℝ :=
  if h : n < 16384 ∧ j < 512 then (x (ix2 ⟨n, h.1⟩ ⟨j, h.2⟩)).toReal else 0

/-- The element at a row and a column of an array, zero outside the array. -/
def elemAt (x : FVec Ideal S16384x512 .f32) (n j : ℕ) : EReal :=
  if h : n < 16384 ∧ j < 512 then x (ix2 ⟨n, h.1⟩ ⟨j, h.2⟩) else 0

theorem elemAt_eq (x : FVec Ideal S16384x512 .f32) (n : Fin 16384) (j : Fin 512) : x (ix2 n j) = elemAt x n.val j.val := by
  rw [elemAt, dif_pos ⟨n.isLt, j.isLt⟩]

/-- An extended real whose absolute value is below infinity is a real. -/
theorem real_of_abs_lt (x : EReal) (h : (FloatOps.absf (F := Ideal) (φ := .bf16) x : EReal) < ⊤) : ((x.toReal : ℝ) : EReal) = x := by
  refine EReal.coe_toReal ?_ ?_
  · rintro rfl; exact absurd h (by simp [FloatOps.absf])
  · rintro rfl; exact absurd h (by simp [FloatOps.absf])

theorem inf_bits : Ideal.ofBits .bf16 32640#16 = (⊤ : EReal) := by
  simp [Ideal.ofBits, Ideal.ieee]

theorem realAt_eq (x : FVec Ideal S16384x512 .bf16) (hb : S_.BroadcastsInDim S16384x512 (![] : Fin 0 → Fin S16384x512.rank))
    (h : cmpf .olt (Host.absf x) (broadcastInDim S16384x512 ![] hb (constant S_ .bf16 0x7F80#16)) = fun _ => 1#1) (n : Fin 16384) (j : Fin 512) :
    x (ix2 n j) = ((realAt x n.val j.val : ℝ) : EReal) := by
  rw [realAt, dif_pos ⟨n.isLt, j.isLt⟩]
  have := congrFun h (ix2 n j)
  revert this
  pointwise
  rw [inf_bits]
  intro this
  refine (real_of_abs_lt _ ?_).symm
  by_contra hc
  rw [decide_eq_false hc] at this
  exact absurd this (by decide)

end Cert.Pre_finite_qkv
end
-- ==== Proof.Retention.lean ====
module

public import proofs.«01_k».proof.Defs
public import proofs.«01_k».proof.Proof.RefOut
public import proofs.«01_k».proof.Proof.Finite
public import proofs.«01_k».proof.Proof.Arrays
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import Idealize.ShloMosaic.Adequacy
public import Idealize.ShloMosaic.Init

@[expose] public section

set_option maxRecDepth 16384

noncomputable section

open Idealize.ShloMosaic Idealize.ShloMosaic.TcCoe Idealize.SL.Sem

namespace Cert.Retention

open Cert.Pre_finite_qkv (realAt elemAt realAt_eq elemAt_eq)
open Cert.KernelIdeal.Value (resO resS)

section Reference
open Cert.ReferenceIdeal

variable (m : (ℓ : Loc nD τ sig) → Buf (Elt Ideal) ℓ) (c : Dev nD) (Q K V : ℕ → ℕ → ℝ) (R : ℕ → ℕ → EReal)
    (hq : ∀ (n : Fin 16384) (j : Fin 512), (m ((c.tc : Thread nD τ).loc main_arg0) : FVec Ideal S16384x512 .bf16) (ix2 n j) = ((Q n.val j.val : ℝ) : EReal))
    (hk : ∀ (n : Fin 16384) (j : Fin 512), (m ((c.tc : Thread nD τ).loc main_arg1) : FVec Ideal S16384x512 .bf16) (ix2 n j) = ((K n.val j.val : ℝ) : EReal))
    (hv : ∀ (n : Fin 16384) (j : Fin 512), (m ((c.tc : Thread nD τ).loc main_arg2) : FVec Ideal S16384x512 .bf16) (ix2 n j) = ((V n.val j.val : ℝ) : EReal))
    (hr : ∀ (n : Fin 16384) (j : Fin 512), (m ((c.tc : Thread nD τ).loc main_arg3) : FVec Ideal S16384x512 .f32) (ix2 n j) = R n.val j.val)
include hq hk hv

include hr in
/-- The reference's first result is the gated, normed retention. -/
theorem ref_out : (Value.out_main_v52 (Value.STEP^[128] (StableHlo.entryContents Value.preI m c)) : FVec Ideal S16384x512 .bf16) = resO Q K V R := by
  have I := Value.inv_all Q K V _ (Value.inv_entry m c Q K V hq hk hv) 128 le_rfl
  funext i
  idx_vars i
  exact Value.out52_apply Q K V _ I i0 i1 _ ((congrFun (Value.iter_main_arg3 m c 128) _).trans (hr i0 i1))

/-- The reference's second result is the pairs' states after all rows. -/
theorem ref_state : (Value.out_main_v51 (Value.STEP^[128] (StableHlo.entryContents Value.preI m c)) : FVec Ideal S4x128x128 .f32) = resS K V := by
  have I := Value.inv_all Q K V _ (Value.inv_entry m c Q K V hq hk hv) 128 le_rfl
  funext i
  idx_vars i
  exact Value.out51_apply Q K V _ I i0 i1 i2

end Reference

/-- The kernel and the reference end with the same retention outputs and the same states. -/
theorem algebraic : algebraic_KernelIdeal_ReferenceIdeal_pre_finite_qkv (hKernelIdeal := Cert.KernelIdeal.Gen.facts)
    (hReferenceIdeal := Cert.ReferenceIdeal.Gen.facts) (hPre_finite_qkv := Cert.Pre_finite_qkv.facts) := by
  intro m g m' g' hpre hargs
  have hq := fun (c : Dev Cert.KernelIdeal.nD) => realAt_eq (m ((c.tc : Thread Cert.KernelIdeal.nD Cert.KernelIdeal.τ).loc Cert.KernelIdeal.main_arg0)) _ (hpre c).1
  have hk := fun (c : Dev Cert.KernelIdeal.nD) => realAt_eq (m ((c.tc : Thread Cert.KernelIdeal.nD Cert.KernelIdeal.τ).loc Cert.KernelIdeal.main_arg1)) _ (hpre c).2.1
  have hv := fun (c : Dev Cert.KernelIdeal.nD) => realAt_eq (m ((c.tc : Thread Cert.KernelIdeal.nD Cert.KernelIdeal.τ).loc Cert.KernelIdeal.main_arg2)) _ (hpre c).2.2
  have hr := fun (c : Dev Cert.KernelIdeal.nD) => elemAt_eq (m ((c.tc : Thread Cert.KernelIdeal.nD Cert.KernelIdeal.τ).loc Cert.KernelIdeal.main_arg3))
  refine ⟨fun c => resO _ _ _ _, fun c => resS _ _,
    (θ_run Cert.KernelIdeal.defs _ _).mono (fun r h c => ⟨(h c).1.trans (Cert.KernelIdeal.Value.arr9 m c _ _ _ _ (hq c) (hk c) (hv c) (hr c)),
      (h c).2.1.trans (Cert.KernelIdeal.Value.arr10 m c _ _ (hk c) (hv c)), (h c).2.2⟩) (Cert.KernelIdeal.Value.run_blocks m g),
    (θ_run Cert.ReferenceIdeal.defs _ _).mono (fun r h c => ⟨(h c).1.trans (ref_out m' c _ _ _ _
        (fun n j => (congrFun (hargs c).1 _).trans (hq c n j)) (fun n j => (congrFun (hargs c).2.1 _).trans (hk c n j))
        (fun n j => (congrFun (hargs c).2.2.1 _).trans (hv c n j)) (fun n j => (congrFun (hargs c).2.2.2 _).trans (hr c n j))),
      (h c).2.1.trans (ref_state m' c _ _ _
        (fun n j => (congrFun (hargs c).1 _).trans (hq c n j)) (fun n j => (congrFun (hargs c).2.1 _).trans (hk c n j))
        (fun n j => (congrFun (hargs c).2.2.1 _).trans (hv c n j))), (h c).2.2⟩) (Cert.ReferenceIdeal.Value.run m' g')⟩

/-- The reference runs to its end, keeps its arguments, and leaves every counter at zero. -/
theorem reference_frame : quiescent_ReferenceIdeal (hReferenceIdeal := Cert.ReferenceIdeal.Gen.facts) := fun m g _ =>
  (θ_run Cert.ReferenceIdeal.defs _ _).mono (fun r h => ⟨fun c => (h c).2.2, Idealize.ShloMosaic.sem_eq_zero_of_no_sems (by decide) r.2⟩)
    (Cert.ReferenceIdeal.Value.run m g)

end Cert.Retention
end
-- ==== Proof.Modulate.lean ====
module

public import Idealize.ShloMosaic.Lib.Pointwise

@[expose] public section

noncomputable section

open Idealize.ShloMosaic

namespace Cert.Modulate

/-- Entry `j` of a normed and modulated row `x` of width `n`: the row over the root of its mean square (the mean's
    divisor 1024 and the epsilon are the printed constants), times the gain, times one plus the scale, plus the shift. -/
def modulate {n : ℕ} (x g sh sc : Fin n → EReal) (j : Fin n) : EReal :=
  x j * Ideal.rsqrt (Ideal.div (∑ k, x k * x k) (Ideal.ofBits FTy.f32 1149239296#32) + Ideal.ofBits FTy.f32 897988541#32)
    * g j * (1 + sc j) + sh j

/-- The modulated row against one column of a weight matrix. -/
def project {n : ℕ} (x g sh sc w : Fin n → EReal) : EReal := ∑ j, modulate x g sh sc j * w j

end Cert.Modulate
end
-- ==== Proof.ProjPrompt.lean ====
module

public import proofs.«01_k».proof.Proof.Modulate
public import proofs.«01_k».proof.Proof.Gen.Kernel2Ideal.Value
public import Idealize.ShloMosaic.Lib.Pipeline.ValueKit
public import Idealize.ShloMosaic.Lib.StableHlo.RunRead
public import Idealize.ShloMosaic.Lib.Pointwise
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open Cert.Modulate

namespace Cert.Kernel2Ideal.Value

open Cert.Kernel2Ideal Cert.Kernel2Ideal.Gen

/-! ## The results -/

section Results
variable (x0 : FVec Ideal S16384x1024 .f32) (x1 x2 x3 : FVec Ideal S1x1024 .f32) (x4 : FVec Ideal S2x1024x5632 .f32)

/-- Row `r` of the prompt, normed and modulated, against column `n` of the first layer's weights. -/
def P (r : Fin 16384) (n : Fin 5632) : EReal :=
  project (fun j : Fin 1024 => x0 (ix2 r j)) (fun j => x1 (ix2 0 j)) (fun j => x2 (ix2 0 j)) (fun j => x3 (ix2 0 j)) (fun j => x4 (ix3 0 j n))

/-- The head scale, one eighth, as printed. -/
def eighth : EReal := Ideal.ofBits FTy.f32 0x3E000000#32

/-- The retention queries. -/
def res6 : FVec Ideal S16384x512 .bf16 := fun i =>
  P x0 x1 x2 x3 x4 (i 0) ⟨(i 1).val, by have : (i 1).val < 512 := (i 1).isLt; omega⟩

/-- The retention keys, scaled. -/
def res7 : FVec Ideal S16384x512 .bf16 := fun i =>
  P x0 x1 x2 x3 x4 (i 0) ⟨512 + (i 1).val, by have : (i 1).val < 512 := (i 1).isLt; omega⟩ * eighth

/-- The retention values. -/
def res8 : FVec Ideal S16384x512 .bf16 := fun i =>
  P x0 x1 x2 x3 x4 (i 0) ⟨1024 + (i 1).val, by have : (i 1).val < 512 := (i 1).isLt; omega⟩

/-- The retention gates. -/
def res9 : FVec Ideal S16384x512 .f32 := fun i =>
  P x0 x1 x2 x3 x4 (i 0) ⟨1536 + (i 1).val, by have : (i 1).val < 512 := (i 1).isLt; omega⟩

/-- The attention queries, scaled. -/
def res10 : FVec Ideal S16384x512 .bf16 := fun i =>
  P x0 x1 x2 x3 x4 (i 0) ⟨2048 + (i 1).val, by have : (i 1).val < 512 := (i 1).isLt; omega⟩ * eighth

/-- The attention keys by block of 256 rows. -/
def res11 : FVec Ideal S64x256x512 .bf16 := fun i =>
  P x0 x1 x2 x3 x4 (⟨256 * (i 0).val + (i 1).val, by have : (i 0).val < 64 := (i 0).isLt; have : (i 1).val < 256 := (i 1).isLt; omega⟩) ⟨2560 + (i 2).val, by have : (i 2).val < 512 := (i 2).isLt; omega⟩

/-- The attention keys, transposed. -/
def res12 : FVec Ideal S512x16384 .f32 := fun i =>
  P x0 x1 x2 x3 x4 (i 1) ⟨2560 + (i 0).val, by have : (i 0).val < 512 := (i 0).isLt; omega⟩

/-- The attention values, transposed. -/
def res13 : FVec Ideal S512x16384 .f32 := fun i =>
  P x0 x1 x2 x3 x4 (i 1) ⟨3072 + (i 0).val, by have : (i 0).val < 512 := (i 0).isLt; omega⟩

/-- The attention values by block of 256 rows, transposed. -/
def res14 : FVec Ideal S64x512x256 .bf16 := fun i =>
  P x0 x1 x2 x3 x4 (⟨256 * (i 0).val + (i 2).val, by have : (i 0).val < 64 := (i 0).isLt; have : (i 2).val < 256 := (i 2).isLt; omega⟩) ⟨3072 + (i 1).val, by have : (i 1).val < 512 := (i 1).isLt; omega⟩

/-- The gates of the retention branch. -/
def res15 : FVec Ideal S16384x1024 .f32 := fun i =>
  P x0 x1 x2 x3 x4 (i 0) ⟨3584 + (i 1).val, by have : (i 1).val < 1024 := (i 1).isLt; omega⟩

/-- The gates of the attention branch. -/
def res16 : FVec Ideal S16384x1024 .f32 := fun i =>
  P x0 x1 x2 x3 x4 (i 0) ⟨4608 + (i 1).val, by have : (i 1).val < 1024 := (i 1).isLt; omega⟩

end Results

/-! ## What one grid point computes -/

/-- The modulated rows of one block. -/
theorem pay3_at (v3 : Vec Ideal S256x1024 .f32) (v4 v5 v6 : Vec Ideal S1x1024 .f32) (r : Fin 256) (j : Fin 1024) :
    k0_pay3 (F := Ideal) v3 v4 v5 v6 (ix2 r j) =
      modulate (fun j : Fin 1024 => v3 (ix2 r j)) (fun j => v4 (ix2 0 j)) (fun j => v5 (ix2 0 j)) (fun j => v6 (ix2 0 j)) j := by
  unfold k0_pay3
  pointwise
  rfl

/-- The block's retention queries. -/
theorem pay4_at (v3 : Vec Ideal S256x1024 .f32) (v4 v5 v6 : Vec Ideal S1x1024 .f32) (w : Vec Ideal S1024x512 .bf16) (r : Fin 256) (l : Fin 512) :
    k0_pay4 (F := Ideal) v3 v4 v5 v6 w (ix2 r l) = ∑ j : Fin 1024, k0_pay3 (F := Ideal) v3 v4 v5 v6 (ix2 r j) * w (ix2 j l) := by
  unfold k0_pay4
  pointwise

/-- The block's retention keys. -/
theorem pay6_at (v3 : Vec Ideal S256x1024 .f32) (v4 v5 v6 : Vec Ideal S1x1024 .f32) (w : Vec Ideal S1024x512 .bf16) (r : Fin 256) (l : Fin 512) :
    k0_pay6 (F := Ideal) (k0_pay5 (F := Ideal) v3 v4 v5 v6 w) (Scalar.ofBits .f32 0x3E000000#32) (ix2 r l) =
      (∑ j : Fin 1024, k0_pay3 (F := Ideal) v3 v4 v5 v6 (ix2 r j) * w (ix2 j l)) * eighth := by
  unfold k0_pay6 k0_pay5
  pointwise
  rfl

/-- The block's retention values. -/
theorem pay7_at (h : FVec Ideal S256x1024 .bf16) (w : Vec Ideal S1024x512 .bf16) (r : Fin 256) (l : Fin 512) :
    k0_pay7 (F := Ideal) h w (ix2 r l) = ∑ j : Fin 1024, h (ix2 r j) * w (ix2 j l) := by
  unfold k0_pay7
  pointwise

/-- The block's retention gates. -/
theorem pay8_at (h : FVec Ideal S256x1024 .bf16) (w : Vec Ideal S1024x512 .bf16) (r : Fin 256) (l : Fin 512) :
    k0_pay8 (F := Ideal) h w (ix2 r l) = ∑ j : Fin 1024, h (ix2 r j) * w (ix2 j l) := by
  unfold k0_pay8
  pointwise

/-- The block's attention queries. -/
theorem pay10_at (h : FVec Ideal S256x1024 .bf16) (w : Vec Ideal S1024x512 .bf16) (r : Fin 256) (l : Fin 512) :
    k0_pay10 (F := Ideal) h w (ix2 r l) = (∑ j : Fin 1024, h (ix2 r j) * w (ix2 j l)) * eighth := by
  unfold k0_pay10 k0_pay9
  pointwise
  rfl

/-- The block's attention keys. -/
theorem pay12_at (h : FVec Ideal S256x1024 .bf16) (w : Vec Ideal S1024x512 .bf16) (r : Fin 256) (l : Fin 512) :
    k0_pay12 (F := Ideal) h w (ix3 0 r l) = ∑ j : Fin 1024, h (ix2 r j) * w (ix2 j l) := by
  unfold k0_pay12 k0_pay11
  pointwise

/-- The block's gates of the retention branch. -/
theorem pay14_at (h : FVec Ideal S256x1024 .bf16) (w : Vec Ideal S1024x1024 .bf16) (r : Fin 256) (l : Fin 1024) :
    k0_pay14 (F := Ideal) h (k0_pay13 (F := Ideal) w) (ix2 r l) = ∑ j : Fin 1024, h (ix2 r j) * w (ix2 j l) := by
  unfold k0_pay14 k0_pay13
  pointwise

/-- The block's gates of the attention branch. -/
theorem pay15_at (h : FVec Ideal S256x1024 .bf16) (w : Vec Ideal S1024x1024 .bf16) (r : Fin 256) (l : Fin 1024) :
    k0_pay15 (F := Ideal) h w (ix2 r l) = ∑ j : Fin 1024, h (ix2 r j) * w (ix2 j l) := by
  unfold k0_pay15
  pointwise

/-- The block's attention keys, transposed: the transposed weights against the rows. -/
theorem pay17_at (h : FVec Ideal S256x1024 .bf16) (w : Vec Ideal S1024x1024 .bf16) (a : Fin 512) (r : Fin 256) :
    k0_pay17 (F := Ideal) h w (ix2 a r) = ∑ j : Fin 1024, h (ix2 r j) * w (ix2 ⟨a.val, by omega⟩ j) := by
  unfold k0_pay17 k0_pay16
  pointwise
  exact Finset.sum_congr rfl fun j _ => mul_comm _ _

/-- The block's attention values, transposed. -/
theorem pay18_at (h : FVec Ideal S256x1024 .bf16) (w : Vec Ideal S1024x1024 .bf16) (a : Fin 512) (r : Fin 256) :
    k0_pay18 (F := Ideal) h w (ix2 a r) = ∑ j : Fin 1024, h (ix2 r j) * w (ix2 ⟨512 + a.val, by omega⟩ j) := by
  unfold k0_pay18 k0_pay16
  pointwise
  exact Finset.sum_congr rfl fun j _ => mul_comm _ _

/-- The block's attention values, transposed, as the attention reads them. -/
theorem pay19_at (h : FVec Ideal S256x1024 .bf16) (w : Vec Ideal S1024x1024 .bf16) (a : Fin 512) (r : Fin 256) :
    k0_pay19 (F := Ideal) h w (ix3 0 a r) = ∑ j : Fin 1024, h (ix2 r j) * w (ix2 ⟨512 + a.val, by omega⟩ j) := by
  unfold k0_pay19 k0_pay16
  pointwise
  exact Finset.sum_congr rfl fun j _ => mul_comm _ _

/-- A read of 512 columns of the weights. -/
theorem ld512 (x : Vec Ideal S1024x5632 .bf16) (off : ℕ) (h) (j : Fin 1024) (l : Fin 512) (hb : off + 512 ≤ 5632) :
    (View.ld x (Rect.unit ![0, off] ![1024, 512] h) : Vec Ideal S1024x512 .bf16) (ix2 j l) = x (ix2 j ⟨off + l.val, by omega⟩) := by
  refine congrArg x (funext fun a => Fin.ext ?_)
  fin_cases a
  · change 0 + 1 * j.val = j.val; omega
  · change off + 1 * l.val = off + l.val; omega

/-- A read of 1024 columns of the weights. -/
theorem ld1024 (x : Vec Ideal S1024x5632 .bf16) (off : ℕ) (h) (j : Fin 1024) (l : Fin 1024) (hb : off + 1024 ≤ 5632) :
    (View.ld x (Rect.unit ![0, off] ![1024, 1024] h) : Vec Ideal S1024x1024 .bf16) (ix2 j l) = x (ix2 j ⟨off + l.val, by omega⟩) := by
  refine congrArg x (funext fun a => Fin.ext ?_)
  fin_cases a
  · change 0 + 1 * j.val = j.val; omega
  · change off + 1 * l.val = off + l.val; omega

/-! ## The blocks -/

/-- The blocks' places: the rows' and the results' blocks move with the grid point, the vectors and weights stay. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![t.val, 0]
    ∧ win0_7.index t = ![t.val, 0] ∧ win0_8.index t = ![t.val, 0] ∧ win0_9.index t = ![t.val, 0] ∧ win0_10.index t = ![t.val, 0]
    ∧ win0_11.index t = ![t.val, 0, 0] ∧ win0_12.index t = ![0, t.val] ∧ win0_13.index t = ![0, t.val] ∧ win0_14.index t = ![t.val, 0, 0]
    ∧ win0_15.index t = ![t.val, 0] ∧ win0_16.index t = ![t.val, 0] :=
  (by decide +kernel : ∀ t : Fin grid0.N, _)

/-- There are 64 grid points. -/
theorem hN : ∀ t : Fin cfg0.N, t.val < 64 := (by decide +kernel : ∀ t : Fin grid0.N, _)

section Arrays
variable (m : (ℓ : Loc nD τ sig) → Buf (Elt Ideal) ℓ) (c : Dev nD)

/-- Block `t` of the rows is the 256 rows from `256 t` on. -/
theorem blk0 (t : Fin cfg0.N) (r : Fin 256) (j : Fin 1024) : (iblk m c 0 t : Vec Ideal S256x1024 .f32) (ix2 r j) =
    (m ((c : Thread nD τ).loc main_arg0) : Vec Ideal S16384x1024 .f32) (ix2 ⟨256 * t.val + r.val, by have := hN t; omega⟩ j) := by
  rw [← V_main_arg0 m c]
  blk_ext [iblk, idx t]

/-- The gain's block is all of it. -/
theorem blk1 (t : Fin cfg0.N) (j : Fin 1024) : (iblk m c 1 t : Vec Ideal S1x1024 .f32) (ix2 0 j) = (m ((c : Thread nD τ).loc main_arg1) : Vec Ideal S1x1024 .f32) (ix2 0 j) := by
  rw [← V_main_arg1 m c]
  blk_ext [iblk, idx t]

/-- The shift's block is all of it. -/
theorem blk2 (t : Fin cfg0.N) (j : Fin 1024) : (iblk m c 2 t : Vec Ideal S1x1024 .f32) (ix2 0 j) = (m ((c : Thread nD τ).loc main_arg2) : Vec Ideal S1x1024 .f32) (ix2 0 j) := by
  rw [← V_main_arg2 m c]
  blk_ext [iblk, idx t]

/-- The scale's block is all of it. -/
theorem blk3 (t : Fin cfg0.N) (j : Fin 1024) : (iblk m c 3 t : Vec Ideal S1x1024 .f32) (ix2 0 j) = (m ((c : Thread nD τ).loc main_arg3) : Vec Ideal S1x1024 .f32) (ix2 0 j) := by
  rw [← V_main_arg3 m c]
  blk_ext [iblk, idx t]

/-- The weights' array, which the host slices and casts, has the first layer's entries. -/
theorem wts (j : Fin 1024) (n : Fin 5632) : (V m c main_v7 : Vec Ideal S1024x5632 .bf16) (ix2 j n) = (m ((c : Thread nD τ).loc main_arg4) : Vec Ideal S2x1024x5632 .f32) (ix3 0 j n) := by
  simp only [V, hostOps0]
  after_reads_simp
  pointwise

/-- The transposed columns of the attention's keys and values, which the host takes from the weights. -/
theorem wkv (a j : Fin 1024) : (V m c main_v4 : Vec Ideal S1024x1024 .bf16) (ix2 a j) =
    (m ((c : Thread nD τ).loc main_arg4) : Vec Ideal S2x1024x5632 .f32) (ix3 0 j ⟨2560 + a.val, by omega⟩) := by
  simp only [V, hostOps0]
  after_reads_simp
  pointwise

/-- The weights' block is the first layer's weights. -/
theorem blk4 (t : Fin cfg0.N) (j : Fin 1024) (n : Fin 5632) : (iblk m c 4 t : Vec Ideal S1024x5632 .bf16) (ix2 j n) =
    (m ((c : Thread nD τ).loc main_arg4) : Vec Ideal S2x1024x5632 .f32) (ix3 0 j n) := by
  rw [← wts m c]
  blk_ext [iblk, idx t]

/-- The transposed weights' block is all of them. -/
theorem blk5 (t : Fin cfg0.N) (a j : Fin 1024) : (iblk m c 5 t : Vec Ideal S1024x1024 .bf16) (ix2 a j) =
    (m ((c : Thread nD τ).loc main_arg4) : Vec Ideal S2x1024x5632 .f32) (ix3 0 j ⟨2560 + a.val, by omega⟩) := by
  rw [← wkv m c]
  blk_ext [iblk, idx t]

/-- The modulated rows of block `t`. -/
theorem rows_at (t : Fin cfg0.N) (r : Fin 256) (j : Fin 1024) : k0_pay3 (F := Ideal) (iblk m c 0 t) (iblk m c 1 t) (iblk m c 2 t) (iblk m c 3 t) (ix2 r j) =
    modulate (fun j : Fin 1024 => (m ((c : Thread nD τ).loc main_arg0) : Vec Ideal S16384x1024 .f32) (ix2 ⟨256 * t.val + r.val, by have := hN t; omega⟩ j))
      (fun j => (m ((c : Thread nD τ).loc main_arg1) : Vec Ideal S1x1024 .f32) (ix2 0 j)) (fun j => (m ((c : Thread nD τ).loc main_arg2) : Vec Ideal S1x1024 .f32) (ix2 0 j))
      (fun j => (m ((c : Thread nD τ).loc main_arg3) : Vec Ideal S1x1024 .f32) (ix2 0 j)) j := by
  rw [pay3_at]
  simp only [blk0, blk1, blk2, blk3]

/-- Block `t`'s rows against 512 columns read from the weights. -/
theorem sum512 (t : Fin cfg0.N) (r : Fin 256) (l : Fin 512) (off : ℕ) (h) (hb : off + 512 ≤ 5632) :
    (∑ j : Fin 1024, k0_pay3 (F := Ideal) (iblk m c 0 t) (iblk m c 1 t) (iblk m c 2 t) (iblk m c 3 t) (ix2 r j) *
      (View.ld (iblk m c 4 t : Vec Ideal S1024x5632 .bf16) (Rect.unit ![0, off] ![1024, 512] h) : Vec Ideal S1024x512 .bf16) (ix2 j l)) =
    P (m ((c : Thread nD τ).loc main_arg0)) (m ((c : Thread nD τ).loc main_arg1)) (m ((c : Thread nD τ).loc main_arg2)) (m ((c : Thread nD τ).loc main_arg3)) (m ((c : Thread nD τ).loc main_arg4))
      ⟨256 * t.val + r.val, by have := hN t; omega⟩ ⟨off + l.val, by omega⟩ :=
  Finset.sum_congr rfl fun j _ => congrArg₂ (· * ·) (rows_at m c t r j) ((ld512 _ off h j l hb).trans (blk4 m c t j _))

/-- Block `t`'s rows against 1024 columns read from the weights. -/
theorem sum1024 (t : Fin cfg0.N) (r : Fin 256) (l : Fin 1024) (off : ℕ) (h) (hb : off + 1024 ≤ 5632) :
    (∑ j : Fin 1024, k0_pay3 (F := Ideal) (iblk m c 0 t) (iblk m c 1 t) (iblk m c 2 t) (iblk m c 3 t) (ix2 r j) *
      (View.ld (iblk m c 4 t : Vec Ideal S1024x5632 .bf16) (Rect.unit ![0, off] ![1024, 1024] h) : Vec Ideal S1024x1024 .bf16) (ix2 j l)) =
    P (m ((c : Thread nD τ).loc main_arg0)) (m ((c : Thread nD τ).loc main_arg1)) (m ((c : Thread nD τ).loc main_arg2)) (m ((c : Thread nD τ).loc main_arg3)) (m ((c : Thread nD τ).loc main_arg4))
      ⟨256 * t.val + r.val, by have := hN t; omega⟩ ⟨off + l.val, by omega⟩ :=
  Finset.sum_congr rfl fun j _ => congrArg₂ (· * ·) (rows_at m c t r j) ((ld1024 _ off h j l hb).trans (blk4 m c t j _))

/-- Block `t`'s rows against one row of the transposed weights. -/
theorem sumT (t : Fin cfg0.N) (r : Fin 256) (a : Fin 1024) (n : Fin 5632) (hn : 2560 + a.val = n.val) :
    (∑ j : Fin 1024, k0_pay3 (F := Ideal) (iblk m c 0 t) (iblk m c 1 t) (iblk m c 2 t) (iblk m c 3 t) (ix2 r j) *
      (iblk m c 5 t : Vec Ideal S1024x1024 .bf16) (ix2 a j)) =
    P (m ((c : Thread nD τ).loc main_arg0)) (m ((c : Thread nD τ).loc main_arg1)) (m ((c : Thread nD τ).loc main_arg2)) (m ((c : Thread nD τ).loc main_arg3)) (m ((c : Thread nD τ).loc main_arg4))
      ⟨256 * t.val + r.val, by have := hN t; omega⟩ n := by
  rw [show n = ⟨2560 + a.val, by omega⟩ from Fin.ext hn.symm]
  exact Finset.sum_congr rfl fun j _ => congrArg₂ (· * ·) (rows_at m c t r j) (blk5 m c t a j)

/-! ## The result arrays -/

/-- What grid point `t` leaves in its block of the retention queries. -/
theorem at6 (t : Fin cfg0.N) (r : Fin 256) (l : Fin 512) : (outsAt0 m c t.val t.isLt).1 (ix2 r l) =
    res6 (m ((c : Thread nD τ).loc main_arg0)) (m ((c : Thread nD τ).loc main_arg1)) (m ((c : Thread nD τ).loc main_arg2)) (m ((c : Thread nD τ).loc main_arg3)) (m ((c : Thread nD τ).loc main_arg4)) (ix2 ⟨256 * t.val + r.val, by have := hN t; omega⟩ l) := by
  by_cases h0 : t.val % 64 = 0
  · rw [outsAt0_A m c t h0]
    dsimp only
    frame_open
    frame_out
    exact (pay4_at _ _ _ _ _ _ _).trans ((sum512 m c t r l 0 _ (by omega)).trans (congrArg (P _ _ _ _ _ _) (Fin.ext (Nat.zero_add _))))
  · rw [outsAt0_B m c t h0]
    dsimp only
    frame_open
    frame_out
    exact (pay4_at _ _ _ _ _ _ _).trans ((sum512 m c t r l 0 _ (by omega)).trans (congrArg (P _ _ _ _ _ _) (Fin.ext (Nat.zero_add _))))

/-- The array of the retention queries. -/
theorem arr6 : (dats m 0 c).arrAt 6 cfg0.N = res6 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  rw [after0_6]
  idx_vars y
  have he : ((View.whole main_v8_0).slice ((win0 6).rect t)).emb (ix2 y0 y1) = (ix2 ⟨256 * t.val + y0.val, by have := hN t; omega⟩ y1 : S16384x512.Idx) := by
    blk_ext [idx t]
  refine (show _ = (outsAt0 m c t.val t.isLt).1 (ix2 y0 y1) from rfl).trans ((at6 m c t y0 y1).trans ?_)
  exact (congrArg (res6 _ _ _ _ _) he).symm

/-- What grid point `t` leaves in its block of the retention keys, scaled. -/
theorem at7 (t : Fin cfg0.N) (r : Fin 256) (l : Fin 512) : (outsAt0 m c t.val t.isLt).2.1 (ix2 r l) =
    res7 (m ((c : Thread nD τ).loc main_arg0)) (m ((c : Thread nD τ).loc main_arg1)) (m ((c : Thread nD τ).loc main_arg2)) (m ((c : Thread nD τ).loc main_arg3)) (m ((c : Thread nD τ).loc main_arg4)) (ix2 ⟨256 * t.val + r.val, by have := hN t; omega⟩ l) := by
  by_cases h0 : t.val % 64 = 0
  · rw [outsAt0_A m c t h0]
    dsimp only
    frame_open
    frame_out
    exact (pay6_at _ _ _ _ _ _ _).trans (congrArg (· * eighth) (sum512 m c t r l 512 _ (by omega)))
  · rw [outsAt0_B m c t h0]
    dsimp only
    frame_open
    frame_out
    exact (pay6_at _ _ _ _ _ _ _).trans (congrArg (· * eighth) (sum512 m c t r l 512 _ (by omega)))

/-- The array of the retention keys, scaled. -/
theorem arr7 : (dats m 0 c).arrAt 7 cfg0.N = res7 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t hf y => ?_
  rw [after0_7]
  idx_vars y
  have he : ((View.whole main_v8_1).slice ((win0 7).rect t)).emb (ix2 y0 y1) = (ix2 ⟨256 * t.val + y0.val, by have := hN t; omega⟩ y1 : S16384x512.Idx) := by
    blk_ext [idx t]
  refine (show _ = (outsAt0 m c t.val t.isLt).2.1 (ix2 y0 y1) from rfl).trans ((at7 m c t y0 y1).trans ?_)
  exact (congrArg (res7 _ _ _ _ _) he).symm

/-- What grid point `t` leaves in its block of the retention values. -/
theorem at8 (t : Fin cfg0.N) (r : Fin 256) (l : Fin 512) : (outsAt0 m c t.val t.isLt).2.2.1 (ix2 r l) =
    res8 (m ((c : Thread nD τ).loc main_arg0)) (m ((c : Thread nD τ).loc main_arg1)) (m ((c : Thread nD τ).loc main_arg2)) (m ((c : Thread nD τ).loc main_arg3)) (m ((c : Thread nD τ).loc main_arg4)) (ix2 ⟨256 * t.val + r.val, by have := hN t; omega⟩ l) := by
  by_cases h0 : t.val % 64 = 0
  · rw [outsAt0_A m c t h0]
    dsimp only
    frame_open
    frame_out
    exact (pay7_at _ _ _ _).trans (sum512 m c t r l 1024 _ (by omega))
  · rw [outsAt0_B m c t h0]
    dsimp only
    frame_open
    frame_out
    exact (pay7_at _ _ _ _).trans (sum512 m c t r l 1024 _ (by omega))

/-- The array of the retention values. -/
theorem arr8 : (dats m 0 c).arrAt 8 cfg0.N = res8 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 8 _ (by decide +kernel) fun t hf y => ?_
  rw [after0_8]
  idx_vars y
  have he : ((View.whole main_v8_2).slice ((win0 8).rect t)).emb (ix2 y0 y1) = (ix2 ⟨256 * t.val + y0.val, by have := hN t; omega⟩ y1 : S16384x512.Idx) := by
    blk_ext [idx t]
  refine (show _ = (outsAt0 m c t.val t.isLt).2.2.1 (ix2 y0 y1) from rfl).trans ((at8 m c t y0 y1).trans ?_)
  exact (congrArg (res8 _ _ _ _ _) he).symm

/-- What grid point `t` leaves in its block of the retention gates. -/
theorem at9 (t : Fin cfg0.N) (r : Fin 256) (l : Fin 512) : (outsAt0 m c t.val t.isLt).2.2.2.1 (ix2 r l) =
    res9 (m ((c : Thread nD τ).loc main_arg0)) (m ((c : Thread nD τ).loc main_arg1)) (m ((c : Thread nD τ).loc main_arg2)) (m ((c : Thread nD τ).loc main_arg3)) (m ((c : Thread nD τ).loc main_arg4)) (ix2 ⟨256 * t.val + r.val, by have := hN t; omega⟩ l) := by
  by_cases h0 : t.val % 64 = 0
  · rw [outsAt0_A m c t h0]
    dsimp only
    frame_open
    frame_out
    exact (pay8_at _ _ _ _).trans (sum512 m c t r l 1536 _ (by omega))
  · rw [outsAt0_B m c t h0]
    dsimp only
    frame_open
    frame_out
    exact (pay8_at _ _ _ _).trans (sum512 m c t r l 1536 _ (by omega))

/-- The array of the retention gates. -/
theorem arr9 : (dats m 0 c).arrAt 9 cfg0.N = res9 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 9 _ (by decide +kernel) fun t hf y => ?_
  rw [after0_9]
  idx_vars y
  have he : ((View.whole main_v8_3).slice ((win0 9).rect t)).emb (ix2 y0 y1) = (ix2 ⟨256 * t.val + y0.val, by have := hN t; omega⟩ y1 : S16384x512.Idx) := by
    blk_ext [idx t]
  refine (show _ = (outsAt0 m c t.val t.isLt).2.2.2.1 (ix2 y0 y1) from rfl).trans ((at9 m c t y0 y1).trans ?_)
  exact (congrArg (res9 _ _ _ _ _) he).symm

/-- What grid point `t` leaves in its block of the attention queries, scaled. -/
theorem at10 (t : Fin cfg0.N) (r : Fin 256) (l : Fin 512) : (outsAt0 m c t.val t.isLt).2.2.2.2.1 (ix2 r l) =
    res10 (m ((c : Thread nD τ).loc main_arg0)) (m ((c : Thread nD τ).loc main_arg1)) (m ((c : Thread nD τ).loc main_arg2)) (m ((c : Thread nD τ).loc main_arg3)) (m ((c : Thread nD τ).loc main_arg4)) (ix2 ⟨256 * t.val + r.val, by have := hN t; omega⟩ l) := by
  by_cases h0 : t.val % 64 = 0
  · rw [outsAt0_A m c t h0]
    dsimp only
    frame_open
    frame_out
    exact (pay10_at _ _ _ _).trans (congrArg (· * eighth) (sum512 m c t r l 2048 _ (by omega)))
  · rw [outsAt0_B m c t h0]
    dsimp only
    frame_open
    frame_out
    exact (pay10_at _ _ _ _).trans (congrArg (· * eighth) (sum512 m c t r l 2048 _ (by omega)))

/-- The array of the attention queries, scaled. -/
theorem arr10 : (dats m 0 c).arrAt 10 cfg0.N = res10 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 10 _ (by decide +kernel) fun t hf y => ?_
  rw [after0_10]
  idx_vars y
  have he : ((View.whole main_v8_4).slice ((win0 10).rect t)).emb (ix2 y0 y1) = (ix2 ⟨256 * t.val + y0.val, by have := hN t; omega⟩ y1 : S16384x512.Idx) := by
    blk_ext [idx t]
  refine (show _ = (outsAt0 m c t.val t.isLt).2.2.2.2.1 (ix2 y0 y1) from rfl).trans ((at10 m c t y0 y1).trans ?_)
  exact (congrArg (res10 _ _ _ _ _) he).symm

/-- What grid point `t` leaves in its block of the attention keys by block of 256 rows. -/
theorem at11 (t : Fin cfg0.N) (z : Fin 1) (r : Fin 256) (l : Fin 512) : (outsAt0 m c t.val t.isLt).2.2.2.2.2.1 (ix3 z r l) =
    res11 (m ((c : Thread nD τ).loc main_arg0)) (m ((c : Thread nD τ).loc main_arg1)) (m ((c : Thread nD τ).loc main_arg2)) (m ((c : Thread nD τ).loc main_arg3)) (m ((c : Thread nD τ).loc main_arg4)) (ix3 ⟨t.val, hN t⟩ r l) := by
  obtain rfl : z = 0 := Subsingleton.elim _ _
  by_cases h0 : t.val % 64 = 0
  · rw [outsAt0_A m c t h0]
    dsimp only
    frame_open
    frame_out
    exact (pay12_at _ _ _ _).trans (sum512 m c t r l 2560 _ (by omega))
  · rw [outsAt0_B m c t h0]
    dsimp only
    frame_open
    frame_out
    exact (pay12_at _ _ _ _).trans (sum512 m c t r l 2560 _ (by omega))

/-- The array of the attention keys by block of 256 rows. -/
theorem arr11 : (dats m 0 c).arrAt 11 cfg0.N = res11 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 11 _ (by decide +kernel) fun t hf y => ?_
  rw [after0_11]
  idx_vars y
  have he : ((View.whole main_v8_5).slice ((win0 11).rect t)).emb (ix3 y0 y1 y2) = (ix3 ⟨t.val, hN t⟩ y1 y2 : S64x256x512.Idx) := by
    blk_ext [idx t]
  refine (show _ = (outsAt0 m c t.val t.isLt).2.2.2.2.2.1 (ix3 y0 y1 y2) from rfl).trans ((at11 m c t y0 y1 y2).trans ?_)
  exact (congrArg (res11 _ _ _ _ _) he).symm

/-- What grid point `t` leaves in its block of the attention keys, transposed. -/
theorem at12 (t : Fin cfg0.N) (l : Fin 512) (r : Fin 256) : (outsAt0 m c t.val t.isLt).2.2.2.2.2.2.1 (ix2 l r) =
    res12 (m ((c : Thread nD τ).loc main_arg0)) (m ((c : Thread nD τ).loc main_arg1)) (m ((c : Thread nD τ).loc main_arg2)) (m ((c : Thread nD τ).loc main_arg3)) (m ((c : Thread nD τ).loc main_arg4)) (ix2 l ⟨256 * t.val + r.val, by have := hN t; omega⟩) := by
  by_cases h0 : t.val % 64 = 0
  · rw [outsAt0_A m c t h0]
    dsimp only
    frame_open
    frame_out
    exact (pay17_at _ _ _ _).trans (sumT m c t r _ _ (by change 2560 + l.val = 2560 + l.val; omega))
  · rw [outsAt0_B m c t h0]
    dsimp only
    frame_open
    frame_out
    exact (pay17_at _ _ _ _).trans (sumT m c t r _ _ (by change 2560 + l.val = 2560 + l.val; omega))

/-- The array of the attention keys, transposed. -/
theorem arr12 : (dats m 0 c).arrAt 12 cfg0.N = res12 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 12 _ (by decide +kernel) fun t hf y => ?_
  rw [after0_12]
  idx_vars y
  have he : ((View.whole main_v8_6).slice ((win0 12).rect t)).emb (ix2 y0 y1) = (ix2 y0 ⟨256 * t.val + y1.val, by have := hN t; omega⟩ : S512x16384.Idx) := by
    blk_ext [idx t]
  refine (show _ = (outsAt0 m c t.val t.isLt).2.2.2.2.2.2.1 (ix2 y0 y1) from rfl).trans ((at12 m c t y0 y1).trans ?_)
  exact (congrArg (res12 _ _ _ _ _) he).symm

/-- What grid point `t` leaves in its block of the attention values, transposed. -/
theorem at13 (t : Fin cfg0.N) (l : Fin 512) (r : Fin 256) : (outsAt0 m c t.val t.isLt).2.2.2.2.2.2.2.1 (ix2 l r) =
    res13 (m ((c : Thread nD τ).loc main_arg0)) (m ((c : Thread nD τ).loc main_arg1)) (m ((c : Thread nD τ).loc main_arg2)) (m ((c : Thread nD τ).loc main_arg3)) (m ((c : Thread nD τ).loc main_arg4)) (ix2 l ⟨256 * t.val + r.val, by have := hN t; omega⟩) := by
  by_cases h0 : t.val % 64 = 0
  · rw [outsAt0_A m c t h0]
    dsimp only
    frame_open
    frame_out
    exact (pay18_at _ _ _ _).trans (sumT m c t r _ _ (by change 2560 + (512 + l.val) = 3072 + l.val; omega))
  · rw [outsAt0_B m c t h0]
    dsimp only
    frame_open
    frame_out
    exact (pay18_at _ _ _ _).trans (sumT m c t r _ _ (by change 2560 + (512 + l.val) = 3072 + l.val; omega))

/-- The array of the attention values, transposed. -/
theorem arr13 : (dats m 0 c).arrAt 13 cfg0.N = res13 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 13 _ (by decide +kernel) fun t hf y => ?_
  rw [after0_13]
  idx_vars y
  have he : ((View.whole main_v8_7).slice ((win0 13).rect t)).emb (ix2 y0 y1) = (ix2 y0 ⟨256 * t.val + y1.val, by have := hN t; omega⟩ : S512x16384.Idx) := by
    blk_ext [idx t]
  refine (show _ = (outsAt0 m c t.val t.isLt).2.2.2.2.2.2.2.1 (ix2 y0 y1) from rfl).trans ((at13 m c t y0 y1).trans ?_)
  exact (congrArg (res13 _ _ _ _ _) he).symm

/-- What grid point `t` leaves in its block of the attention values by block of 256 rows, transposed. -/
theorem at14 (t : Fin cfg0.N) (z : Fin 1) (l : Fin 512) (r : Fin 256) : (outsAt0 m c t.val t.isLt).2.2.2.2.2.2.2.2.1 (ix3 z l r) =
    res14 (m ((c : Thread nD τ).loc main_arg0)) (m ((c : Thread nD τ).loc main_arg1)) (m ((c : Thread nD τ).loc main_arg2)) (m ((c : Thread nD τ).loc main_arg3)) (m ((c : Thread nD τ).loc main_arg4)) (ix3 ⟨t.val, hN t⟩ l r) := by
  obtain rfl : z = 0 := Subsingleton.elim _ _
  by_cases h0 : t.val % 64 = 0
  · rw [outsAt0_A m c t h0]
    dsimp only
    frame_open
    frame_out
    exact (pay19_at _ _ _ _).trans (sumT m c t r _ _ (by change 2560 + (512 + l.val) = 3072 + l.val; omega))
  · rw [outsAt0_B m c t h0]
    dsimp only
    frame_open
    frame_out
    exact (pay19_at _ _ _ _).trans (sumT m c t r _ _ (by change 2560 + (512 + l.val) = 3072 + l.val; omega))

/-- The array of the attention values by block of 256 rows, transposed. -/
theorem arr14 : (dats m 0 c).arrAt 14 cfg0.N = res14 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 14 _ (by decide +kernel) fun t hf y => ?_
  rw [after0_14]
  idx_vars y
  have he : ((View.whole main_v8_8).slice ((win0 14).rect t)).emb (ix3 y0 y1 y2) = (ix3 ⟨t.val, hN t⟩ y1 y2 : S64x512x256.Idx) := by
    blk_ext [idx t]
  refine (show _ = (outsAt0 m c t.val t.isLt).2.2.2.2.2.2.2.2.1 (ix3 y0 y1 y2) from rfl).trans ((at14 m c t y0 y1 y2).trans ?_)
  exact (congrArg (res14 _ _ _ _ _) he).symm

/-- What grid point `t` leaves in its block of the gates of the retention branch. -/
theorem at15 (t : Fin cfg0.N) (r : Fin 256) (l : Fin 1024) : (outsAt0 m c t.val t.isLt).2.2.2.2.2.2.2.2.2.1 (ix2 r l) =
    res15 (m ((c : Thread nD τ).loc main_arg0)) (m ((c : Thread nD τ).loc main_arg1)) (m ((c : Thread nD τ).loc main_arg2)) (m ((c : Thread nD τ).loc main_arg3)) (m ((c : Thread nD τ).loc main_arg4)) (ix2 ⟨256 * t.val + r.val, by have := hN t; omega⟩ l) := by
  by_cases h0 : t.val % 64 = 0
  · rw [outsAt0_A m c t h0]
    dsimp only
    frame_open
    frame_out
    exact (pay14_at _ _ _ _).trans (sum1024 m c t r l 3584 _ (by omega))
  · rw [outsAt0_B m c t h0]
    dsimp only
    frame_open
    frame_out
    exact (pay14_at _ _ _ _).trans (sum1024 m c t r l 3584 _ (by omega))

/-- The array of the gates of the retention branch. -/
theorem arr15 : (dats m 0 c).arrAt 15 cfg0.N = res15 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 15 _ (by decide +kernel) fun t hf y => ?_
  rw [after0_15]
  idx_vars y
  have he : ((View.whole main_v8_9).slice ((win0 15).rect t)).emb (ix2 y0 y1) = (ix2 ⟨256 * t.val + y0.val, by have := hN t; omega⟩ y1 : S16384x1024.Idx) := by
    blk_ext [idx t]
  refine (show _ = (outsAt0 m c t.val t.isLt).2.2.2.2.2.2.2.2.2.1 (ix2 y0 y1) from rfl).trans ((at15 m c t y0 y1).trans ?_)
  exact (congrArg (res15 _ _ _ _ _) he).symm

/-- What grid point `t` leaves in its block of the gates of the attention branch. -/
theorem at16 (t : Fin cfg0.N) (r : Fin 256) (l : Fin 1024) : (outsAt0 m c t.val t.isLt).2.2.2.2.2.2.2.2.2.2.1 (ix2 r l) =
    res16 (m ((c : Thread nD τ).loc main_arg0)) (m ((c : Thread nD τ).loc main_arg1)) (m ((c : Thread nD τ).loc main_arg2)) (m ((c : Thread nD τ).loc main_arg3)) (m ((c : Thread nD τ).loc main_arg4)) (ix2 ⟨256 * t.val + r.val, by have := hN t; omega⟩ l) := by
  by_cases h0 : t.val % 64 = 0
  · rw [outsAt0_A m c t h0]
    dsimp only
    frame_open
    frame_out
    exact (pay15_at _ _ _ _).trans (sum1024 m c t r l 4608 _ (by omega))
  · rw [outsAt0_B m c t h0]
    dsimp only
    frame_open
    frame_out
    exact (pay15_at _ _ _ _).trans (sum1024 m c t r l 4608 _ (by omega))

/-- The array of the gates of the attention branch. -/
theorem arr16 : (dats m 0 c).arrAt 16 cfg0.N = res16 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 16 _ (by decide +kernel) fun t hf y => ?_
  rw [after0_16]
  idx_vars y
  have he : ((View.whole main_v8_10).slice ((win0 16).rect t)).emb (ix2 y0 y1) = (ix2 ⟨256 * t.val + y0.val, by have := hN t; omega⟩ y1 : S16384x1024.Idx) := by
    blk_ext [idx t]
  refine (show _ = (outsAt0 m c t.val t.isLt).2.2.2.2.2.2.2.2.2.2.1 (ix2 y0 y1) from rfl).trans ((at16 m c t y0 y1).trans ?_)
  exact (congrArg (res16 _ _ _ _ _) he).symm

end Arrays
end Cert.Kernel2Ideal.Value
end
-- ==== Proof.ProjPromptRef.lean ====
module

public import proofs.«01_k».proof.Defs
public import proofs.«01_k».proof.Proof.ProjPrompt
public import proofs.«01_k».proof.Proof.Gen.Reference2Ideal.Run
public import Idealize.ShloMosaic.Lib.Pipeline.ValueKit
public import Idealize.ShloMosaic.Lib.Pointwise
public import Idealize.ShloMosaic.Adequacy
public import Idealize.ShloMosaic.Init

@[expose] public section

set_option maxRecDepth 16384

noncomputable section

open Idealize.ShloMosaic Idealize.ShloMosaic.TcCoe Idealize.SL.Sem
open Cert.Modulate

namespace Cert.ProjPrompt

open Cert.Kernel2Ideal.Value (P eighth res6 res7 res8 res9 res10 res11 res12 res13 res14 res15 res16)

section Reference
open Cert.Reference2Ideal Cert.Reference2Ideal.Gen

variable (x0 : FVec Ideal S16384x1024 .f32) (x1 x2 x3 : FVec Ideal S1x1024 .f32) (x4 : FVec Ideal S2x1024x5632 .f32)

/-- The reference's projection: the normed and modulated rows times the first layer's weights. -/
def D : FVec Ideal S16384x5632 .f32 :=
  Host.dotGeneral (F := Ideal) (φ₁ := .f32) (φ₂ := .f32) dot_S16384x1024_S1024x5632_S16384x5632_1_0_0_1_n_n none (addf (mulf (mulf (mulf x0 (broadcastInDim S16384x1024 ![0, 1] bcast_S16384x1_S16384x1024_0_1 (Host.rsqrt (addf (Host.divf (broadcastInDim S16384x1 ![0] bcast_S16384_S16384x1_0 (Host.reduceAdd (mulf x0 x0) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 x1)) (broadcastInDim S16384x1024 ![0, 1] bcast_S1x1024_S16384x1024_0_1 (addf (broadcastInDim S1x1024 ![] bcast_S_S1x1024 (constant S_ .f32 0x3F800000#32)) x3))) (broadcastInDim S16384x1024 ![0, 1] bcast_S1x1024_S16384x1024_0_1 x2)) (shapeCast _ (extractStridedSlice S1x1024x5632 ![0, 0, 0] x4 slices_S2x1024x5632_S1x1024x5632_0_0_0) shapeCasts_S1x1024x5632_S1024x5632)

/-- Its entries. -/
theorem D_at (r : Fin 16384) (n : Fin 5632) : D x0 x1 x2 x3 x4 (ix2 r n) = P x0 x1 x2 x3 x4 r n := by
  unfold D
  pointwise
  rfl

/-- The reference's retention queries. -/
theorem ref6 : truncf .bf16 (extractStridedSlice S16384x512 ![0, 0] (D x0 x1 x2 x3 x4) slices_S16384x5632_S16384x512_0_0) bitsLt_bf16_f32 = res6 x0 x1 x2 x3 x4 := by
  funext i
  idx_vars i
  pointwise
  exact D_at x0 x1 x2 x3 x4 _ _

/-- The reference's retention keys, scaled. -/
theorem ref7 : truncf .bf16 (mulf (extractStridedSlice S16384x512 ![0, 512] (D x0 x1 x2 x3 x4) slices_S16384x5632_S16384x512_0_512) (broadcastInDim S16384x512 ![] bcast_S_S16384x512 (constant S_ .f32 0x3E000000#32))) bitsLt_bf16_f32 = res7 x0 x1 x2 x3 x4 := by
  funext i
  idx_vars i
  pointwise
  exact congrArg (· * eighth) (D_at x0 x1 x2 x3 x4 _ _)

/-- The reference's retention values. -/
theorem ref8 : truncf .bf16 (extractStridedSlice S16384x512 ![0, 1024] (D x0 x1 x2 x3 x4) slices_S16384x5632_S16384x512_0_1024) bitsLt_bf16_f32 = res8 x0 x1 x2 x3 x4 := by
  funext i
  idx_vars i
  pointwise
  exact D_at x0 x1 x2 x3 x4 _ _

/-- The reference's retention gates. -/
theorem ref9 : extractStridedSlice S16384x512 ![0, 1536] (D x0 x1 x2 x3 x4) slices_S16384x5632_S16384x512_0_1536 = res9 x0 x1 x2 x3 x4 := by
  funext i
  idx_vars i
  pointwise
  exact D_at x0 x1 x2 x3 x4 _ _

/-- The reference's attention queries, scaled. -/
theorem ref10 : truncf .bf16 (mulf (extractStridedSlice S16384x512 ![0, 2048] (D x0 x1 x2 x3 x4) slices_S16384x5632_S16384x512_0_2048) (broadcastInDim S16384x512 ![] bcast_S_S16384x512 (constant S_ .f32 0x3E000000#32))) bitsLt_bf16_f32 = res10 x0 x1 x2 x3 x4 := by
  funext i
  idx_vars i
  pointwise
  exact congrArg (· * eighth) (D_at x0 x1 x2 x3 x4 _ _)

/-- The reference's attention keys by block. -/
theorem ref11 : truncf .bf16 (shapeCast _ (extractStridedSlice S16384x512 ![0, 2560] (D x0 x1 x2 x3 x4) slices_S16384x5632_S16384x512_0_2560) shapeCasts_S16384x512_S64x256x512) bitsLt_bf16_f32 = res11 x0 x1 x2 x3 x4 := by
  funext i
  idx_vars i
  pointwise
  exact (D_at x0 x1 x2 x3 x4 _ _).trans (congrArg (P x0 x1 x2 x3 x4 · _) (Fin.ext (congrArg (· + _) (Nat.mul_comm _ _))))

/-- The reference's attention keys, transposed. -/
theorem ref12 : transpose S512x16384 [1, 0] (extractStridedSlice S16384x512 ![0, 2560] (D x0 x1 x2 x3 x4) slices_S16384x5632_S16384x512_0_2560) transposes_S16384x512_S512x16384_1_0 = res12 x0 x1 x2 x3 x4 := by
  funext i
  idx_vars i
  pointwise
  exact D_at x0 x1 x2 x3 x4 _ _

/-- The reference's attention values, transposed. -/
theorem ref13 : transpose S512x16384 [1, 0] (extractStridedSlice S16384x512 ![0, 3072] (D x0 x1 x2 x3 x4) slices_S16384x5632_S16384x512_0_3072) transposes_S16384x512_S512x16384_1_0 = res13 x0 x1 x2 x3 x4 := by
  funext i
  idx_vars i
  pointwise
  exact D_at x0 x1 x2 x3 x4 _ _

/-- The reference's attention values by block, transposed. -/
theorem ref14 : truncf .bf16 (transpose S64x512x256 [0, 2, 1] (shapeCast _ (extractStridedSlice S16384x512 ![0, 3072] (D x0 x1 x2 x3 x4) slices_S16384x5632_S16384x512_0_3072) shapeCasts_S16384x512_S64x256x512) transposes_S64x256x512_S64x512x256_0_2_1) bitsLt_bf16_f32 = res14 x0 x1 x2 x3 x4 := by
  funext i
  idx_vars i
  pointwise
  exact (D_at x0 x1 x2 x3 x4 _ _).trans (congrArg (P x0 x1 x2 x3 x4 · _) (Fin.ext (congrArg (· + _) (Nat.mul_comm _ _))))

/-- The reference's gates of the retention branch. -/
theorem ref15 : extractStridedSlice S16384x1024 ![0, 3584] (D x0 x1 x2 x3 x4) slices_S16384x5632_S16384x1024_0_3584 = res15 x0 x1 x2 x3 x4 := by
  funext i
  idx_vars i
  pointwise
  exact D_at x0 x1 x2 x3 x4 _ _

/-- The reference's gates of the attention branch. -/
theorem ref16 : extractStridedSlice S16384x1024 ![0, 4608] (D x0 x1 x2 x3 x4) slices_S16384x5632_S16384x1024_0_4608 = res16 x0 x1 x2 x3 x4 := by
  funext i
  idx_vars i
  pointwise
  exact D_at x0 x1 x2 x3 x4 _ _

end Reference

set_option maxHeartbeats 1600000 in
/-- The kernel and the reference end with the same eleven projections of the prompt. -/
theorem algebraic : algebraic_Kernel2Ideal_Reference2Ideal (hKernel2Ideal := Cert.Kernel2Ideal.Gen.facts)
    (hReference2Ideal := Cert.Reference2Ideal.Gen.facts) := by
  intro m g m' g' _ hargs
  refine ⟨fun c => res6 (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)), fun c => res7 (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)), fun c => res8 (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)), fun c => res9 (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)), fun c => res10 (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)), fun c => res11 (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)), fun c => res12 (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)), fun c => res13 (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)), fun c => res14 (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)), fun c => res15 (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)), fun c => res16 (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)),
    (θ_run Cert.Kernel2Ideal.defs _ _).mono (fun r h c => ?_) (Cert.Kernel2Ideal.Value.run_blocks m g),
    (θ_run Cert.Reference2Ideal.defs _ _).mono (fun r h c => ?_) (Cert.Reference2Ideal.Value.run m' g')⟩
  · obtain ⟨h6, h7, h8, h9, h10, h11, h12, h13, h14, h15, h16, _, hk⟩ := h c
    exact ⟨h6.trans (Cert.Kernel2Ideal.Value.arr6 m c), h7.trans (Cert.Kernel2Ideal.Value.arr7 m c), h8.trans (Cert.Kernel2Ideal.Value.arr8 m c), h9.trans (Cert.Kernel2Ideal.Value.arr9 m c), h10.trans (Cert.Kernel2Ideal.Value.arr10 m c), h11.trans (Cert.Kernel2Ideal.Value.arr11 m c), h12.trans (Cert.Kernel2Ideal.Value.arr12 m c), h13.trans (Cert.Kernel2Ideal.Value.arr13 m c), h14.trans (Cert.Kernel2Ideal.Value.arr14 m c), h15.trans (Cert.Kernel2Ideal.Value.arr15 m c), h16.trans (Cert.Kernel2Ideal.Value.arr16 m c), hk⟩
  · obtain ⟨h6, h7, h8, h9, h10, h11, h12, h13, h14, h15, h16, hk⟩ := h c
    refine ⟨h6.trans ?_, h7.trans ?_, h8.trans ?_, h9.trans ?_, h10.trans ?_, h11.trans ?_, h12.trans ?_, h13.trans ?_, h14.trans ?_, h15.trans ?_, h16.trans ?_, hk⟩
    all_goals rw [(hargs c).1, (hargs c).2.1, (hargs c).2.2.1, (hargs c).2.2.2.1, (hargs c).2.2.2.2]
    · exact ref6 _ _ _ _ _
    · exact ref7 _ _ _ _ _
    · exact ref8 _ _ _ _ _
    · exact ref9 _ _ _ _ _
    · exact ref10 _ _ _ _ _
    · exact ref11 _ _ _ _ _
    · exact ref12 _ _ _ _ _
    · exact ref13 _ _ _ _ _
    · exact ref14 _ _ _ _ _
    · exact ref15 _ _ _ _ _
    · exact ref16 _ _ _ _ _

/-- The reference runs to its end, keeps its arguments, and leaves every counter at zero. -/
theorem reference_frame : quiescent_Reference2Ideal (hReference2Ideal := Cert.Reference2Ideal.Gen.facts) := fun m g _ =>
  (θ_run Cert.Reference2Ideal.defs _ _).mono (fun r h => ⟨fun c => (h c).2.2.2.2.2.2.2.2.2.2.2, Idealize.ShloMosaic.sem_eq_zero_of_no_sems (by decide) r.2⟩)
    (Cert.Reference2Ideal.Value.run m g)

end Cert.ProjPrompt
end
-- ==== Proof.Merge.lean ====
module

public import proofs.«01_k».proof.Proof.Modulate
public import proofs.«01_k».proof.Proof.Gen.Kernel3Ideal.Value
public import Idealize.ShloMosaic.Lib.Pipeline.ValueKit
public import Idealize.ShloMosaic.Lib.StableHlo.RunRead
public import Idealize.ShloMosaic.Lib.Pointwise
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open Cert.Modulate

namespace Cert.Kernel3Ideal.Value

open Cert.Kernel3Ideal Cert.Kernel3Ideal.Gen

/-! ## The results -/

/-- Entry `n` of a merged row: the row `x` plus the gate times the output projection of the two gated branches. -/
def merged (x : Fin 1024 → EReal) (a b : Fin 512 → EReal) (gr ga gate : Fin 1024 → EReal) (wr wa : Fin 512 → Fin 1024 → EReal)
    (wo : Fin 1024 → Fin 1024 → EReal) (n : Fin 1024) : EReal :=
  x n + gate n * ∑ k, (Ideal.logistic (gr k) * (∑ j, a j * wr j k) + Ideal.logistic (ga k) * (∑ j, b j * wa j k)) * wo k n

section Results
variable (x0 : FVec Ideal S16384x1024 .f32) (x1 x2 : FVec Ideal S16384x512 .bf16) (x3 x4 : FVec Ideal S16384x1024 .f32) (x5 : FVec Ideal S1x1024 .f32)
    (x6 x7 : FVec Ideal S512x1024 .f32) (x8 : FVec Ideal S1024x1024 .f32) (x9 x10 x11 : FVec Ideal S1x1024 .f32)

/-- Row `r` of the merged rows. -/
def M (r : Fin 16384) (n : Fin 1024) : EReal :=
  merged (fun n => x0 (ix2 r n)) (fun j => x1 (ix2 r j)) (fun j => x2 (ix2 r j)) (fun k => x3 (ix2 r k)) (fun k => x4 (ix2 r k)) (fun n => x5 (ix2 0 n))
    (fun j k => x6 (ix2 j k)) (fun j k => x7 (ix2 j k)) (fun k n => x8 (ix2 k n)) n

/-- The merged rows. -/
def resX : FVec Ideal S16384x1024 .f32 := fun i => M x0 x1 x2 x3 x4 x5 x6 x7 x8 (i 0) (i 1)

/-- The merged rows, normed and modulated. -/
def resH : FVec Ideal S16384x1024 .bf16 := fun i =>
  modulate (fun n => M x0 x1 x2 x3 x4 x5 x6 x7 x8 (i 0) n) (fun n => x9 (ix2 0 n)) (fun n => x10 (ix2 0 n)) (fun n => x11 (ix2 0 n)) (i 1)

end Results

/-! ## What one grid point computes -/

/-- A block's merged rows. -/
theorem pay2_at (v0 : Vec Ideal S512x512 .bf16) (v1 : Vec Ideal S512x1024 .bf16) (v4 : Vec Ideal S512x512 .bf16) (v5 : Vec Ideal S512x1024 .bf16)
    (v8 v11 v15 : Vec Ideal S512x1024 .f32) (v16 : Vec Ideal S1x1024 .f32) (v18 : Vec Ideal S1024x1024 .bf16) (r : Fin 512) (n : Fin 1024) :
    k0_pay2 (F := Ideal) v0 v1 v4 v5 v8 v11 v15 v16 v18 (ix2 r n) =
      merged (fun n => v15 (ix2 r n)) (fun j => v0 (ix2 r j)) (fun j => v4 (ix2 r j)) (fun k => v8 (ix2 r k)) (fun k => v11 (ix2 r k)) (fun n => v16 (ix2 0 n))
        (fun j k => v1 (ix2 j k)) (fun j k => v5 (ix2 j k)) (fun k n => v18 (ix2 k n)) n := by
  unfold k0_pay2
  pointwise
  rfl

/-- A block's normed and modulated rows, of the rows `v`. -/
theorem pay5_at (v : FVec Ideal S512x1024 .f32) (v25 v26 v27 : Vec Ideal S1x1024 .f32) (r : Fin 512) (n : Fin 1024) :
    k0_pay5 (F := Ideal) v v25 v26 v27 (mulf v v) (ix2 r n) =
      modulate (fun n : Fin 1024 => v (ix2 r n)) (fun n => v25 (ix2 0 n)) (fun n => v26 (ix2 0 n)) (fun n => v27 (ix2 0 n)) n := by
  unfold k0_pay5 k0_pay4
  pointwise
  rfl

/-! ## The blocks -/

/-- The blocks' places: the rows' blocks move with the grid point, the vectors and weights stay. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![0, 0] ∧ win0_14.index t = ![t.val, 0] ∧ win0_15.index t = ![t.val, 0] :=
  (by decide +kernel : ∀ t : Fin grid0.N, _)

/-- There are 32 grid points. -/
theorem hN : ∀ t : Fin cfg0.N, t.val < 32 := (by decide +kernel : ∀ t : Fin grid0.N, _)

section Arrays
variable (m : (ℓ : Loc nD τ sig) → Buf (Elt Ideal) ℓ) (c : Dev nD)

/-- Block `t` of the rows. -/
theorem blk0 (t : Fin cfg0.N) (r : Fin 512) (j : Fin 1024) : (iblk m c 0 t : Vec Ideal S512x1024 .f32) (ix2 r j) =
    (m ((c : Thread nD τ).loc main_arg0) : Vec Ideal S16384x1024 .f32) (ix2 ⟨512 * t.val + r.val, by have := hN t; omega⟩ j) := by
  rw [← V_main_arg0 m c]
  blk_ext [iblk, idx t]

/-- Block `t` of the retention rows. -/
theorem blk1 (t : Fin cfg0.N) (r j : Fin 512) : (iblk m c 1 t : Vec Ideal S512x512 .bf16) (ix2 r j) =
    (m ((c : Thread nD τ).loc main_arg1) : Vec Ideal S16384x512 .bf16) (ix2 ⟨512 * t.val + r.val, by have := hN t; omega⟩ j) := by
  rw [← V_main_arg1 m c]
  blk_ext [iblk, idx t]

/-- Block `t` of the attention rows. -/
theorem blk2 (t : Fin cfg0.N) (r j : Fin 512) : (iblk m c 2 t : Vec Ideal S512x512 .bf16) (ix2 r j) =
    (m ((c : Thread nD τ).loc main_arg2) : Vec Ideal S16384x512 .bf16) (ix2 ⟨512 * t.val + r.val, by have := hN t; omega⟩ j) := by
  rw [← V_main_arg2 m c]
  blk_ext [iblk, idx t]

/-- Block `t` of the retention branch's gates. -/
theorem blk3 (t : Fin cfg0.N) (r : Fin 512) (j : Fin 1024) : (iblk m c 3 t : Vec Ideal S512x1024 .f32) (ix2 r j) =
    (m ((c : Thread nD τ).loc main_arg3) : Vec Ideal S16384x1024 .f32) (ix2 ⟨512 * t.val + r.val, by have := hN t; omega⟩ j) := by
  rw [← V_main_arg3 m c]
  blk_ext [iblk, idx t]

/-- Block `t` of the attention branch's gates. -/
theorem blk4 (t : Fin cfg0.N) (r : Fin 512) (j : Fin 1024) : (iblk m c 4 t : Vec Ideal S512x1024 .f32) (ix2 r j) =
    (m ((c : Thread nD τ).loc main_arg4) : Vec Ideal S16384x1024 .f32) (ix2 ⟨512 * t.val + r.val, by have := hN t; omega⟩ j) := by
  rw [← V_main_arg4 m c]
  blk_ext [iblk, idx t]

/-- The gate's block is all of it. -/
theorem blk5 (t : Fin cfg0.N) (j : Fin 1024) : (iblk m c 5 t : Vec Ideal S1x1024 .f32) (ix2 0 j) = (m ((c : Thread nD τ).loc main_arg5) : Vec Ideal S1x1024 .f32) (ix2 0 j) := by
  rw [← V_main_arg5 m c]
  blk_ext [iblk, idx t]

/-- The retention branch's weights, which the host casts. -/
theorem w6 (j : Fin 512) (k : Fin 1024) : (V m c main_v7 : Vec Ideal S512x1024 .bf16) (ix2 j k) = (m ((c : Thread nD τ).loc main_arg6) : Vec Ideal S512x1024 .f32) (ix2 j k) := by
  simp only [V, hostOps0]
  after_reads_simp
  rfl

/-- The attention branch's weights, which the host casts. -/
theorem w7 (j : Fin 512) (k : Fin 1024) : (V m c main_v8 : Vec Ideal S512x1024 .bf16) (ix2 j k) = (m ((c : Thread nD τ).loc main_arg7) : Vec Ideal S512x1024 .f32) (ix2 j k) := by
  simp only [V, hostOps0]
  after_reads_simp
  rfl

/-- The output projection's weights, which the host casts. -/
theorem w8 (j k : Fin 1024) : (V m c main_v9 : Vec Ideal S1024x1024 .bf16) (ix2 j k) = (m ((c : Thread nD τ).loc main_arg8) : Vec Ideal S1024x1024 .f32) (ix2 j k) := by
  simp only [V, hostOps0]
  after_reads_simp
  rfl

/-- The retention branch's weights' block is all of them. -/
theorem blk6 (t : Fin cfg0.N) (j : Fin 512) (k : Fin 1024) : (iblk m c 6 t : Vec Ideal S512x1024 .bf16) (ix2 j k) = (m ((c : Thread nD τ).loc main_arg6) : Vec Ideal S512x1024 .f32) (ix2 j k) := by
  rw [← w6 m c]
  blk_ext [iblk, idx t]

/-- The attention branch's weights' block is all of them. -/
theorem blk7 (t : Fin cfg0.N) (j : Fin 512) (k : Fin 1024) : (iblk m c 7 t : Vec Ideal S512x1024 .bf16) (ix2 j k) = (m ((c : Thread nD τ).loc main_arg7) : Vec Ideal S512x1024 .f32) (ix2 j k) := by
  rw [← w7 m c]
  blk_ext [iblk, idx t]

/-- The output projection's weights' block is all of them. -/
theorem blk8 (t : Fin cfg0.N) (j k : Fin 1024) : (iblk m c 8 t : Vec Ideal S1024x1024 .bf16) (ix2 j k) = (m ((c : Thread nD τ).loc main_arg8) : Vec Ideal S1024x1024 .f32) (ix2 j k) := by
  rw [← w8 m c]
  blk_ext [iblk, idx t]

/-- The gain's block is all of it. -/
theorem blk9 (t : Fin cfg0.N) (j : Fin 1024) : (iblk m c 9 t : Vec Ideal S1x1024 .f32) (ix2 0 j) = (m ((c : Thread nD τ).loc main_arg9) : Vec Ideal S1x1024 .f32) (ix2 0 j) := by
  rw [← V_main_arg9 m c]
  blk_ext [iblk, idx t]

/-- The shift's block is all of it. -/
theorem blk10 (t : Fin cfg0.N) (j : Fin 1024) : (iblk m c 10 t : Vec Ideal S1x1024 .f32) (ix2 0 j) = (m ((c : Thread nD τ).loc main_arg10) : Vec Ideal S1x1024 .f32) (ix2 0 j) := by
  rw [← V_main_arg10 m c]
  blk_ext [iblk, idx t]

/-- The scale's block is all of it. -/
theorem blk11 (t : Fin cfg0.N) (j : Fin 1024) : (iblk m c 11 t : Vec Ideal S1x1024 .f32) (ix2 0 j) = (m ((c : Thread nD τ).loc main_arg11) : Vec Ideal S1x1024 .f32) (ix2 0 j) := by
  rw [← V_main_arg11 m c]
  blk_ext [iblk, idx t]

/-! ## The result arrays -/

/-- Block `t`'s merged rows. -/
theorem rows_at (t : Fin cfg0.N) (r : Fin 512) (n : Fin 1024) :
    k0_pay2 (F := Ideal) (iblk m c 1 t) (iblk m c 6 t) (iblk m c 2 t) (iblk m c 7 t) (iblk m c 3 t) (iblk m c 4 t) (iblk m c 0 t) (iblk m c 5 t) (iblk m c 8 t) (ix2 r n) =
    M (m ((c : Thread nD τ).loc main_arg0)) (m ((c : Thread nD τ).loc main_arg1)) (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7)) (m ((c : Thread nD τ).loc main_arg8))
      ⟨512 * t.val + r.val, by have := hN t; omega⟩ n := by
  rw [pay2_at]
  simp only [blk0, blk1, blk2, blk3, blk4, blk5, blk6, blk7, blk8]
  rfl

/-- The array of the merged rows. -/
theorem arr14 : (dats m 0 c).arrAt 14 cfg0.N =
    resX (m ((c : Thread nD τ).loc main_arg0)) (m ((c : Thread nD τ).loc main_arg1)) (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7)) (m ((c : Thread nD τ).loc main_arg8)) := by
  refine (dats m 0 c).arrAt_eq_of_covers 14 _ (by decide +kernel) fun t hf y => ?_
  rw [after0_14]
  idx_vars y
  have he : ((View.whole main_v10_0).slice ((win0 14).rect t)).emb (ix2 y0 y1) = (ix2 ⟨512 * t.val + y0.val, by have := hN t; omega⟩ y1 : S16384x1024.Idx) := by
    blk_ext [idx t]
  refine Eq.trans ?_ (congrArg (resX _ _ _ _ _ _ _ _ _) he).symm
  refine (show _ = (outsAt0 m c t).1 (ix2 y0 y1) from rfl).trans ?_
  unfold outsAt0
  dsimp only
  frame_open
  frame_out
  exact rows_at m c t y0 y1

/-- The array of the normed and modulated rows. -/
theorem arr15 : (dats m 0 c).arrAt 15 cfg0.N =
    resH (m ((c : Thread nD τ).loc main_arg0)) (m ((c : Thread nD τ).loc main_arg1)) (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7)) (m ((c : Thread nD τ).loc main_arg8))
      (m ((c : Thread nD τ).loc main_arg9)) (m ((c : Thread nD τ).loc main_arg10)) (m ((c : Thread nD τ).loc main_arg11)) := by
  refine (dats m 0 c).arrAt_eq_of_covers 15 _ (by decide +kernel) fun t hf y => ?_
  rw [after0_15]
  idx_vars y
  have he : ((View.whole main_v10_1).slice ((win0 15).rect t)).emb (ix2 y0 y1) = (ix2 ⟨512 * t.val + y0.val, by have := hN t; omega⟩ y1 : S16384x1024.Idx) := by
    blk_ext [idx t]
  refine Eq.trans ?_ (congrArg (resH _ _ _ _ _ _ _ _ _ _ _ _) he).symm
  refine (show _ = (outsAt0 m c t).2.1 (ix2 y0 y1) from rfl).trans ?_
  unfold outsAt0
  dsimp only
  frame_open
  frame_out
  refine (pay5_at _ _ _ _ _ _).trans ?_
  simp only [rows_at, blk9, blk10, blk11]
  rfl

end Arrays
end Cert.Kernel3Ideal.Value
end
-- ==== Proof.MergeRef.lean ====
module

public import proofs.«01_k».proof.Proof.Merge
public import proofs.«01_k».proof.Proof.Gen.Reference3Ideal.Run
public import proofs.«01_k».proof.Defs
public import Idealize.ShloMosaic.Lib.StableHlo.RunRead
public import Idealize.ShloMosaic.Lib.Pointwise

@[expose] public section

set_option maxRecDepth 16384

noncomputable section

open Idealize.ShloMosaic Idealize.ShloMosaic.TcCoe Idealize.SL.Sem
open Cert.Modulate

namespace Cert.Merge

open Cert.Kernel3Ideal.Value (M resX resH)

section Reference
open Cert.Reference3Ideal Cert.Reference3Ideal.Gen

variable (x0 : FVec Ideal S16384x1024 .f32) (x1 x2 : FVec Ideal S16384x512 .bf16) (x3 x4 : FVec Ideal S16384x1024 .f32) (x5 : FVec Ideal S1x1024 .f32)
    (x6 x7 : FVec Ideal S512x1024 .f32) (x8 : FVec Ideal S1024x1024 .f32) (x9 x10 x11 : FVec Ideal S1x1024 .f32)

/-- The reference's merged rows. -/
theorem ref_x : addf x0 (mulf (broadcastInDim S16384x1024 ![0, 1] bcast_S1x1024_S16384x1024_0_1 x5) (Host.dotGeneral (F := Ideal) (φ₁ := .f32) (φ₂ := .f32) dot_S16384x1024_S1024x1024_S16384x1024_1_0_0_1_n_n none (addf (mulf (Host.divf (broadcastInDim S16384x1024 ![] bcast_S_S16384x1024 (constant S_ .f32 0x3F800000#32)) (addf (broadcastInDim S16384x1024 ![] bcast_S_S16384x1024 (constant S_ .f32 0x3F800000#32)) (Host.exp (Host.negf x3)))) (Host.dotGeneral (F := Ideal) (φ₁ := .f32) (φ₂ := .f32) dot_S16384x512_S512x1024_S16384x1024_1_0_0_1_n_n none (extf .f32 x1 bitsLt_bf16_f32) x6)) (mulf (Host.divf (broadcastInDim S16384x1024 ![] bcast_S_S16384x1024 (constant S_ .f32 0x3F800000#32)) (addf (broadcastInDim S16384x1024 ![] bcast_S_S16384x1024 (constant S_ .f32 0x3F800000#32)) (Host.exp (Host.negf x4)))) (Host.dotGeneral (F := Ideal) (φ₁ := .f32) (φ₂ := .f32) dot_S16384x512_S512x1024_S16384x1024_1_0_0_1_n_n none (extf .f32 x2 bitsLt_bf16_f32) x7))) x8)) = resX x0 x1 x2 x3 x4 x5 x6 x7 x8 := by
  funext i
  idx_vars i
  pointwise
  rfl

/-- The reference's normed and modulated rows, of the rows `x`. -/
theorem ref_mod (x : FVec Ideal S16384x1024 .f32) (r : Fin 16384) (n : Fin 1024) : (truncf .bf16 (addf (mulf (mulf (mulf x (broadcastInDim S16384x1024 ![0, 1] bcast_S16384x1_S16384x1024_0_1 (Host.rsqrt (addf (Host.divf (broadcastInDim S16384x1 ![0] bcast_S16384_S16384x1_0 (Host.reduceAdd (mulf x x) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 x9)) (broadcastInDim S16384x1024 ![0, 1] bcast_S1x1024_S16384x1024_0_1 (addf (broadcastInDim S1x1024 ![] bcast_S_S1x1024 (constant S_ .f32 0x3F800000#32)) x11))) (broadcastInDim S16384x1024 ![0, 1] bcast_S1x1024_S16384x1024_0_1 x10)) bitsLt_bf16_f32 : FVec Ideal S16384x1024 .bf16) (ix2 r n) =
    modulate (fun n : Fin 1024 => x (ix2 r n)) (fun n => x9 (ix2 0 n)) (fun n => x10 (ix2 0 n)) (fun n => x11 (ix2 0 n)) n := by
  pointwise
  rfl

/-- The reference's normed and modulated merged rows. -/
theorem ref_h (x : FVec Ideal S16384x1024 .f32) (hx : x = resX x0 x1 x2 x3 x4 x5 x6 x7 x8) : truncf .bf16 (addf (mulf (mulf (mulf x (broadcastInDim S16384x1024 ![0, 1] bcast_S16384x1_S16384x1024_0_1 (Host.rsqrt (addf (Host.divf (broadcastInDim S16384x1 ![0] bcast_S16384_S16384x1_0 (Host.reduceAdd (mulf x x) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 x9)) (broadcastInDim S16384x1024 ![0, 1] bcast_S1x1024_S16384x1024_0_1 (addf (broadcastInDim S1x1024 ![] bcast_S_S1x1024 (constant S_ .f32 0x3F800000#32)) x11))) (broadcastInDim S16384x1024 ![0, 1] bcast_S1x1024_S16384x1024_0_1 x10)) bitsLt_bf16_f32 = resH x0 x1 x2 x3 x4 x5 x6 x7 x8 x9 x10 x11 := by
  funext i
  idx_vars i
  refine (ref_mod x9 x10 x11 x i0 i1).trans ?_
  rw [hx]
  rfl

end Reference

/-- The kernel and the reference end with the same merged rows and the same normed and modulated rows. -/
theorem algebraic : algebraic_Kernel3Ideal_Reference3Ideal (hKernel3Ideal := Cert.Kernel3Ideal.Gen.facts)
    (hReference3Ideal := Cert.Reference3Ideal.Gen.facts) := by
  intro m g m' g' _ hargs
  refine ⟨fun c => resX (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)), fun c => resH (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11)),
    (θ_run Cert.Kernel3Ideal.defs _ _).mono (fun r h c => ?_) (Cert.Kernel3Ideal.Value.run_blocks m g),
    (θ_run Cert.Reference3Ideal.defs _ _).mono (fun r h c => ?_) (Cert.Reference3Ideal.Value.run m' g')⟩
  · obtain ⟨h0, h1, _, hk⟩ := h c
    exact ⟨h0.trans (Cert.Kernel3Ideal.Value.arr14 m c), h1.trans (Cert.Kernel3Ideal.Value.arr15 m c), hk⟩
  · obtain ⟨h0, h1, hk⟩ := h c
    refine ⟨h0.trans ?_, h1.trans ?_, hk⟩
    · rw [(hargs c).1, (hargs c).2.1, (hargs c).2.2.1, (hargs c).2.2.2.1, (hargs c).2.2.2.2.1, (hargs c).2.2.2.2.2.1, (hargs c).2.2.2.2.2.2.1, (hargs c).2.2.2.2.2.2.2.1, (hargs c).2.2.2.2.2.2.2.2.1]
      exact ref_x _ _ _ _ _ _ _ _ _
    · unfold Cert.Reference3Ideal.Value.res_main_v41
      rw [(hargs c).1, (hargs c).2.1, (hargs c).2.2.1, (hargs c).2.2.2.1, (hargs c).2.2.2.2.1, (hargs c).2.2.2.2.2.1, (hargs c).2.2.2.2.2.2.1, (hargs c).2.2.2.2.2.2.2.1, (hargs c).2.2.2.2.2.2.2.2.1, (hargs c).2.2.2.2.2.2.2.2.2.1, (hargs c).2.2.2.2.2.2.2.2.2.2.1, (hargs c).2.2.2.2.2.2.2.2.2.2.2.1]
      exact ref_h _ _ _ _ _ _ _ _ _ _ _ _ _ (ref_x _ _ _ _ _ _ _ _ _)

/-- The reference runs to its end, keeps its arguments, and leaves every counter at zero. -/
theorem reference_frame : quiescent_Reference3Ideal (hReference3Ideal := Cert.Reference3Ideal.Gen.facts) := fun m g _ =>
  (θ_run Cert.Reference3Ideal.defs _ _).mono (fun r h => ⟨fun c => (h c).2.2, Idealize.ShloMosaic.sem_eq_zero_of_no_sems (by decide) r.2⟩)
    (Cert.Reference3Ideal.Value.run m g)

end Cert.Merge
end
-- ==== Proof.ProjSample.lean ====
module

public import proofs.«01_k».proof.Defs
public import proofs.«01_k».proof.Proof.Modulate
public import proofs.«01_k».proof.Proof.Gen.Kernel4.Frame
public import proofs.«01_k».proof.Proof.Gen.Kernel4Ideal.Value
public import proofs.«01_k».proof.Proof.Gen.Reference4Ideal.Run
public import Idealize.ShloMosaic.Lib.Pipeline.ValueKit
public import Idealize.ShloMosaic.Lib.Pointwise
public import Idealize.ShloMosaic.Lib.Pipeline.ReadBack
public import Idealize.ShloMosaic.Adequacy
public import Idealize.ShloMosaic.Init

@[expose] public section

set_option maxRecDepth 16384

noncomputable section

open Idealize.ShloMosaic Idealize.ShloMosaic.TcCoe Idealize.SL.Sem
open Idealize.ShloMosaic.Pipeline (Dat)
open Cert.Modulate

namespace Cert.Kernel4Ideal.Value

open Cert.Kernel4Ideal Cert.Kernel4Ideal.Gen

/-- The samples' projection: entry `(b, n)` is sample `b`'s modulated row against column `n` of the first layer's weights. -/
def resP (x0 : FVec Ideal S32x1024 .f32) (x1 : FVec Ideal S1x1024 .f32) (x2 x3 : FVec Ideal S32x1024 .f32) (x4 : FVec Ideal S2x1024x5632 .f32) :
    FVec Ideal S32x5632 .f32 := fun i =>
  project (fun j : Fin 1024 => x0 (ix2 (i 0) j)) (fun j => x1 (ix2 0 j)) (fun j => x2 (ix2 (i 0) j)) (fun j => x3 (ix2 (i 0) j)) (fun j => x4 (ix3 0 j (i 1)))

/-- What one grid point computes: the modulated rows against its block of columns. -/
theorem pay1_at (v0 : Vec Ideal S32x1024 .f32) (v1 : Vec Ideal S1x1024 .f32) (v2 v3 : Vec Ideal S32x1024 .f32) (v20 : Vec Ideal S1x1024x512 .f32) (r : Fin 32) (l : Fin 512) :
    k0_pay1 (F := Ideal) v0 v1 v2 v3 v20 (ix2 r l) =
      project (fun j : Fin 1024 => v0 (ix2 r j)) (fun j => v1 (ix2 0 j)) (fun j => v2 (ix2 r j)) (fun j => v3 (ix2 r j)) (fun j => v20 (ix3 0 j l)) := by
  unfold k0_pay1
  pointwise
  rfl

/-- The blocks' places: only the weights' and the result's column blocks move with the grid point. -/
theorem idx : ∀ t : Fin cfg0.N, win0_0.index t = ![0, 0] ∧ win0_1.index t = ![0, 0] ∧ win0_2.index t = ![0, 0]
    ∧ win0_3.index t = ![0, 0] ∧ win0_4.index t = ![0, 0, t.val] ∧ win0_5.index t = ![0, t.val] :=
  (by decide +kernel : ∀ t : Fin grid0.N, _)

/-- There are eleven grid points. -/
theorem hN : ∀ t : Fin cfg0.N, t.val < 11 := (by decide +kernel : ∀ t : Fin grid0.N, _)

section Arrays
variable (m : (ℓ : Loc nD τ sig) → Buf (Elt Ideal) ℓ) (c : Dev nD)

/-- The rows' block is all of them. -/
theorem blk0 (t : Fin cfg0.N) (r : Fin 32) (j : Fin 1024) : (iblk m c 0 t : Vec Ideal S32x1024 .f32) (ix2 r j) = (m ((c : Thread nD τ).loc main_arg0) : Vec Ideal S32x1024 .f32) (ix2 r j) := by
  rw [← V_main_arg0 m c]
  blk_ext [iblk, idx t]

/-- The gain's block is all of it. -/
theorem blk1 (t : Fin cfg0.N) (j : Fin 1024) : (iblk m c 1 t : Vec Ideal S1x1024 .f32) (ix2 0 j) = (m ((c : Thread nD τ).loc main_arg1) : Vec Ideal S1x1024 .f32) (ix2 0 j) := by
  rw [← V_main_arg1 m c]
  blk_ext [iblk, idx t]

/-- The shift's block is all of it. -/
theorem blk2 (t : Fin cfg0.N) (r : Fin 32) (j : Fin 1024) : (iblk m c 2 t : Vec Ideal S32x1024 .f32) (ix2 r j) = (m ((c : Thread nD τ).loc main_arg2) : Vec Ideal S32x1024 .f32) (ix2 r j) := by
  rw [← V_main_arg2 m c]
  blk_ext [iblk, idx t]

/-- The scale's block is all of it. -/
theorem blk3 (t : Fin cfg0.N) (r : Fin 32) (j : Fin 1024) : (iblk m c 3 t : Vec Ideal S32x1024 .f32) (ix2 r j) = (m ((c : Thread nD τ).loc main_arg3) : Vec Ideal S32x1024 .f32) (ix2 r j) := by
  rw [← V_main_arg3 m c]
  blk_ext [iblk, idx t]

/-- The weights' block is the first layer's columns from `512 t` on. -/
theorem blk4 (t : Fin cfg0.N) (j : Fin 1024) (l : Fin 512) : (iblk m c 4 t : Vec Ideal S1x1024x512 .f32) (ix3 0 j l) =
    (m ((c : Thread nD τ).loc main_arg4) : Vec Ideal S2x1024x5632 .f32) (ix3 0 j ⟨512 * t.val + l.val, by have := hN t; omega⟩) := by
  rw [← V_main_arg4 m c]
  blk_ext [iblk, idx t]

/-- The kernel's result array. -/
theorem arr5 : (dats m 0 c).arrAt 5 cfg0.N = resP (m ((c : Thread nD τ).loc main_arg0)) (m ((c : Thread nD τ).loc main_arg1)) (m ((c : Thread nD τ).loc main_arg2))
    (m ((c : Thread nD τ).loc main_arg3)) (m ((c : Thread nD τ).loc main_arg4)) := by
  refine (dats m 0 c).arrAt_eq_of_covers 5 _ (by decide +kernel) fun t hf y => ?_
  rw [after0_5]
  idx_vars y
  have he : ((View.whole main_v0).slice ((win0 5).rect t)).emb (ix2 y0 y1) = (ix2 y0 ⟨512 * t.val + y1.val, by have := hN t; omega⟩ : S32x5632.Idx) := by
    blk_ext [idx t]
  refine Eq.trans ?_ (congrArg (resP _ _ _ _ _) he).symm
  unfold out0_5
  frame_out
  refine (pay1_at _ _ _ _ _ _ _).trans ?_
  simp only [blk0, blk1, blk2, blk3, blk4]
  rfl

end Arrays
end Cert.Kernel4Ideal.Value

namespace Cert.ProjSample

open Cert.Kernel4Ideal.Value (resP)

section Reference
open Cert.Reference4Ideal Cert.Reference4Ideal.Gen

/-- The reference's result, entry by entry. -/
theorem ref_at (x0 : FVec Ideal S32x1024 .f32) (x1 : FVec Ideal S1x1024 .f32) (x2 x3 : FVec Ideal S32x1024 .f32) (x4 : FVec Ideal S2x1024x5632 .f32) :
  Host.dotGeneral (F := Ideal) (φ₁ := .f32) (φ₂ := .f32) dot_S32x1024_S1024x5632_S32x5632_1_0_0_1_n_n none (addf (mulf (mulf (mulf x0 (broadcastInDim S32x1024 ![0, 1] bcast_S32x1_S32x1024_0_1 (Host.rsqrt (addf (Host.divf (broadcastInDim S32x1 ![0] bcast_S32_S32x1_0 (Host.reduceAdd (mulf x0 x0) (constant S_ .f32 0x00000000#32) reducesTo_S32x1024_S32_d1 h_S_)) (broadcastInDim S32x1 ![] bcast_S_S32x1 (constant S_ .f32 0x44800000#32))) (broadcastInDim S32x1 ![] bcast_S_S32x1 (constant S_ .f32 0x358637BD#32)))))) (broadcastInDim S32x1024 ![0, 1] bcast_S1x1024_S32x1024_0_1 x1)) (addf (broadcastInDim S32x1024 ![] bcast_S_S32x1024 (constant S_ .f32 0x3F800000#32)) x3)) x2) (shapeCast _ (extractStridedSlice S1x1024x5632 ![0, 0, 0] x4 slices_S2x1024x5632_S1x1024x5632_0_0_0) shapeCasts_S1x1024x5632_S1024x5632)
    = resP x0 x1 x2 x3 x4 := by
  funext i
  idx_vars i
  pointwise
  rfl

end Reference

/-- The kernel and the reference end with the same projections of the samples. -/
theorem algebraic : algebraic_Kernel4Ideal_Reference4Ideal (hKernel4Ideal := Cert.Kernel4Ideal.Gen.facts)
    (hReference4Ideal := Cert.Reference4Ideal.Gen.facts) := by
  intro m g m' g' _ hargs
  refine ⟨fun c => resP _ _ _ _ _,
    (θ_run Cert.Kernel4Ideal.defs _ _).mono (fun r h c => ⟨(h c).1.trans (Cert.Kernel4Ideal.Value.arr5 m c), (h c).2⟩) (Cert.Kernel4Ideal.Value.run_blocks m g),
    (θ_run Cert.Reference4Ideal.defs _ _).mono (fun r h c => ⟨(h c).1.trans ?_, (h c).2⟩) (Cert.Reference4Ideal.Value.run m' g')⟩
  rw [(hargs c).1, (hargs c).2.1, (hargs c).2.2.1, (hargs c).2.2.2.1, (hargs c).2.2.2.2]
  exact ref_at _ _ _ _ _

/-- The reference runs to its end, keeps its arguments, and leaves every counter at zero. -/
theorem reference_frame : quiescent_Reference4Ideal (hReference4Ideal := Cert.Reference4Ideal.Gen.facts) := fun m g _ =>
  (θ_run Cert.Reference4Ideal.defs _ _).mono (fun r h => ⟨fun c => (h c).2, Idealize.ShloMosaic.sem_eq_zero_of_no_sems (by decide) r.2⟩)
    (Cert.Reference4Ideal.Value.run m g)

end Cert.ProjSample
end
-- ==== Proof.RetSample.lean ====
module

public import proofs.«01_k».proof.Defs
public import proofs.«01_k».proof.Proof.Decay
public import proofs.«01_k».proof.Proof.Gen.Kernel5Ideal.Value
public import proofs.«01_k».proof.Proof.Gen.Reference5Ideal.Run
public import Idealize.ShloMosaic.Lib.StableHlo.RunRead
public import Idealize.ShloMosaic.Lib.Pipeline.ValueKit
public import Idealize.ShloMosaic.Lib.Pointwise
public import Idealize.ShloMosaic.Lib.Pipeline.ReadBack
public import Idealize.ShloMosaic.Adequacy
public import Idealize.ShloMosaic.Init

@[expose] public section

set_option maxRecDepth 16384

noncomputable section

open Idealize.ShloMosaic Idealize.ShloMosaic.TcCoe Idealize.SL.Sem
open Idealize.ShloMosaic.Pipeline (Dat)
open Cert.Recurrence

namespace Cert.Kernel5Ideal.Value

open Cert.Kernel5Ideal Cert.Kernel5Ideal.Gen

/-! ## The results -/

/-- Entry `(d, v)` of one head's state after a sample: the decayed state plus the eighth of the key times the value. -/
def newState (g : EReal) (s : Fin 64 → Fin 64 → EReal) (k v : Fin 64 → EReal) (d e : Fin 64) : EReal :=
  g * s d e + k d * Ideal.ofBits FTy.f32 1040187392#32 * v e

/-- Entry `e` of a head's row `o`, less its mean, divided by the root of its variance, and gated by `r`. -/
def headOut (r o : Fin 64 → EReal) (e : Fin 64) : EReal :=
  r e * Ideal.logistic (r e) * ((o e - Ideal.div (∑ d, o d) (Ideal.ofBits FTy.f32 1115684864#32)) *
    Ideal.rsqrt (Ideal.div (∑ d, (o d - Ideal.div (∑ d, o d) (Ideal.ofBits FTy.f32 1115684864#32)) * (o d - Ideal.div (∑ d, o d) (Ideal.ofBits FTy.f32 1115684864#32)))
      (Ideal.ofBits FTy.f32 1115684864#32) + Ideal.ofBits FTy.f32 897988541#32))

section Results
variable (x0 : FVec Ideal S2x32x8x64x64 .f32) (x1 x2 x3 x4 : FVec Ideal S32x512 .f32)

/-- Entry `d` of head `h` of sample `b` in a row of heads. -/
def head (x : FVec Ideal S32x512 .f32) (b : Fin 32) (h : Fin 8) (d : Fin 64) : EReal := x (ix2 b ⟨h.val * 64 + d.val, by omega⟩)

/-- Head `h` of sample `b`'s state after the sample. -/
def stateOf (b : Fin 32) (h : Fin 8) (d e : Fin 64) : EReal :=
  newState ((gR h.val : ℝ) : EReal) (fun d e => x0 (ix5 0 b h d e)) (head x2 b h) (head x3 b h) d e

/-- The query against head `h` of sample `b`'s state after the sample. -/
def retOf (b : Fin 32) (h : Fin 8) (e : Fin 64) : EReal := ∑ d, head x1 b h d * stateOf x0 x2 x3 b h d e

/-- The samples' states after the sample. -/
def resS : FVec Ideal S32x8x64x64 .f32 := fun i => stateOf x0 x2 x3 (i 0) (i 1) (i 2) (i 3)

/-- The samples' gated, normed retention. -/
def resO : FVec Ideal S32x8x1x64 .f32 := fun i => headOut (head x4 (i 0) (i 1)) (retOf x0 x1 x2 x3 (i 0) (i 1)) (i 3)

end Results

/-! ## What one grid point computes -/

/-- The heads' states after the sample. -/
theorem pay2_at (v0 : Vec Ideal S8x1x1 .f32) (v2 : Vec Ideal S1x1x8x64x64 .f32) (v6 : Vec Ideal S1x8x64x1 .f32) (v10 : Vec Ideal S1x8x1x64 .f32) (h : Fin 8) (d e : Fin 64) :
    k0_pay2 (F := Ideal) v0 v2 v6 v10 (ix3 h d e) =
      newState (v0 (ix3 h 0 0)) (fun d e => v2 (ix5 0 0 h d e)) (fun d => v6 (ix4 0 h d 0)) (fun e => v10 (ix4 0 h 0 e)) d e := by
  unfold k0_pay2
  pointwise
  rfl

/-- The stored states are the computed ones. -/
theorem pay3_at (v0 : Vec Ideal S8x1x1 .f32) (v2 : Vec Ideal S1x1x8x64x64 .f32) (v6 : Vec Ideal S1x8x64x1 .f32) (v10 : Vec Ideal S1x8x1x64 .f32) (h : Fin 8) (d e : Fin 64) :
    k0_pay3 (F := Ideal) v0 v2 v6 v10 (ix4 0 h d e) = k0_pay2 (F := Ideal) v0 v2 v6 v10 (ix3 h d e) := by
  unfold k0_pay3
  pointwise

/-- The query against the states. -/
theorem pay4_at (v0 : Vec Ideal S8x1x1 .f32) (v2 : Vec Ideal S1x1x8x64x64 .f32) (v6 : Vec Ideal S1x8x64x1 .f32) (v10 : Vec Ideal S1x8x1x64 .f32) (v19 : Vec Ideal S1x8x64x1 .f32) (h : Fin 8) (e : Fin 64) :
    k0_pay4 (F := Ideal) v0 v2 v6 v10 v19 (ix3 h 0 e) = ∑ d : Fin 64, v19 (ix4 0 h d 0) * k0_pay2 (F := Ideal) v0 v2 v6 v10 (ix3 h d e) := by
  unfold k0_pay4
  pointwise

/-- The mean of the query against the states. -/
theorem pay5_at (v0 : Vec Ideal S8x1x1 .f32) (v2 : Vec Ideal S1x1x8x64x64 .f32) (v6 : Vec Ideal S1x8x64x1 .f32) (v10 : Vec Ideal S1x8x1x64 .f32) (v19 : Vec Ideal S1x8x64x1 .f32) (h : Fin 8) (e : Fin 64) :
    k0_pay5 (F := Ideal) v0 v2 v6 v10 v19 (ix3 h 0 e) = Ideal.div (∑ d : Fin 64, k0_pay4 (F := Ideal) v0 v2 v6 v10 v19 (ix3 h 0 d)) (Ideal.ofBits FTy.f32 1115684864#32) := by
  unfold k0_pay5
  pointwise

/-- The gated, normed rows, of the rows and their means. -/
theorem pay1_at (v24 v29 : FVec Ideal S8x1x64 .f32) (v36 : Vec Ideal S1x8x1x64 .f32) (h : Fin 8) (e : Fin 64)
    (hm : ∀ d : Fin 64, v29 (ix3 h 0 d) = Ideal.div (∑ d : Fin 64, v24 (ix3 h 0 d)) (Ideal.ofBits FTy.f32 1115684864#32)) :
    k0_pay1 (F := Ideal) v24 v29 v36 (ix4 0 h 0 e) = headOut (fun e => v36 (ix4 0 h 0 e)) (fun e => v24 (ix3 h 0 e)) e := by
  unfold k0_pay1 headOut
  simp only [← hm e]
  pointwise
  simp only [hm]

/-! ## The blocks -/

/-- The blocks' places: block `t` is sample `t` of the first layer; the decays' block stays. -/
theorem idx : ∀ t : Fin cfg0.N, win0_0.index t = ![0, t.val, 0, 0, 0] ∧ win0_1.index t = ![t.val, 0, 0, 0] ∧ win0_2.index t = ![t.val, 0, 0, 0]
    ∧ win0_3.index t = ![t.val, 0, 0, 0] ∧ win0_4.index t = ![t.val, 0, 0, 0] ∧ win0_5.index t = ![0, 0, 0] ∧ win0_6.index t = ![t.val, 0, 0, 0]
    ∧ win0_7.index t = ![t.val, 0, 0, 0] :=
  (by decide +kernel : ∀ t : Fin grid0.N, _)

/-- There are 32 grid points. -/
theorem hN : ∀ t : Fin cfg0.N, t.val < 32 := (by decide +kernel : ∀ t : Fin grid0.N, _)

section Arrays
variable (m : (ℓ : Loc nD τ sig) → Buf (Elt Ideal) ℓ) (c : Dev nD)

/-- The queries by head, which the host reshapes. -/
theorem qs (b : Fin 32) (h : Fin 8) (d : Fin 64) : (V m c main_v0 : Vec Ideal S32x8x64x1 .f32) (ix4 b h d 0) = head (m ((c : Thread nD τ).loc main_arg1)) b h d := by
  simp only [V, hostOps0]
  after_reads_simp
  unfold head
  pointwise

/-- The keys by head, which the host reshapes. -/
theorem ks (b : Fin 32) (h : Fin 8) (d : Fin 64) : (V m c main_v1 : Vec Ideal S32x8x64x1 .f32) (ix4 b h d 0) = head (m ((c : Thread nD τ).loc main_arg2)) b h d := by
  simp only [V, hostOps0]
  after_reads_simp
  unfold head
  pointwise

/-- The values by head, which the host reshapes. -/
theorem vs (b : Fin 32) (h : Fin 8) (d : Fin 64) : (V m c main_v2 : Vec Ideal S32x8x1x64 .f32) (ix4 b h 0 d) = head (m ((c : Thread nD τ).loc main_arg3)) b h d := by
  simp only [V, hostOps0]
  after_reads_simp
  unfold head
  pointwise

/-- The gates by head, which the host reshapes. -/
theorem rs (b : Fin 32) (h : Fin 8) (d : Fin 64) : (V m c main_v3 : Vec Ideal S32x8x1x64 .f32) (ix4 b h 0 d) = head (m ((c : Thread nD τ).loc main_arg4)) b h d := by
  simp only [V, hostOps0]
  after_reads_simp
  unfold head
  pointwise

/-- The heads' decays, which the host computes. -/
theorem gs (h : Fin 8) : (V m c main_v12 : Vec Ideal S8x1x1 .f32) (ix3 h 0 0) = ((gR h.val : ℝ) : EReal) := by
  simp only [V, hostOps0]
  after_reads_simp
  pointwise
  rw [lg_printed h.val (by omega), Ideal.exp_coe, gR]

/-- Block `t` of the states is sample `t`'s in the first layer. -/
theorem blk0 (t : Fin cfg0.N) (h : Fin 8) (d e : Fin 64) : (iblk m c 0 t : Vec Ideal S1x1x8x64x64 .f32) (ix5 0 0 h d e) =
    ((m ((c : Thread nD τ).loc main_arg0)) : Vec Ideal S2x32x8x64x64 .f32) (ix5 0 ⟨t.val, hN t⟩ h d e) := by
  rw [← V_main_arg0 m c]
  blk_ext [iblk, idx t]

/-- Block `t` of the queries is sample `t`'s. -/
theorem blk1 (t : Fin cfg0.N) (h : Fin 8) (d : Fin 64) : (iblk m c 1 t : Vec Ideal S1x8x64x1 .f32) (ix4 0 h d 0) = head (m ((c : Thread nD τ).loc main_arg1)) ⟨t.val, hN t⟩ h d := by
  rw [← qs m c]
  blk_ext [iblk, idx t]

/-- Block `t` of the keys is sample `t`'s. -/
theorem blk2 (t : Fin cfg0.N) (h : Fin 8) (d : Fin 64) : (iblk m c 2 t : Vec Ideal S1x8x64x1 .f32) (ix4 0 h d 0) = head (m ((c : Thread nD τ).loc main_arg2)) ⟨t.val, hN t⟩ h d := by
  rw [← ks m c]
  blk_ext [iblk, idx t]

/-- Block `t` of the values is sample `t`'s. -/
theorem blk3 (t : Fin cfg0.N) (h : Fin 8) (d : Fin 64) : (iblk m c 3 t : Vec Ideal S1x8x1x64 .f32) (ix4 0 h 0 d) = head (m ((c : Thread nD τ).loc main_arg3)) ⟨t.val, hN t⟩ h d := by
  rw [← vs m c]
  blk_ext [iblk, idx t]

/-- Block `t` of the gates is sample `t`'s. -/
theorem blk4 (t : Fin cfg0.N) (h : Fin 8) (d : Fin 64) : (iblk m c 4 t : Vec Ideal S1x8x1x64 .f32) (ix4 0 h 0 d) = head (m ((c : Thread nD τ).loc main_arg4)) ⟨t.val, hN t⟩ h d := by
  rw [← rs m c]
  blk_ext [iblk, idx t]

/-- The decays' block is all of them. -/
theorem blk5 (t : Fin cfg0.N) (h : Fin 8) : (iblk m c 5 t : Vec Ideal S8x1x1 .f32) (ix3 h 0 0) = ((gR h.val : ℝ) : EReal) := by
  rw [← gs m c]
  blk_ext [iblk, idx t]

/-- Grid point `t` computes sample `t`'s states. -/
theorem state_at (t : Fin cfg0.N) (h : Fin 8) (d e : Fin 64) : k0_pay2 (F := Ideal) (iblk m c 5 t) (iblk m c 0 t) (iblk m c 2 t) (iblk m c 3 t) (ix3 h d e) =
    stateOf (m ((c : Thread nD τ).loc main_arg0)) (m ((c : Thread nD τ).loc main_arg2)) (m ((c : Thread nD τ).loc main_arg3)) ⟨t.val, hN t⟩ h d e := by
  refine (pay2_at _ _ _ _ h d e).trans ?_
  simp only [blk0, blk2, blk3, blk5]
  rfl

/-- Grid point `t` computes sample `t`'s retention. -/
theorem ret_at (t : Fin cfg0.N) (h : Fin 8) (e : Fin 64) : k0_pay4 (F := Ideal) (iblk m c 5 t) (iblk m c 0 t) (iblk m c 2 t) (iblk m c 3 t) (iblk m c 1 t) (ix3 h 0 e) =
    retOf (m ((c : Thread nD τ).loc main_arg0)) (m ((c : Thread nD τ).loc main_arg1)) (m ((c : Thread nD τ).loc main_arg2)) (m ((c : Thread nD τ).loc main_arg3)) ⟨t.val, hN t⟩ h e := by
  refine (pay4_at _ _ _ _ _ h e).trans ?_
  simp only [state_at, blk1]
  rfl

/-- The written states. -/
theorem arr6 : (dats m 0 c).arrAt 6 cfg0.N = resS (m ((c : Thread nD τ).loc main_arg0)) (m ((c : Thread nD τ).loc main_arg2)) (m ((c : Thread nD τ).loc main_arg3)) := by
  refine (dats m 0 c).arrAt_eq_of_covers 6 _ (by decide +kernel) fun t hf y => ?_
  rw [after0_6]
  idx_vars y
  have he : ((View.whole main_v13_0).slice ((win0 6).rect t)).emb (ix4 y0 y1 y2 y3) = (ix4 ⟨t.val, hN t⟩ y1 y2 y3 : S32x8x64x64.Idx) := by
    blk_ext [idx t]
  refine Eq.trans ?_ (congrArg (resS (m ((c : Thread nD τ).loc main_arg0)) (m ((c : Thread nD τ).loc main_arg2)) (m ((c : Thread nD τ).loc main_arg3))) he).symm
  unfold out0_6
  frame_out
  obtain rfl : y0 = 0 := Subsingleton.elim _ _
  refine (pay3_at _ _ _ _ y1 y2 y3).trans ?_
  exact state_at m c t y1 y2 y3

/-- The written retention. -/
theorem arr7 : (dats m 0 c).arrAt 7 cfg0.N = resO (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t hf y => ?_
  rw [after0_7]
  idx_vars y
  have he : ((View.whole main_v13_1).slice ((win0 7).rect t)).emb (ix4 y0 y1 y2 y3) = (ix4 ⟨t.val, hN t⟩ y1 0 y3 : S32x8x1x64.Idx) := by
    blk_ext [idx t]
  refine Eq.trans ?_ (congrArg (resO (m ((c : Thread nD τ).loc main_arg0)) (m ((c : Thread nD τ).loc main_arg1)) (m ((c : Thread nD τ).loc main_arg2)) (m ((c : Thread nD τ).loc main_arg3)) (m ((c : Thread nD τ).loc main_arg4))) he).symm
  unfold out0_7
  frame_out
  obtain rfl : y0 = 0 := Subsingleton.elim _ _
  obtain rfl : y2 = 0 := Subsingleton.elim _ _
  refine (pay1_at _ _ _ y1 y3 fun d => pay5_at _ _ _ _ _ y1 d).trans ?_
  simp only [ret_at, blk4]
  rfl

end Arrays
end Cert.Kernel5Ideal.Value

namespace Cert.RetSample

open Cert.Kernel5Ideal.Value (head newState headOut stateOf retOf resS resO)

/-! ## Finite arguments -/

/-- The shape relations the precondition states. -/
theorem facts : Cert.Pre_finite_state.Facts := ⟨by decide, by decide⟩

/-- The pattern of infinity is infinity. -/
theorem inf_bits : Ideal.ofBits FTy.f32 2139095040#32 = (⊤ : EReal) := by
  simp [Ideal.ofBits, Ideal.ieee]

/-- An extended real whose absolute value is below infinity is a real. -/
theorem real_of_abs_lt (x : EReal) (h : (FloatOps.absf (F := Ideal) (φ := .f32) x : EReal) < ⊤) : ((x.toReal : ℝ) : EReal) = x := by
  refine EReal.coe_toReal ?_ ?_
  · rintro rfl; exact absurd h (by simp [FloatOps.absf])
  · rintro rfl; exact absurd h (by simp [FloatOps.absf])

/-- Every element of a finite row of heads is a real. -/
theorem real_row (x : FVec Ideal Cert.Pre_finite_state.S32x512 .f32) (hb : Cert.Pre_finite_state.S_.BroadcastsInDim Cert.Pre_finite_state.S32x512 (![] : Fin 0 → Fin Cert.Pre_finite_state.S32x512.rank))
    (h : cmpf .olt (Host.absf x) (broadcastInDim Cert.Pre_finite_state.S32x512 ![] hb (constant Cert.Pre_finite_state.S_ .f32 0x7F800000#32)) = fun _ => 1#1) (n : Fin 32) (j : Fin 512) :
    (((x (ix2 n j)).toReal : ℝ) : EReal) = x (ix2 n j) := by
  have := congrFun h (ix2 n j)
  revert this
  pointwise
  rw [inf_bits]
  intro this
  refine real_of_abs_lt _ ?_
  by_contra hc
  rw [decide_eq_false hc] at this
  exact absurd this (by decide)

/-- Every element of a finite state is a real. -/
theorem real_state (x : FVec Ideal Cert.Pre_finite_state.S2x32x8x64x64 .f32) (hb : Cert.Pre_finite_state.S_.BroadcastsInDim Cert.Pre_finite_state.S2x32x8x64x64 (![] : Fin 0 → Fin Cert.Pre_finite_state.S2x32x8x64x64.rank))
    (h : cmpf .olt (Host.absf x) (broadcastInDim Cert.Pre_finite_state.S2x32x8x64x64 ![] hb (constant Cert.Pre_finite_state.S_ .f32 0x7F800000#32)) = fun _ => 1#1) (l : Fin 2) (b : Fin 32) (n : Fin 8) (d e : Fin 64) :
    (((x (ix5 l b n d e)).toReal : ℝ) : EReal) = x (ix5 l b n d e) := by
  have := congrFun h (ix5 l b n d e)
  revert this
  pointwise
  rw [inf_bits]
  intro this
  refine real_of_abs_lt _ ?_
  by_contra hc
  rw [decide_eq_false hc] at this
  exact absurd this (by decide)

/-! ## The reference -/

/-- The pattern of an eighth is an eighth. -/
theorem bits_eighth : Ideal.ofBits FTy.f32 1040187392#32 = ((1 / 8 : ℝ) : EReal) := by
  simp [Ideal.ofBits, Ideal.ieee, -EReal.coe_mul]; norm_num

/-- Over the reals, the query against the new state is the query against the key times the value, plus the decayed query against the old state. -/
theorem split (q k s : Fin 64 → ℝ) (v c g : ℝ) : (∑ d, (q d : EReal) * ((g : EReal) * (s d : EReal) + (k d : EReal) * (c : EReal) * (v : EReal))) =
    (v : EReal) * (∑ d, (q d : EReal) * ((k d : EReal) * (c : EReal))) + (∑ d, (s d : EReal) * (q d : EReal)) * (g : EReal) := by
  simp only [← EReal.coe_mul, ← EReal.coe_add, coe_sum]
  congr 1
  rw [Finset.mul_sum, Finset.sum_mul, ← Finset.sum_add_distrib]
  exact Finset.sum_congr rfl fun d _ => by ring

/-- The first row's number, converted to a float, is zero. -/
theorem zero_row : (FloatOps.sitofp (F := Ideal) FTy.f32 0#32 : EReal) = 0 := by
  simpa using sitofp_nat 0 (by norm_num)

/-- The exponential of zero is one. -/
theorem exp_zero : Ideal.exp (0 : EReal) = 1 := by
  rw [← EReal.coe_zero, Ideal.exp_coe, Real.exp_zero, EReal.coe_one]

section Reference
open Cert.Reference5Ideal Cert.Reference5Ideal.Gen

variable (x0 : FVec Ideal S2x32x8x64x64 .f32) (x1 x2 x3 x4 : FVec Ideal S32x512 .f32)

/-- The reference's states after the sample. -/
theorem ref_state : addf (mulf (broadcastInDim S32x8x64x64 ![0, 1, 2, 3] bcast_S1x8x1x1_S32x8x64x64_0_1_2_3 (broadcastInDim S1x8x1x1 ![1] bcast_S8_S1x8x1x1_1 (Host.exp (mulf (Host.log1p (Host.negf (Host.powf (broadcastInDim S8 ![] bcast_S_S8 (constant S_ .f32 0x40000000#32)) (subf (broadcastInDim S8 ![] bcast_S_S8 (constant S_ .f32 0xC0A00000#32)) (sitofp .f32 (iotaInDim S8 32 0)))))) (broadcastInDim S8 ![] bcast_S_S8 (constant S_ .f32 0x3F800000#32)))))) (shapeCast _ (extractStridedSlice S1x32x8x64x64 ![0, 0, 0, 0, 0] x0 slices_S2x32x8x64x64_S1x32x8x64x64_0_0_0_0_0) shapeCasts_S1x32x8x64x64_S32x8x64x64)) (Host.dotGeneral (F := Ideal) (φ₁ := .f32) (φ₂ := .f32) dot_S32x1x8x64_S32x1x8x64_S32x8x64x64_1_1_3_3_02_02 none (mulf (mulf (shapeCast _ x2 shapeCasts_S32x512_S32x1x8x64) (broadcastInDim S32x1x8x64 ![] bcast_S_S32x1x8x64 (constant S_ .f32 0x3E000000#32))) (broadcastInDim S32x1x8x64 ![0, 1, 2, 3] bcast_S1x1x8x1_S32x1x8x64_0_1_2_3 (broadcastInDim S1x1x8x1 ![1, 2] bcast_S1x8_S1x1x8x1_1_2 (Host.exp (mulf (broadcastInDim S1x8 ![1] bcast_S8_S1x8_1 (Host.log1p (Host.negf (Host.powf (broadcastInDim S8 ![] bcast_S_S8 (constant S_ .f32 0x40000000#32)) (subf (broadcastInDim S8 ![] bcast_S_S8 (constant S_ .f32 0xC0A00000#32)) (sitofp .f32 (iotaInDim S8 32 0))))))) (broadcastInDim S1x8 ![0, 1] bcast_S1x1_S1x8_0_1 (subf (broadcastInDim S1x1 ![] bcast_S_S1x1 (constant S_ .f32 0x00000000#32)) (broadcastInDim S1x1 ![0] bcast_S1_S1x1_0 (sitofp .f32 (iotaInDim S1 32 0)))))))))) (shapeCast _ x3 shapeCasts_S32x512_S32x1x8x64)) = resS x0 x2 x3 := by
  funext i
  idx_vars i
  pointwise
  simp only [lg_printed i1.val (by omega), zero_row, sub_zero, mul_zero, exp_zero, mul_one, Fin.sum_univ_one, Ideal.exp_coe]
  rfl

/-- The reference's retention. -/
theorem ref_o (h0 : ∀ b h d e, (((x0 (ix5 0 b h d e)).toReal : ℝ) : EReal) = x0 (ix5 0 b h d e)) (h1 : ∀ b j, (((x1 (ix2 b j)).toReal : ℝ) : EReal) = x1 (ix2 b j))
    (h2 : ∀ b j, (((x2 (ix2 b j)).toReal : ℝ) : EReal) = x2 (ix2 b j)) (h3 : ∀ b j, (((x3 (ix2 b j)).toReal : ℝ) : EReal) = x3 (ix2 b j)) :
    addf (transpose S32x1x8x64 [0, 3, 1, 2] (Host.dotGeneral (F := Ideal) (φ₁ := .f32) (φ₂ := .f32) dot_S32x1x8x64_S32x8x1x1_S32x8x64x1_1_3_3_2_02_01 none (shapeCast _ x3 shapeCasts_S32x512_S32x1x8x64) (mulf (Host.dotGeneral (F := Ideal) (φ₁ := .f32) (φ₂ := .f32) dot_S32x1x8x64_S32x1x8x64_S32x8x1x1_3_3_1_1_02_02 none (shapeCast _ x1 shapeCasts_S32x512_S32x1x8x64) (mulf (shapeCast _ x2 shapeCasts_S32x512_S32x1x8x64) (broadcastInDim S32x1x8x64 ![] bcast_S_S32x1x8x64 (constant S_ .f32 0x3E000000#32)))) (broadcastInDim S32x8x1x1 ![0, 1, 2, 3] bcast_S1x8x1x1_S32x8x1x1_0_1_2_3 (broadcastInDim S1x8x1x1 ![1, 2, 3] bcast_S8x1x1_S1x8x1x1_1_2_3 (select (broadcastInDim S8x1x1 ![1, 2] bcast_S1x1_S8x1x1_1_2 (cmpf .oge (subf (broadcastInDim S1x1 ![0] bcast_S1_S1x1_0 (sitofp .f32 (iotaInDim S1 32 0))) (broadcastInDim S1x1 ![1] bcast_S1_S1x1_1 (sitofp .f32 (iotaInDim S1 32 0))) : FVec Ideal S1x1 .f32) (broadcastInDim S1x1 ![] bcast_S_S1x1 (constant S_ .f32 0x00000000#32)))) (Host.exp (mulf (broadcastInDim S8x1x1 ![0] bcast_S8_S8x1x1_0 (Host.log1p (Host.negf (Host.powf (broadcastInDim S8 ![] bcast_S_S8 (constant S_ .f32 0x40000000#32)) (subf (broadcastInDim S8 ![] bcast_S_S8 (constant S_ .f32 0xC0A00000#32)) (sitofp .f32 (iotaInDim S8 32 0))))))) (broadcastInDim S8x1x1 ![0, 1, 2] bcast_S1x1x1_S8x1x1_0_1_2 (broadcastInDim S1x1x1 ![1, 2] bcast_S1x1_S1x1x1_1_2 (maximumf (subf (broadcastInDim S1x1 ![0] bcast_S1_S1x1_0 (sitofp .f32 (iotaInDim S1 32 0))) (broadcastInDim S1x1 ![1] bcast_S1_S1x1_1 (sitofp .f32 (iotaInDim S1 32 0)))) (broadcastInDim S1x1 ![] bcast_S_S1x1 (constant S_ .f32 0x00000000#32))))))) (broadcastInDim S8x1x1 ![] bcast_S_S8x1x1 (id (constant S_ .f32 0x00000000#32)))))))) transposes_S32x8x64x1_S32x1x8x64_0_3_1_2) (mulf (transpose S32x1x8x64 [0, 3, 1, 2] (Host.dotGeneral (F := Ideal) (φ₁ := .f32) (φ₂ := .f32) dot_S32x8x64x64_S32x1x8x64_S32x8x64x1_2_3_3_1_01_02 none (shapeCast _ (extractStridedSlice S1x32x8x64x64 ![0, 0, 0, 0, 0] x0 slices_S2x32x8x64x64_S1x32x8x64x64_0_0_0_0_0) shapeCasts_S1x32x8x64x64_S32x8x64x64) (shapeCast _ x1 shapeCasts_S32x512_S32x1x8x64)) transposes_S32x8x64x1_S32x1x8x64_0_3_1_2) (broadcastInDim S32x1x8x64 ![0, 1, 2, 3] bcast_S1x1x8x1_S32x1x8x64_0_1_2_3 (broadcastInDim S1x1x8x1 ![1, 2] bcast_S1x8_S1x1x8x1_1_2 (Host.exp (mulf (broadcastInDim S1x8 ![1] bcast_S8_S1x8_1 (Host.log1p (Host.negf (Host.powf (broadcastInDim S8 ![] bcast_S_S8 (constant S_ .f32 0x40000000#32)) (subf (broadcastInDim S8 ![] bcast_S_S8 (constant S_ .f32 0xC0A00000#32)) (sitofp .f32 (iotaInDim S8 32 0))))))) (broadcastInDim S1x8 ![0, 1] bcast_S1x1_S1x8_0_1 (addf (broadcastInDim S1x1 ![0] bcast_S1_S1x1_0 (sitofp .f32 (iotaInDim S1 32 0))) (broadcastInDim S1x1 ![] bcast_S_S1x1 (constant S_ .f32 0x3F800000#32))))))))) = fun i => retOf x0 x1 x2 x3 (i 0) (i 2) (i 3) := by
  funext i
  idx_vars i
  pointwise
  simp only [lg_printed i2.val (by omega), zero_row, sub_zero, zero_add, max_self, le_refl, if_true, mul_zero, exp_zero, mul_one, Fin.sum_univ_one, Ideal.exp_coe]
  have e := split (fun d => (x1 (ix2 i0 ⟨i2.val * 64 + d.val, by omega⟩)).toReal) (fun d => (x2 (ix2 i0 ⟨i2.val * 64 + d.val, by omega⟩)).toReal) (fun d => (x0 (ix5 0 i0 i2 d i3)).toReal)
    (x3 (ix2 i0 ⟨i2.val * 64 + i3.val, by omega⟩)).toReal (1 / 8) (gR i2.val)
  simp only [h0, h1, h2, h3, ← bits_eighth] at e
  exact e.symm

/-- The reference's gated, normed rows, of the rows `o`. -/
theorem ref_norm (o : FVec Ideal S32x1x8x64 .f32) (b : Fin 32) (h : Fin 8) (z : Fin 1) (e : Fin 64) : (transpose S32x8x1x64 [0, 2, 1, 3] (mulf (mulf (shapeCast _ x4 shapeCasts_S32x512_S32x1x8x64) (Host.divf (broadcastInDim S32x1x8x64 ![] bcast_S_S32x1x8x64 (constant S_ .f32 0x3F800000#32)) (addf (broadcastInDim S32x1x8x64 ![] bcast_S_S32x1x8x64 (constant S_ .f32 0x3F800000#32)) (Host.exp (Host.negf (shapeCast _ x4 shapeCasts_S32x512_S32x1x8x64)))))) (mulf (subf o (broadcastInDim S32x1x8x64 ![0, 1, 2, 3] bcast_S32x1x8x1_S32x1x8x64_0_1_2_3 (Host.divf (broadcastInDim S32x1x8x1 ![0, 1, 2] bcast_S32x1x8_S32x1x8x1_0_1_2 (Host.reduceAdd o (constant S_ .f32 0x00000000#32) reducesTo_S32x1x8x64_S32x1x8_d3 h_S_)) (broadcastInDim S32x1x8x1 ![] bcast_S_S32x1x8x1 (constant S_ .f32 0x42800000#32))))) (broadcastInDim S32x1x8x64 ![0, 1, 2, 3] bcast_S32x1x8x1_S32x1x8x64_0_1_2_3 (Host.rsqrt (addf (Host.divf (broadcastInDim S32x1x8x1 ![0, 1, 2] bcast_S32x1x8_S32x1x8x1_0_1_2 (Host.reduceAdd (mulf (subf o (broadcastInDim S32x1x8x64 ![0, 1, 2, 3] bcast_S32x1x8x1_S32x1x8x64_0_1_2_3 (Host.divf (broadcastInDim S32x1x8x1 ![0, 1, 2] bcast_S32x1x8_S32x1x8x1_0_1_2 (Host.reduceAdd o (constant S_ .f32 0x00000000#32) reducesTo_S32x1x8x64_S32x1x8_d3 h_S_)) (broadcastInDim S32x1x8x1 ![] bcast_S_S32x1x8x1 (constant S_ .f32 0x42800000#32))))) (subf o (broadcastInDim S32x1x8x64 ![0, 1, 2, 3] bcast_S32x1x8x1_S32x1x8x64_0_1_2_3 (Host.divf (broadcastInDim S32x1x8x1 ![0, 1, 2] bcast_S32x1x8_S32x1x8x1_0_1_2 (Host.reduceAdd o (constant S_ .f32 0x00000000#32) reducesTo_S32x1x8x64_S32x1x8_d3 h_S_)) (broadcastInDim S32x1x8x1 ![] bcast_S_S32x1x8x1 (constant S_ .f32 0x42800000#32)))))) (constant S_ .f32 0x00000000#32) reducesTo_S32x1x8x64_S32x1x8_d3 h_S_)) (broadcastInDim S32x1x8x1 ![] bcast_S_S32x1x8x1 (constant S_ .f32 0x42800000#32))) (broadcastInDim S32x1x8x1 ![] bcast_S_S32x1x8x1 (constant S_ .f32 0x358637BD#32))))))) transposes_S32x1x8x64_S32x8x1x64_0_2_1_3 : FVec Ideal S32x8x1x64 .f32) (ix4 b h z e) =
    headOut (head x4 b h) (fun e => o (ix4 b 0 h e)) e := by
  obtain rfl : z = 0 := Subsingleton.elim _ _
  pointwise
  rfl

/-- The reference's gated, normed retention. -/
theorem ref_y (o : FVec Ideal S32x1x8x64 .f32) (ho : o = fun i => retOf x0 x1 x2 x3 (i 0) (i 2) (i 3)) : transpose S32x8x1x64 [0, 2, 1, 3] (mulf (mulf (shapeCast _ x4 shapeCasts_S32x512_S32x1x8x64) (Host.divf (broadcastInDim S32x1x8x64 ![] bcast_S_S32x1x8x64 (constant S_ .f32 0x3F800000#32)) (addf (broadcastInDim S32x1x8x64 ![] bcast_S_S32x1x8x64 (constant S_ .f32 0x3F800000#32)) (Host.exp (Host.negf (shapeCast _ x4 shapeCasts_S32x512_S32x1x8x64)))))) (mulf (subf o (broadcastInDim S32x1x8x64 ![0, 1, 2, 3] bcast_S32x1x8x1_S32x1x8x64_0_1_2_3 (Host.divf (broadcastInDim S32x1x8x1 ![0, 1, 2] bcast_S32x1x8_S32x1x8x1_0_1_2 (Host.reduceAdd o (constant S_ .f32 0x00000000#32) reducesTo_S32x1x8x64_S32x1x8_d3 h_S_)) (broadcastInDim S32x1x8x1 ![] bcast_S_S32x1x8x1 (constant S_ .f32 0x42800000#32))))) (broadcastInDim S32x1x8x64 ![0, 1, 2, 3] bcast_S32x1x8x1_S32x1x8x64_0_1_2_3 (Host.rsqrt (addf (Host.divf (broadcastInDim S32x1x8x1 ![0, 1, 2] bcast_S32x1x8_S32x1x8x1_0_1_2 (Host.reduceAdd (mulf (subf o (broadcastInDim S32x1x8x64 ![0, 1, 2, 3] bcast_S32x1x8x1_S32x1x8x64_0_1_2_3 (Host.divf (broadcastInDim S32x1x8x1 ![0, 1, 2] bcast_S32x1x8_S32x1x8x1_0_1_2 (Host.reduceAdd o (constant S_ .f32 0x00000000#32) reducesTo_S32x1x8x64_S32x1x8_d3 h_S_)) (broadcastInDim S32x1x8x1 ![] bcast_S_S32x1x8x1 (constant S_ .f32 0x42800000#32))))) (subf o (broadcastInDim S32x1x8x64 ![0, 1, 2, 3] bcast_S32x1x8x1_S32x1x8x64_0_1_2_3 (Host.divf (broadcastInDim S32x1x8x1 ![0, 1, 2] bcast_S32x1x8_S32x1x8x1_0_1_2 (Host.reduceAdd o (constant S_ .f32 0x00000000#32) reducesTo_S32x1x8x64_S32x1x8_d3 h_S_)) (broadcastInDim S32x1x8x1 ![] bcast_S_S32x1x8x1 (constant S_ .f32 0x42800000#32)))))) (constant S_ .f32 0x00000000#32) reducesTo_S32x1x8x64_S32x1x8_d3 h_S_)) (broadcastInDim S32x1x8x1 ![] bcast_S_S32x1x8x1 (constant S_ .f32 0x42800000#32))) (broadcastInDim S32x1x8x1 ![] bcast_S_S32x1x8x1 (constant S_ .f32 0x358637BD#32))))))) transposes_S32x1x8x64_S32x8x1x64_0_2_1_3 = resO x0 x1 x2 x3 x4 := by
  funext i
  idx_vars i
  refine (ref_norm x4 o i0 i1 i2 i3).trans ?_
  rw [ho]
  rfl

end Reference

/-- The kernel and the reference end with the same states and the same gated, normed retention of the samples, where the state, the queries,
    the keys and the values are finite. -/
theorem algebraic : algebraic_Kernel5Ideal_Reference5Ideal_pre_finite_state (hKernel5Ideal := Cert.Kernel5Ideal.Gen.facts)
    (hReference5Ideal := Cert.Reference5Ideal.Gen.facts) (hPre_finite_state := facts) := by
  intro m g m' g' hpre hargs
  refine ⟨fun c => resS (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)), fun c => resO (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)),
    (θ_run Cert.Kernel5Ideal.defs _ _).mono (fun r h c => ?_) (Cert.Kernel5Ideal.Value.run_blocks m g),
    (θ_run Cert.Reference5Ideal.defs _ _).mono (fun r h c => ?_) (Cert.Reference5Ideal.Value.run m' g')⟩
  · obtain ⟨h0, h1, hk⟩ := h c
    exact ⟨h0.trans (Cert.Kernel5Ideal.Value.arr6 m c), h1.trans (Cert.Kernel5Ideal.Value.arr7 m c), hk⟩
  · obtain ⟨h0, h1, hk⟩ := h c
    refine ⟨h0.trans ?_, h1.trans ?_, hk⟩
    · rw [(hargs c).1, (hargs c).2.2.1, (hargs c).2.2.2.1]
      exact ref_state _ _ _
    · unfold Cert.Reference5Ideal.Value.res_main_v86
      rw [(hargs c).1, (hargs c).2.1, (hargs c).2.2.1, (hargs c).2.2.2.1, (hargs c).2.2.2.2]
      exact ref_y _ _ _ _ _ _ (ref_o _ _ _ _ (real_state _ _ (hpre c).1 0) (real_row _ _ (hpre c).2.1) (real_row _ _ (hpre c).2.2.1) (real_row _ _ (hpre c).2.2.2))

/-- The reference runs to its end, keeps its arguments, and leaves every counter at zero. -/
theorem reference_frame : quiescent_Reference5Ideal (hReference5Ideal := Cert.Reference5Ideal.Gen.facts) := fun m g _ =>
  (θ_run Cert.Reference5Ideal.defs _ _).mono (fun r h => ⟨fun c => (h c).2.2, Idealize.ShloMosaic.sem_eq_zero_of_no_sems (by decide) r.2⟩)
    (Cert.Reference5Ideal.Value.run m g)

end Cert.RetSample
end
-- ==== Proof.Experts.lean ====
module

public import proofs.«01_k».proof.Proof.Gen.Kernel6Ideal.Value
public import proofs.«01_k».proof.Proof.Gen.Reference6Ideal.Run
public import proofs.«01_k».proof.Defs
public import Idealize.ShloMosaic.Lib.StableHlo.RunRead
public import Idealize.ShloMosaic.Lib.Pipeline.ValueKit
public import Idealize.ShloMosaic.Lib.Pointwise
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Kernel6Ideal.Value

open Cert.Kernel6Ideal Cert.Kernel6Ideal.Gen

/-! ## The results -/

/-- Entry `n` of what one expert adds to a row `h`: its gated hidden row, weighted by `w`, times its output weights. -/
def expert (h : Fin 1024 → EReal) (w : EReal) (wg wu : Fin 1024 → Fin 512 → EReal) (wd : Fin 512 → Fin 1024 → EReal) (n : Fin 1024) : EReal :=
  ∑ f, ((∑ j, h j * wg j f) * Ideal.logistic (∑ j, h j * wg j f) * (∑ j, h j * wu j f) * w) * wd f n

/-- Entry `n` of a row `x`, divided by the root of its mean square and scaled by `g`. -/
def normed (x g : Fin 1024 → EReal) (n : Fin 1024) : EReal :=
  x n * Ideal.rsqrt (Ideal.div (∑ j, x j * x j) (Ideal.ofBits FTy.f32 1149239296#32) + Ideal.ofBits FTy.f32 897988541#32) * g n

section Results
variable (x0 x1 : FVec Ideal S32x1024 .f32) (x2 : FVec Ideal S32x128 .f32) (x3 : FVec Ideal S32x1024 .f32)
    (x4 x5 : FVec Ideal S2x16x1024x512 .f32) (x6 : FVec Ideal S2x16x512x1024 .f32) (x7 : FVec Ideal S1x1024 .f32)

/-- What expert `e` of the last layer adds to row `r`. -/
def part (r : Fin 32) (e : Fin 16) (n : Fin 1024) : EReal :=
  expert (fun j => x1 (ix2 r j)) (x2 (ix2 r ⟨e.val, by omega⟩)) (fun j f => x4 (ix4 1 e j f)) (fun j f => x5 (ix4 1 e j f)) (fun f n => x6 (ix4 1 e f n)) n

/-- Row `r` with the gated sum of all experts added. -/
def summed (r : Fin 32) (n : Fin 1024) : EReal := x0 (ix2 r n) + x3 (ix2 r n) * ∑ e, part x1 x2 x4 x5 x6 r e n

/-- The rows with all experts added, normed. -/
def resY : FVec Ideal S32x1024 .f32 := fun i => normed (fun n => summed x0 x1 x2 x3 x4 x5 x6 (i 0) n) (fun n => x7 (ix2 0 n)) (i 1)

end Results

/-! ## What one grid point computes -/

/-- A lane's number compares equal to an expert's exactly when the two are the same. -/
theorem lane_eq : ∀ (e : Fin 16) (l : Fin 128), IntOp.cmpi CmpIPredicate.eq (BitVec.ofNat 32 l.val) (BitVec.ofNat 32 e.val) = 1 ↔ l.val = e.val := by
  decide +kernel

/-- Of a row's 128 lanes, the sum of those whose number is `e` is lane `e`. -/
theorem pick (f : Fin 128 → EReal) (e : Fin 16) :
    (∑ l : Fin 128, Scalar.select (IntOp.cmpi CmpIPredicate.eq (BitVec.ofNat 32 l.val) (BitVec.ofNat 32 e.val)) (f l) 0) = f ⟨e.val, by omega⟩ := by
  rw [Finset.sum_eq_single (⟨e.val, by omega⟩ : Fin 128)]
  · exact if_pos ((lane_eq e _).mpr rfl)
  · intro l _ hl
    exact if_neg fun h => hl (Fin.ext ((lane_eq e l).mp h))
  · intro h
    exact absurd (Finset.mem_univ _) h

/-- One expert's step adds its part to the accumulator. -/
theorem pay4_at (i : grid0.Coords) (e : Fin 16) (he : (i 1).val = e.val) (v3 : Vec Ideal S32x1024 .f32) (v4 : Vec Ideal S32x128 .f32) (v12 v17 : Vec Ideal S1x1x1024x512 .f32)
    (v23 : Vec Ideal S32x1024 .f32) (v24 : Vec Ideal S1x1x512x1024 .f32) (r : Fin 32) (n : Fin 1024) :
    k0_pay4 (F := Ideal) i v3 v4 v12 v17 v23 v24 (ix2 r n) = v23 (ix2 r n) +
      expert (fun j => v3 (ix2 r j)) (v4 (ix2 r ⟨e.val, by omega⟩)) (fun j f => v12 (ix4 0 0 j f)) (fun j f => v17 (ix4 0 0 j f)) (fun f n => v24 (ix4 0 0 f n)) n := by
  rw [← pick (fun l => v4 (ix2 r l)) e, ← he]
  unfold k0_pay4
  pointwise
  rfl

/-- The last step's row: the accumulator gated, added and normed. -/
theorem pay2_at (v34 v35 v36 : Vec Ideal S32x1024 .f32) (v49 : Vec Ideal S1x1024 .f32) (r : Fin 32) (n : Fin 1024) :
    k0_pay2 (F := Ideal) v34 v35 v36 v49 (ix2 r n) =
      normed (fun n => v34 (ix2 r n) + v35 (ix2 r n) * v36 (ix2 r n)) (fun n => v49 (ix2 0 n)) n := by
  unfold k0_pay2
  pointwise
  rfl

/-- The accumulator starts at zero. -/
theorem pay3_at (r : Fin 32) (n : Fin 1024) : (k0_pay3 (F := Ideal)) (ix2 r n) = (0 : EReal) := by
  unfold k0_pay3
  pointwise

/-- The stored accumulator is the computed one. -/
theorem pay1_at (v : FVec Ideal S32x1024 .f32) (r : Fin 32) (n : Fin 1024) : k0_pay1 (F := Ideal) v (ix2 r n) = v (ix2 r n) := by
  unfold k0_pay1
  pointwise

/-! ## The blocks -/

/-- The blocks' places: the weights' blocks are the experts of the last layer, the others stay. -/
theorem idx : ∀ t : Fin cfg0.N, win0_0.index t = ![0, 0] ∧ win0_1.index t = ![0, 0] ∧ win0_2.index t = ![0, 0]
    ∧ win0_3.index t = ![0, 0] ∧ win0_4.index t = ![1, t.val, 0, 0] ∧ win0_5.index t = ![1, t.val, 0, 0] ∧ win0_6.index t = ![1, t.val, 0, 0]
    ∧ win0_7.index t = ![0, 0] ∧ win0_8.index t = ![0, 0] :=
  (by decide +kernel : ∀ t : Fin grid0.N, _)

/-- There are 16 grid points. -/
theorem hN : ∀ t : Fin cfg0.N, t.val < 16 := (by decide +kernel : ∀ t : Fin grid0.N, _)

/-- The second grid coordinate is the expert's number. -/
theorem coord : ∀ t : Fin cfg0.N, (grid0.coords t 1).val = t.val := (by decide +kernel : ∀ t : Fin grid0.N, _)

section Arrays
variable (m : (ℓ : Loc nD τ sig) → Buf (Elt Ideal) ℓ) (c : Dev nD)

/-- The rows' block is all of them. -/
theorem blk0 (t : Fin cfg0.N) (r : Fin 32) (j : Fin 1024) : (iblk m c 0 t : Vec Ideal S32x1024 .f32) (ix2 r j) = (m ((c : Thread nD τ).loc main_arg0) : Vec Ideal S32x1024 .f32) (ix2 r j) := by
  rw [← V_main_arg0 m c]
  blk_ext [iblk, idx t]

/-- The modulated rows' block is all of them. -/
theorem blk1 (t : Fin cfg0.N) (r : Fin 32) (j : Fin 1024) : (iblk m c 1 t : Vec Ideal S32x1024 .f32) (ix2 r j) = (m ((c : Thread nD τ).loc main_arg1) : Vec Ideal S32x1024 .f32) (ix2 r j) := by
  rw [← V_main_arg1 m c]
  blk_ext [iblk, idx t]

/-- The routing weights' block is all of them. -/
theorem blk2 (t : Fin cfg0.N) (r : Fin 32) (j : Fin 128) : (iblk m c 2 t : Vec Ideal S32x128 .f32) (ix2 r j) = (m ((c : Thread nD τ).loc main_arg2) : Vec Ideal S32x128 .f32) (ix2 r j) := by
  rw [← V_main_arg2 m c]
  blk_ext [iblk, idx t]

/-- The gate's block is all of it. -/
theorem blk3 (t : Fin cfg0.N) (r : Fin 32) (j : Fin 1024) : (iblk m c 3 t : Vec Ideal S32x1024 .f32) (ix2 r j) = (m ((c : Thread nD τ).loc main_arg3) : Vec Ideal S32x1024 .f32) (ix2 r j) := by
  rw [← V_main_arg3 m c]
  blk_ext [iblk, idx t]

/-- Block `t` of the gate weights is expert `t` of the last layer. -/
theorem blk4 (t : Fin cfg0.N) (j : Fin 1024) (f : Fin 512) : (iblk m c 4 t : Vec Ideal S1x1x1024x512 .f32) (ix4 0 0 j f) = (m ((c : Thread nD τ).loc main_arg4) : Vec Ideal S2x16x1024x512 .f32) (ix4 1 ⟨t.val, hN t⟩ j f) := by
  rw [← V_main_arg4 m c]
  blk_ext [iblk, idx t]

/-- Block `t` of the up weights is expert `t` of the last layer. -/
theorem blk5 (t : Fin cfg0.N) (j : Fin 1024) (f : Fin 512) : (iblk m c 5 t : Vec Ideal S1x1x1024x512 .f32) (ix4 0 0 j f) = (m ((c : Thread nD τ).loc main_arg5) : Vec Ideal S2x16x1024x512 .f32) (ix4 1 ⟨t.val, hN t⟩ j f) := by
  rw [← V_main_arg5 m c]
  blk_ext [iblk, idx t]

/-- Block `t` of the down weights is expert `t` of the last layer. -/
theorem blk6 (t : Fin cfg0.N) (f : Fin 512) (n : Fin 1024) : (iblk m c 6 t : Vec Ideal S1x1x512x1024 .f32) (ix4 0 0 f n) = (m ((c : Thread nD τ).loc main_arg6) : Vec Ideal S2x16x512x1024 .f32) (ix4 1 ⟨t.val, hN t⟩ f n) := by
  rw [← V_main_arg6 m c]
  blk_ext [iblk, idx t]

/-- The final gain's block is all of it. -/
theorem blk7 (t : Fin cfg0.N) (n : Fin 1024) : (iblk m c 7 t : Vec Ideal S1x1024 .f32) (ix2 0 n) = (m ((c : Thread nD τ).loc main_arg7) : Vec Ideal S1x1024 .f32) (ix2 0 n) := by
  rw [← V_main_arg7 m c]
  blk_ext [iblk, idx t]

/-! ## The accumulator -/

/-- What expert number `e` adds to row `r`, of the launched arrays. -/
def added (r : Fin 32) (e : ℕ) (n : Fin 1024) : EReal :=
  if h : e < 16 then part (m ((c : Thread nD τ).loc main_arg1)) (m ((c : Thread nD τ).loc main_arg2)) (m ((c : Thread nD τ).loc main_arg4)) (m ((c : Thread nD τ).loc main_arg5)) (m ((c : Thread nD τ).loc main_arg6)) r ⟨e, h⟩ n else 0

/-- The step of grid point `t` adds expert `t`'s part. -/
theorem step_at (t : Fin cfg0.N) (v23 : Vec Ideal S32x1024 .f32) (r : Fin 32) (n : Fin 1024) :
    k0_pay1 (k0_pay4 (F := Ideal) (grid0.coords t) (iblk m c 1 t) (iblk m c 2 t) (iblk m c 4 t) (iblk m c 5 t) v23 (iblk m c 6 t)) (ix2 r n) = v23 (ix2 r n) + added m c r t.val n := by
  rw [pay1_at, pay4_at (grid0.coords t) ⟨t.val, hN t⟩ (coord t), added, dif_pos (hN t), part]
  simp only [blk1, blk2, blk4, blk5, blk6]

/-- After grid point `k` the accumulator holds the parts of the experts up to `k`. -/
theorem acc_at : ∀ (k : ℕ) (hk : k < cfg0.N) (r : Fin 32) (n : Fin 1024), (outsAt0 m c k hk).2 (ix2 r n) = ∑ e ∈ Finset.range (k + 1), added m c r e n := by
  intro k
  induction k with
  | zero =>
    intro hk r n
    have h0 : (⟨0, hk⟩ : Fin cfg0.N).val % 16 = 0 := rfl
    have h1 : ¬(⟨0, hk⟩ : Fin cfg0.N).val % 16 = 15 := by show ¬0 % 16 = 15; omega
    rw [show outsAt0 m c 0 hk = _ from outsAt0_A m c ⟨0, hk⟩ h0 h1]
    dsimp only
    frame_open
    frame_out
    refine (step_at m c ⟨0, hk⟩ _ r n).trans ?_
    rw [Finset.sum_range_one]
    refine (congrArg (· + _) (pay3_at r n)).trans (zero_add _)
  | succ k ih =>
    intro hk r n
    have hlt : k + 1 < 16 := hN ⟨k + 1, hk⟩
    have h0 : ¬(⟨k + 1, hk⟩ : Fin cfg0.N).val % 16 = 0 := by show ¬(k + 1) % 16 = 0; omega
    by_cases h1 : (⟨k + 1, hk⟩ : Fin cfg0.N).val % 16 = 15
    · rw [show outsAt0 m c (k + 1) hk = _ from outsAt0_C m c ⟨k + 1, hk⟩ h0 h1]
      dsimp only
      frame_open
      frame_out
      refine (step_at m c ⟨k + 1, hk⟩ _ r n).trans ?_
      rw [Finset.sum_range_succ]
      exact congrArg (· + _) ((congrFun ((Memref.isWhole_whole cc0_scratch0).read_unread _) _).trans (ih (Nat.lt_of_succ_lt hk) r n))
    · rw [show outsAt0 m c (k + 1) hk = _ from outsAt0_B m c ⟨k + 1, hk⟩ h0 h1]
      dsimp only
      frame_open
      frame_out
      refine (step_at m c ⟨k + 1, hk⟩ _ r n).trans ?_
      rw [Finset.sum_range_succ]
      exact congrArg (· + _) ((congrFun ((Memref.isWhole_whole cc0_scratch0).read_unread _) _).trans (ih (Nat.lt_of_succ_lt hk) r n))

/-- The row the last grid point writes: the gated sum of all experts added, normed. -/
theorem out_at (t : Fin cfg0.N) (ht : t.val = 15) (r : Fin 32) (n : Fin 1024) : (outsAt0 m c t.val t.isLt).1 (ix2 r n) =
    resY (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix2 r n) := by
  have h0 : ¬t.val % 16 = 0 := by omega
  have h1 : t.val % 16 = 15 := by omega
  have hp : t.val - 1 < cfg0.N := by have := t.isLt; omega
  have hs : ∀ n : Fin 1024, (outsAt0 m c (t.val - 1) hp).2 (ix2 r n) + added m c r t.val n =
      ∑ e, part (m ((c : Thread nD τ).loc main_arg1)) (m ((c : Thread nD τ).loc main_arg2)) (m ((c : Thread nD τ).loc main_arg4)) (m ((c : Thread nD τ).loc main_arg5)) (m ((c : Thread nD τ).loc main_arg6)) r e n := fun n => by
    rw [acc_at m c (t.val - 1) hp r n, show t.val - 1 + 1 = 15 by omega, ht, ← Finset.sum_range_succ, Finset.sum_range]
    exact Finset.sum_congr rfl fun e _ => dif_pos e.isLt
  rw [outsAt0_C m c t h0 h1]
  dsimp only
  frame_open
  frame_out
  refine (pay2_at _ _ _ _ r n).trans ?_
  show normed _ _ n = normed _ _ n
  congr 1
  · funext j
    refine (congrArg₂ (fun a b : EReal => a + b) (blk0 m c t r j) (congrArg₂ (fun a b : EReal => a * b) (blk3 m c t r j) ?_)).trans rfl
    refine (step_at m c t _ r j).trans ?_
    exact (congrArg (fun a : EReal => a + added m c r t.val j) (congrFun ((Memref.isWhole_whole cc0_scratch0).read_unread _) _)).trans (hs j)
  · funext j
    exact blk7 m c t j

/-- The written rows: the gated sum of all experts added, normed. -/
theorem arr8 : (dats m 0 c).arrAt 8 cfg0.N = resY (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 8 _ (by decide +kernel) fun t hf y => ?_
  rw [after0_8]
  idx_vars y
  have ht : t.val = 15 := (by decide +kernel : ∀ t : Fin grid0.N, (win0 8).flush t = true → t.val = 15) t hf
  have he : ((View.whole main_v0).slice ((win0 8).rect t)).emb (ix2 y0 y1) = (ix2 y0 y1 : S32x1024.Idx) := by blk_ext [idx t]
  refine Eq.trans ?_ (congrArg (resY (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) he).symm
  refine (show _ = (outsAt0 m c t.val t.isLt).1 (ix2 y0 y1) from rfl).trans ?_
  exact out_at m c t ht y0 y1

end Arrays
end Cert.Kernel6Ideal.Value

namespace Cert.Experts

open Cert.Kernel6Ideal.Value (resY summed part expert normed)

section Reference
open Cert.Reference6Ideal Cert.Reference6Ideal.Gen

variable (x0 x1 : FVec Ideal S32x1024 .f32) (x2 : FVec Ideal S32x128 .f32) (x3 : FVec Ideal S32x1024 .f32)
    (x4 x5 : FVec Ideal S2x16x1024x512 .f32) (x6 : FVec Ideal S2x16x512x1024 .f32) (x7 : FVec Ideal S1x1024 .f32)

/-- The reference's rows with the gated sum of all experts added. -/
theorem ref_x : addf x0 (mulf x3 (Host.dotGeneral (F := Ideal) (φ₁ := .f32) (φ₂ := .f32) dot_S32x16x512_S16x512x1024_S32x1024_12_01_0_2_n_n none (mulf (mulf (mulf (Host.dotGeneral (F := Ideal) (φ₁ := .f32) (φ₂ := .f32) dot_S32x1024_S16x1024x512_S32x16x512_1_1_0_02_n_n none x1 (shapeCast _ (extractStridedSlice S1x16x1024x512 ![1, 0, 0, 0] x4 slices_S2x16x1024x512_S1x16x1024x512_1_0_0_0) shapeCasts_S1x16x1024x512_S16x1024x512)) (Host.divf (broadcastInDim S32x16x512 ![] bcast_S_S32x16x512 (constant S_ .f32 0x3F800000#32)) (addf (broadcastInDim S32x16x512 ![] bcast_S_S32x16x512 (constant S_ .f32 0x3F800000#32)) (Host.exp (Host.negf (Host.dotGeneral (F := Ideal) (φ₁ := .f32) (φ₂ := .f32) dot_S32x1024_S16x1024x512_S32x16x512_1_1_0_02_n_n none x1 (shapeCast _ (extractStridedSlice S1x16x1024x512 ![1, 0, 0, 0] x4 slices_S2x16x1024x512_S1x16x1024x512_1_0_0_0) shapeCasts_S1x16x1024x512_S16x1024x512))))))) (Host.dotGeneral (F := Ideal) (φ₁ := .f32) (φ₂ := .f32) dot_S32x1024_S16x1024x512_S32x16x512_1_1_0_02_n_n none x1 (shapeCast _ (extractStridedSlice S1x16x1024x512 ![1, 0, 0, 0] x5 slices_S2x16x1024x512_S1x16x1024x512_1_0_0_0) shapeCasts_S1x16x1024x512_S16x1024x512))) (broadcastInDim S32x16x512 ![0, 1, 2] bcast_S32x16x1_S32x16x512_0_1_2 (broadcastInDim S32x16x1 ![0, 1] bcast_S32x16_S32x16x1_0_1 (extractStridedSlice S32x16 ![0, 0] x2 slices_S32x128_S32x16_0_0)))) (shapeCast _ (extractStridedSlice S1x16x512x1024 ![1, 0, 0, 0] x6 slices_S2x16x512x1024_S1x16x512x1024_1_0_0_0) shapeCasts_S1x16x512x1024_S16x512x1024))) = fun i => summed x0 x1 x2 x3 x4 x5 x6 (i 0) (i 1) := by
  funext i
  idx_vars i
  pointwise
  rfl

/-- The reference's norm of the rows `x`. -/
theorem ref_norm (x : FVec Ideal S32x1024 .f32) (r : Fin 32) (n : Fin 1024) : (mulf (mulf x (broadcastInDim S32x1024 ![0, 1] bcast_S32x1_S32x1024_0_1 (Host.rsqrt (addf (Host.divf (broadcastInDim S32x1 ![0] bcast_S32_S32x1_0 (Host.reduceAdd (mulf x x) (constant S_ .f32 0x00000000#32) reducesTo_S32x1024_S32_d1 h_S_)) (broadcastInDim S32x1 ![] bcast_S_S32x1 (constant S_ .f32 0x44800000#32))) (broadcastInDim S32x1 ![] bcast_S_S32x1 (constant S_ .f32 0x358637BD#32)))))) (broadcastInDim S32x1024 ![0, 1] bcast_S1x1024_S32x1024_0_1 x7) : FVec Ideal S32x1024 .f32) (ix2 r n) =
    normed (fun n => x (ix2 r n)) (fun n => x7 (ix2 0 n)) n := by
  pointwise
  rfl

/-- The reference's normed rows with all experts added. -/
theorem ref_y (x : FVec Ideal S32x1024 .f32) (hx : x = fun i => summed x0 x1 x2 x3 x4 x5 x6 (i 0) (i 1)) : mulf (mulf x (broadcastInDim S32x1024 ![0, 1] bcast_S32x1_S32x1024_0_1 (Host.rsqrt (addf (Host.divf (broadcastInDim S32x1 ![0] bcast_S32_S32x1_0 (Host.reduceAdd (mulf x x) (constant S_ .f32 0x00000000#32) reducesTo_S32x1024_S32_d1 h_S_)) (broadcastInDim S32x1 ![] bcast_S_S32x1 (constant S_ .f32 0x44800000#32))) (broadcastInDim S32x1 ![] bcast_S_S32x1 (constant S_ .f32 0x358637BD#32)))))) (broadcastInDim S32x1024 ![0, 1] bcast_S1x1024_S32x1024_0_1 x7) = resY x0 x1 x2 x3 x4 x5 x6 x7 := by
  funext i
  idx_vars i
  refine (ref_norm x7 x i0 i1).trans ?_
  rw [hx]
  rfl

end Reference

/-- The kernel and the reference end with the same normed rows. -/
theorem algebraic : algebraic_Kernel6Ideal_Reference6Ideal (hKernel6Ideal := Cert.Kernel6Ideal.Gen.facts)
    (hReference6Ideal := Cert.Reference6Ideal.Gen.facts) := by
  intro m g m' g' _ hargs
  refine ⟨fun c => resY (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)),
    (θ_run Cert.Kernel6Ideal.defs _ _).mono (fun r h c => ?_) (Cert.Kernel6Ideal.Value.run_blocks m g),
    (θ_run Cert.Reference6Ideal.defs _ _).mono (fun r h c => ?_) (Cert.Reference6Ideal.Value.run m' g')⟩
  · obtain ⟨h0, hk⟩ := h c
    exact ⟨h0.trans (Cert.Kernel6Ideal.Value.arr8 m c), hk⟩
  · obtain ⟨h0, hk⟩ := h c
    refine ⟨h0.trans ?_, hk⟩
    unfold Cert.Reference6Ideal.Value.res_main_v28
    rw [(hargs c).1, (hargs c).2.1, (hargs c).2.2.1, (hargs c).2.2.2.1, (hargs c).2.2.2.2.1, (hargs c).2.2.2.2.2.1, (hargs c).2.2.2.2.2.2.1, (hargs c).2.2.2.2.2.2.2]
    exact ref_y _ _ _ _ _ _ _ _ _ (ref_x _ _ _ _ _ _ _)

/-- The reference runs to its end, keeps its arguments, and leaves every counter at zero. -/
theorem reference_frame : quiescent_Reference6Ideal (hReference6Ideal := Cert.Reference6Ideal.Gen.facts) :=
  fun m g _ => (θ_run Cert.Reference6Ideal.defs _ _).mono (fun r h => ⟨fun c => (h c).2, Idealize.ShloMosaic.sem_eq_zero_of_no_sems (by decide) r.2⟩) (Cert.Reference6Ideal.Value.run m g)

end Cert.Experts
end
-- ==== Proof.Ada.lean ====
module

public import proofs.«01_k».proof.Defs
public import proofs.«01_k».proof.Proof.Gen.Kernel7.Frame
public import proofs.«01_k».proof.Proof.Gen.Kernel7Ideal.Value
public import proofs.«01_k».proof.Proof.Gen.Reference7Ideal.Run
public import Idealize.ShloMosaic.Lib.Pipeline.ValueKit
public import Idealize.ShloMosaic.Lib.Pointwise
public import Idealize.ShloMosaic.Lib.Pipeline.ReadBack
public import Idealize.ShloMosaic.Adequacy
public import Idealize.ShloMosaic.Init

@[expose] public section

set_option maxRecDepth 16384

noncomputable section

open Idealize.ShloMosaic Idealize.ShloMosaic.TcCoe Idealize.SL.Sem
open Idealize.ShloMosaic.Pipeline (Dat)

namespace Cert.Kernel7Ideal.Value

open Cert.Kernel7Ideal Cert.Kernel7Ideal.Gen

/-- One entry of the modulation: the conditions `c`, each times its logistic, against a column `w` of the weights, plus the bias `b`. -/
def modOf {n : ℕ} (c w : Fin n → EReal) (b : EReal) : EReal :=
  (∑ j, c j * Ideal.logistic (c j) * w j) + b

/-- The modulations of both layers: entry `(l, r, n)` is condition `r` against column `n` of layer `l`'s weights. -/
def resM (x0 : FVec Ideal S40x1024 .f32) (x1 : FVec Ideal S2x1024x6144 .f32) (x2 : FVec Ideal S2x6144 .f32) : FVec Ideal S2x40x6144 .f32 := fun i =>
  modOf (fun j : Fin 1024 => x0 (ix2 (i 1) j)) (fun j => x1 (ix3 (i 0) j (i 2))) (x2 (ix2 (i 0) (i 2)))

/-- What one grid point computes: the conditions against its block of columns. -/
theorem pay1_at (v0 : Vec Ideal S40x1024 .f32) (v3 : Vec Ideal S1x1024x1024 .f32) (v6 : Vec Ideal S1x1x1024 .f32) (r : Fin 40) (n : Fin 1024) :
    k0_pay1 (F := Ideal) v0 v3 v6 (ix3 0 r n) = modOf (fun j : Fin 1024 => v0 (ix2 r j)) (fun j => v3 (ix3 0 j n)) (v6 (ix3 0 0 n)) := by
  unfold k0_pay1 modOf
  pointwise

/-- The blocks' places: six blocks of columns in each of the two layers. -/
theorem idx : ∀ t : Fin cfg0.N, win0_0.index t = ![0, 0] ∧ win0_1.index t = ![t.val / 6, 0, t.val % 6] ∧ win0_2.index t = ![t.val / 6, 0, t.val % 6]
    ∧ win0_3.index t = ![t.val / 6, 0, t.val % 6] :=
  (by decide +kernel : ∀ t : Fin grid0.N, _)

/-- There are twelve grid points. -/
theorem hN : ∀ t : Fin cfg0.N, t.val < 12 := (by decide +kernel : ∀ t : Fin grid0.N, _)

section Arrays
variable (m : (ℓ : Loc nD τ sig) → Buf (Elt Ideal) ℓ) (c : Dev nD)

/-- The biases, to which the host gives an axis of length one. -/
theorem bs (l : Fin 2) (n : Fin 6144) : (V m c main_v0 : Vec Ideal S2x1x6144 .f32) (ix3 l 0 n) = (m ((c : Thread nD τ).loc main_arg2) : Vec Ideal S2x6144 .f32) (ix2 l n) := by
  simp only [V, hostOps0]
  after_reads_simp
  pointwise

/-- The conditions' block is all of them. -/
theorem blk0 (t : Fin cfg0.N) (r : Fin 40) (j : Fin 1024) : (iblk m c 0 t : Vec Ideal S40x1024 .f32) (ix2 r j) = (m ((c : Thread nD τ).loc main_arg0) : Vec Ideal S40x1024 .f32) (ix2 r j) := by
  rw [← V_main_arg0 m c]
  blk_ext [iblk, idx t]

/-- The weights' block: layer `t / 6`, the columns from `1024 (t % 6)` on. -/
theorem blk1 (t : Fin cfg0.N) (j n : Fin 1024) : (iblk m c 1 t : Vec Ideal S1x1024x1024 .f32) (ix3 0 j n) =
    (m ((c : Thread nD τ).loc main_arg1) : Vec Ideal S2x1024x6144 .f32) (ix3 ⟨t.val / 6, by have := hN t; omega⟩ j ⟨1024 * (t.val % 6) + n.val, by omega⟩) := by
  rw [← V_main_arg1 m c]
  blk_ext [iblk, idx t]

/-- The biases' block: layer `t / 6`, the columns from `1024 (t % 6)` on. -/
theorem blk2 (t : Fin cfg0.N) (n : Fin 1024) : (iblk m c 2 t : Vec Ideal S1x1x1024 .f32) (ix3 0 0 n) =
    (m ((c : Thread nD τ).loc main_arg2) : Vec Ideal S2x6144 .f32) (ix2 ⟨t.val / 6, by have := hN t; omega⟩ ⟨1024 * (t.val % 6) + n.val, by omega⟩) := by
  rw [← bs m c]
  blk_ext [iblk, idx t]

/-- The kernel's result array. -/
theorem arr3 : (dats m 0 c).arrAt 3 cfg0.N = resM (m ((c : Thread nD τ).loc main_arg0)) (m ((c : Thread nD τ).loc main_arg1)) (m ((c : Thread nD τ).loc main_arg2)) := by
  refine (dats m 0 c).arrAt_eq_of_covers 3 _ (by decide +kernel) fun t hf y => ?_
  rw [after0_3]
  idx_vars y
  obtain rfl : y0 = 0 := Fin.ext (by omega)
  have he : ((View.whole main_v1).slice ((win0 3).rect t)).emb (ix3 0 y1 y2) =
      (ix3 ⟨t.val / 6, by have := hN t; omega⟩ y1 ⟨1024 * (t.val % 6) + y2.val, by omega⟩ : S2x40x6144.Idx) := by
    blk_ext [idx t]
  refine Eq.trans ?_ (congrArg (resM (m ((c : Thread nD τ).loc main_arg0)) (m ((c : Thread nD τ).loc main_arg1)) (m ((c : Thread nD τ).loc main_arg2))) he).symm
  unfold out0_3
  frame_out
  refine (pay1_at _ _ _ _ _).trans ?_
  simp only [blk0, blk1, blk2]
  rfl

end Arrays
end Cert.Kernel7Ideal.Value

namespace Cert.Ada

open Cert.Kernel7Ideal.Value (resM modOf)

section Reference
open Cert.Reference7Ideal Cert.Reference7Ideal.Gen

/-- The reference's result, entry by entry. -/
theorem ref_at (x0 : FVec Ideal S40x1024 .f32) (x1 : FVec Ideal S2x1024x6144 .f32) (x2 : FVec Ideal S2x6144 .f32) :
  concatenate S2x40x6144 0 [⟨S1x40x6144, (broadcastInDim S1x40x6144 ![1, 2] bcast_S40x6144_S1x40x6144_1_2 (addf (Host.dotGeneral (F := Ideal) (φ₁ := .f32) (φ₂ := .f32) dot_S40x1024_S1024x6144_S40x6144_1_0_0_1_n_n none (mulf x0 (Host.divf (broadcastInDim S40x1024 ![] bcast_S_S40x1024 (constant S_ .f32 0x3F800000#32)) (addf (broadcastInDim S40x1024 ![] bcast_S_S40x1024 (constant S_ .f32 0x3F800000#32)) (Host.exp (Host.negf x0))))) (shapeCast _ (extractStridedSlice S1x1024x6144 ![0, 0, 0] x1 slices_S2x1024x6144_S1x1024x6144_0_0_0) shapeCasts_S1x1024x6144_S1024x6144)) (broadcastInDim S40x6144 ![0, 1] bcast_S1x6144_S40x6144_0_1 (broadcastInDim S1x6144 ![1] bcast_S6144_S1x6144_1 (shapeCast _ (extractStridedSlice S1x6144 ![0, 0] x2 slices_S2x6144_S1x6144_0_0) shapeCasts_S1x6144_S6144)))))⟩, ⟨S1x40x6144, (broadcastInDim S1x40x6144 ![1, 2] bcast_S40x6144_S1x40x6144_1_2 (addf (Host.dotGeneral (F := Ideal) (φ₁ := .f32) (φ₂ := .f32) dot_S40x1024_S1024x6144_S40x6144_1_0_0_1_n_n none (mulf x0 (Host.divf (broadcastInDim S40x1024 ![] bcast_S_S40x1024 (constant S_ .f32 0x3F800000#32)) (addf (broadcastInDim S40x1024 ![] bcast_S_S40x1024 (constant S_ .f32 0x3F800000#32)) (Host.exp (Host.negf x0))))) (shapeCast _ (extractStridedSlice S1x1024x6144 ![1, 0, 0] x1 slices_S2x1024x6144_S1x1024x6144_1_0_0) shapeCasts_S1x1024x6144_S1024x6144)) (broadcastInDim S40x6144 ![0, 1] bcast_S1x6144_S40x6144_0_1 (broadcastInDim S1x6144 ![1] bcast_S6144_S1x6144_1 (shapeCast _ (extractStridedSlice S1x6144 ![1, 0] x2 slices_S2x6144_S1x6144_1_0) shapeCasts_S1x6144_S6144)))))⟩] concatenates_S1x40x6144_S1x40x6144_S2x40x6144_d0
    = resM x0 x1 x2 := by
  funext i
  idx_vars i
  rcases (by omega : i0.val = 0 ∨ i0.val = 1) with h | h
  · obtain rfl : i0 = 0 := Fin.ext h
    pointwise
    rfl
  · obtain rfl : i0 = 1 := Fin.ext h
    pointwise
    rfl

end Reference

/-- The kernel and the reference end with the same modulations of both layers. -/
theorem algebraic : algebraic_Kernel7Ideal_Reference7Ideal (hKernel7Ideal := Cert.Kernel7Ideal.Gen.facts)
    (hReference7Ideal := Cert.Reference7Ideal.Gen.facts) := by
  intro m g m' g' _ hargs
  refine ⟨fun c => resM _ _ _,
    (θ_run Cert.Kernel7Ideal.defs _ _).mono (fun r h c => ⟨(h c).1.trans (Cert.Kernel7Ideal.Value.arr3 m c), (h c).2⟩) (Cert.Kernel7Ideal.Value.run_blocks m g),
    (θ_run Cert.Reference7Ideal.defs _ _).mono (fun r h c => ⟨(h c).1.trans ?_, (h c).2⟩) (Cert.Reference7Ideal.Value.run m' g')⟩
  rw [(hargs c).1, (hargs c).2.1, (hargs c).2.2]
  exact ref_at _ _ _

/-- The reference runs to its end, keeps its arguments, and leaves every counter at zero. -/
theorem reference_frame : quiescent_Reference7Ideal (hReference7Ideal := Cert.Reference7Ideal.Gen.facts) := fun m g _ =>
  (θ_run Cert.Reference7Ideal.defs _ _).mono (fun r h => ⟨fun c => (h c).2, Idealize.ShloMosaic.sem_eq_zero_of_no_sems (by decide) r.2⟩)
    (Cert.Reference7Ideal.Value.run m g)

end Cert.Ada
end
-- ==== Proof.ExpertsPrompt.lean ====
module

public import proofs.«01_k».proof.Proof.Gen.Kernel8Ideal.Value
public import proofs.«01_k».proof.Proof.Gen.Reference8Ideal.Run
public import proofs.«01_k».proof.Proof.Experts
public import proofs.«01_k».proof.Defs
public import Idealize.ShloMosaic.Lib.StableHlo.RunRead
public import Idealize.ShloMosaic.Lib.Pipeline.ValueKit
public import Idealize.ShloMosaic.Lib.Pointwise
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Kernel8Ideal.Value

open Cert.Kernel8Ideal Cert.Kernel8Ideal.Gen
open Cert.Kernel6Ideal.Value (expert normed pick)

/-! ## The results -/

section Results
variable (x0 : FVec Ideal S16384x1024 .f32) (x1 : FVec Ideal S16384x1024 .bf16) (x2 : FVec Ideal S16384x128 .f32) (x3 : FVec Ideal S1x1024 .f32)
    (x4 x5 : FVec Ideal S2x16x1024x512 .f32) (x6 : FVec Ideal S2x16x512x1024 .f32) (x7 : FVec Ideal S1x1024 .f32)

/-- What expert `e` of the last layer adds to row `r`. -/
def part (r : Fin 16384) (e : Fin 16) (n : Fin 1024) : EReal :=
  expert (fun j => x1 (ix2 r j)) (x2 (ix2 r ⟨e.val, by omega⟩)) (fun j f => x4 (ix4 1 e j f)) (fun j f => x5 (ix4 1 e j f)) (fun f n => x6 (ix4 1 e f n)) n

/-- Row `r` with the gated sum of all experts added. -/
def summed (r : Fin 16384) (n : Fin 1024) : EReal := x0 (ix2 r n) + x3 (ix2 0 n) * ∑ e, part x1 x2 x4 x5 x6 r e n

/-- The rows with all experts added, normed. -/
def resY : FVec Ideal S16384x1024 .f32 := fun i => normed (fun n => summed x0 x1 x2 x3 x4 x5 x6 (i 0) n) (fun n => x7 (ix2 0 n)) (i 1)

end Results

/-! ## What one grid point computes -/

/-- One expert's step adds its part to the accumulator. -/
theorem pay3_at (i : grid0.Coords) (e : Fin 16) (he : (i 1).val = e.val) (v3 : Vec Ideal S1024x1024 .bf16) (v4 : Vec Ideal S1024x128 .f32) (v12 v17 : Vec Ideal S1x1024x512 .bf16)
    (v23 : Vec Ideal S1024x1024 .f32) (v25 : Vec Ideal S1x512x1024 .bf16) (r n : Fin 1024) :
    k0_pay3 (F := Ideal) i v3 v4 v12 v17 v23 v25 (ix2 r n) = v23 (ix2 r n) +
      expert (fun j => v3 (ix2 r j)) (v4 (ix2 r ⟨e.val, by omega⟩)) (fun j f => v12 (ix3 0 j f)) (fun j f => v17 (ix3 0 j f)) (fun f n => v25 (ix3 0 f n)) n := by
  rw [← pick (fun l => v4 (ix2 r l)) e, ← he]
  unfold k0_pay3
  pointwise
  rfl

/-- The last step's row: the accumulator gated, added and normed. -/
theorem pay1_at (v35 : Vec Ideal S1024x1024 .f32) (v36 : Vec Ideal S1x1024 .f32) (v37 : Vec Ideal S1024x1024 .f32) (v51 : Vec Ideal S1x1024 .f32) (r n : Fin 1024) :
    k0_pay1 (F := Ideal) v35 v36 v37 v51 (ix2 r n) =
      normed (fun n => v35 (ix2 r n) + v36 (ix2 0 n) * v37 (ix2 r n)) (fun n => v51 (ix2 0 n)) n := by
  unfold k0_pay1
  pointwise
  rfl

/-- The accumulator starts at zero. -/
theorem pay2_at (r n : Fin 1024) : (k0_pay2 (F := Ideal)) (ix2 r n) = (0 : EReal) := by
  unfold k0_pay2
  pointwise

/-! ## The blocks -/

/-- The blocks' places: rows by the first grid coordinate, experts by the second; the gate and the final gain stay. -/
theorem idx : ∀ t : Fin cfg0.N, win0_0.index t = ![t.val / 16, 0] ∧ win0_1.index t = ![t.val / 16, 0] ∧ win0_2.index t = ![t.val / 16, 0]
    ∧ win0_3.index t = ![0, 0] ∧ win0_4.index t = ![t.val % 16, 0, 0] ∧ win0_5.index t = ![t.val % 16, 0, 0] ∧ win0_6.index t = ![t.val % 16, 0, 0]
    ∧ win0_7.index t = ![0, 0] ∧ win0_8.index t = ![t.val / 16, 0] :=
  (by decide +kernel : ∀ t : Fin grid0.N, _)

/-- There are 256 grid points. -/
theorem hN : ∀ t : Fin cfg0.N, t.val < 256 := (by decide +kernel : ∀ t : Fin grid0.N, _)

/-- The second grid coordinate is the expert's number. -/
theorem coord : ∀ t : Fin cfg0.N, (grid0.coords t 1).val = t.val % 16 := (by decide +kernel : ∀ t : Fin grid0.N, _)

/-- The row of the whole array that row `r` of point `t`'s block is. -/
def row (t : ℕ) (ht : t < cfg0.N) (r : Fin 1024) : Fin 16384 := ⟨t / 16 * 1024 + r.val, by have := hN ⟨t, ht⟩; have := r.isLt; simp only at *; omega⟩

/-- The expert of point `t`. -/
def ex (t : ℕ) : Fin 16 := ⟨t % 16, Nat.mod_lt _ (by decide)⟩

section Arrays
variable (m : (ℓ : Loc nD τ sig) → Buf (Elt Ideal) ℓ) (c : Dev nD)

/-- The rows' block: the rows of the point's tile. -/
theorem blk0 (t : Fin cfg0.N) (r : Fin 1024) (j : Fin 1024) : (iblk m c 0 t : Vec Ideal S1024x1024 .f32) (ix2 r j) = (m ((c : Thread nD τ).loc main_arg0) : Vec Ideal S16384x1024 .f32) (ix2 (row t.val t.isLt r) j) := by
  rw [← V_main_arg0 m c]
  blk_ext [iblk, idx t, row]

/-- The modulated rows' block: the rows of the point's tile. -/
theorem blk1 (t : Fin cfg0.N) (r : Fin 1024) (j : Fin 1024) : (iblk m c 1 t : Vec Ideal S1024x1024 .bf16) (ix2 r j) = (m ((c : Thread nD τ).loc main_arg1) : Vec Ideal S16384x1024 .bf16) (ix2 (row t.val t.isLt r) j) := by
  rw [← V_main_arg1 m c]
  blk_ext [iblk, idx t, row]

/-- The routing weights' block: the rows of the point's tile. -/
theorem blk2 (t : Fin cfg0.N) (r : Fin 1024) (j : Fin 128) : (iblk m c 2 t : Vec Ideal S1024x128 .f32) (ix2 r j) = (m ((c : Thread nD τ).loc main_arg2) : Vec Ideal S16384x128 .f32) (ix2 (row t.val t.isLt r) j) := by
  rw [← V_main_arg2 m c]
  blk_ext [iblk, idx t, row]

/-- The gate's block is all of it. -/
theorem blk3 (t : Fin cfg0.N) (j : Fin 1024) : (iblk m c 3 t : Vec Ideal S1x1024 .f32) (ix2 0 j) = (m ((c : Thread nD τ).loc main_arg3) : Vec Ideal S1x1024 .f32) (ix2 0 j) := by
  rw [← V_main_arg3 m c]
  blk_ext [iblk, idx t]

/-- The gate weights of the last layer, which the host slices and casts. -/
theorem w4 (e : Fin 16) (j : Fin 1024) (f : Fin 512) : (V m c main_v2 : Vec Ideal S16x1024x512 .bf16) (ix3 e j f) = (m ((c : Thread nD τ).loc main_arg4) : Vec Ideal S2x16x1024x512 .f32) (ix4 1 e j f) := by
  simp only [V, hostOps0]
  after_reads_simp
  pointwise

/-- A point's block of the gate weights is its expert of the last layer. -/
theorem blk4 (t : Fin cfg0.N) (j : Fin 1024) (f : Fin 512) : (iblk m c 4 t : Vec Ideal S1x1024x512 .bf16) (ix3 0 j f) = (m ((c : Thread nD τ).loc main_arg4) : Vec Ideal S2x16x1024x512 .f32) (ix4 1 (ex t.val) j f) := by
  rw [← w4 m c]
  blk_ext [iblk, idx t, ex]

/-- The up weights of the last layer, which the host slices and casts. -/
theorem w5 (e : Fin 16) (j : Fin 1024) (f : Fin 512) : (V m c main_v5 : Vec Ideal S16x1024x512 .bf16) (ix3 e j f) = (m ((c : Thread nD τ).loc main_arg5) : Vec Ideal S2x16x1024x512 .f32) (ix4 1 e j f) := by
  simp only [V, hostOps0]
  after_reads_simp
  pointwise

/-- A point's block of the up weights is its expert of the last layer. -/
theorem blk5 (t : Fin cfg0.N) (j : Fin 1024) (f : Fin 512) : (iblk m c 5 t : Vec Ideal S1x1024x512 .bf16) (ix3 0 j f) = (m ((c : Thread nD τ).loc main_arg5) : Vec Ideal S2x16x1024x512 .f32) (ix4 1 (ex t.val) j f) := by
  rw [← w5 m c]
  blk_ext [iblk, idx t, ex]

/-- The down weights of the last layer, which the host slices and casts. -/
theorem w6 (e : Fin 16) (j : Fin 512) (f : Fin 1024) : (V m c main_v8 : Vec Ideal S16x512x1024 .bf16) (ix3 e j f) = (m ((c : Thread nD τ).loc main_arg6) : Vec Ideal S2x16x512x1024 .f32) (ix4 1 e j f) := by
  simp only [V, hostOps0]
  after_reads_simp
  pointwise

/-- A point's block of the down weights is its expert of the last layer. -/
theorem blk6 (t : Fin cfg0.N) (j : Fin 512) (f : Fin 1024) : (iblk m c 6 t : Vec Ideal S1x512x1024 .bf16) (ix3 0 j f) = (m ((c : Thread nD τ).loc main_arg6) : Vec Ideal S2x16x512x1024 .f32) (ix4 1 (ex t.val) j f) := by
  rw [← w6 m c]
  blk_ext [iblk, idx t, ex]

/-- The final gain's block is all of it. -/
theorem blk7 (t : Fin cfg0.N) (j : Fin 1024) : (iblk m c 7 t : Vec Ideal S1x1024 .f32) (ix2 0 j) = (m ((c : Thread nD τ).loc main_arg7) : Vec Ideal S1x1024 .f32) (ix2 0 j) := by
  rw [← V_main_arg7 m c]
  blk_ext [iblk, idx t]

/-! ## The accumulator -/

/-- What expert number `e` adds to row `r`, of the launched arrays. -/
def added (r : Fin 16384) (e : ℕ) (n : Fin 1024) : EReal :=
  if h : e < 16 then part (m ((c : Thread nD τ).loc main_arg1)) (m ((c : Thread nD τ).loc main_arg2)) (m ((c : Thread nD τ).loc main_arg4)) (m ((c : Thread nD τ).loc main_arg5)) (m ((c : Thread nD τ).loc main_arg6)) r ⟨e, h⟩ n else 0

/-- The step of grid point `t` adds the part of the point's expert to the rows of its tile. -/
theorem step_at (t : Fin cfg0.N) (v23 : Vec Ideal S1024x1024 .f32) (r n : Fin 1024) :
    k0_pay3 (F := Ideal) (grid0.coords t) (iblk m c 1 t) (iblk m c 2 t) (iblk m c 4 t) (iblk m c 5 t) v23 (iblk m c 6 t) (ix2 r n) = v23 (ix2 r n) + added m c (row t.val t.isLt r) (t.val % 16) n := by
  rw [pay3_at (grid0.coords t) (ex t.val) (coord t), added, dif_pos (Nat.mod_lt _ (by decide)), part]
  simp only [blk1, blk2, blk4, blk5, blk6]
  rfl

/-- After grid point `k` the accumulator holds, of the rows of the point's tile, the parts of the experts up to the point's. -/
theorem acc_at : ∀ (k : ℕ) (hk : k < cfg0.N) (r n : Fin 1024), (outsAt0 m c k hk).2 (ix2 r n) = ∑ e ∈ Finset.range (k % 16 + 1), added m c (row k hk r) e n := by
  intro k
  induction k with
  | zero =>
    intro hk r n
    have h0 : (⟨0, hk⟩ : Fin cfg0.N).val % 16 = 0 := rfl
    have h1 : ¬(⟨0, hk⟩ : Fin cfg0.N).val % 16 = 15 := by show ¬0 % 16 = 15; omega
    rw [show outsAt0 m c 0 hk = _ from outsAt0_A m c ⟨0, hk⟩ h0 h1]
    dsimp only
    frame_open
    frame_out
    refine (step_at m c ⟨0, hk⟩ _ r n).trans ?_
    rw [show 0 % 16 + 1 = 1 from rfl, Finset.sum_range_one]
    refine (congrArg (· + _) (pay2_at r n)).trans (zero_add _)
  | succ k ih =>
    intro hk r n
    by_cases h0 : (⟨k + 1, hk⟩ : Fin cfg0.N).val % 16 = 0
    · have h0' : (k + 1) % 16 = 0 := h0
      have h1 : ¬(⟨k + 1, hk⟩ : Fin cfg0.N).val % 16 = 15 := by show ¬(k + 1) % 16 = 15; omega
      rw [show outsAt0 m c (k + 1) hk = _ from outsAt0_A m c ⟨k + 1, hk⟩ h0 h1]
      dsimp only
      frame_open
      frame_out
      refine (step_at m c ⟨k + 1, hk⟩ _ r n).trans ?_
      rw [h0', Finset.sum_range_one]
      exact (congrArg (· + _) (pay2_at r n)).trans (zero_add _)
    · have h0' : ¬(k + 1) % 16 = 0 := h0
      have hmod : (k + 1) % 16 = k % 16 + 1 := by omega
      have hrow : row (k + 1) hk r = row k (Nat.lt_of_succ_lt hk) r := Fin.ext (by show (k + 1) / 16 * 1024 + _ = k / 16 * 1024 + _; omega)
      have hacc := (congrFun ((Memref.isWhole_whole cc0_scratch0).read_unread (outsAt0 m c k (Nat.lt_of_succ_lt hk)).2) (ix2 r n)).trans (ih (Nat.lt_of_succ_lt hk) r n)
      by_cases h1 : (⟨k + 1, hk⟩ : Fin cfg0.N).val % 16 = 15
      · rw [show outsAt0 m c (k + 1) hk = _ from outsAt0_C m c ⟨k + 1, hk⟩ h0 h1]
        dsimp only
        frame_open
        frame_out
        refine (step_at m c ⟨k + 1, hk⟩ _ r n).trans ?_
        rw [hmod, Finset.sum_range_succ, hrow]
        exact congrArg (· + _) hacc
      · rw [show outsAt0 m c (k + 1) hk = _ from outsAt0_B m c ⟨k + 1, hk⟩ h0 h1]
        dsimp only
        frame_open
        frame_out
        refine (step_at m c ⟨k + 1, hk⟩ _ r n).trans ?_
        rw [hmod, Finset.sum_range_succ, hrow]
        exact congrArg (· + _) hacc

/-- The rows the last grid point of a tile writes: the gated sum of all experts added, normed. -/
theorem out_at (t : Fin cfg0.N) (h1 : t.val % 16 = 15) (r n : Fin 1024) : (outsAt0 m c t.val t.isLt).1 (ix2 r n) =
    resY (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix2 (row t.val t.isLt r) n) := by
  have h0 : ¬t.val % 16 = 0 := by omega
  have hp : t.val - 1 < cfg0.N := by have := t.isLt; omega
  have hrow : row (t.val - 1) hp r = row t.val t.isLt r := Fin.ext (by show (t.val - 1) / 16 * 1024 + _ = t.val / 16 * 1024 + _; omega)
  have hs : ∀ n : Fin 1024, (outsAt0 m c (t.val - 1) hp).2 (ix2 r n) + added m c (row t.val t.isLt r) (t.val % 16) n =
      ∑ e, part (m ((c : Thread nD τ).loc main_arg1)) (m ((c : Thread nD τ).loc main_arg2)) (m ((c : Thread nD τ).loc main_arg4)) (m ((c : Thread nD τ).loc main_arg5)) (m ((c : Thread nD τ).loc main_arg6)) (row t.val t.isLt r) e n := fun n => by
    rw [acc_at m c (t.val - 1) hp r n, hrow, show (t.val - 1) % 16 + 1 = 15 by omega, h1, ← Finset.sum_range_succ, Finset.sum_range]
    exact Finset.sum_congr rfl fun e _ => dif_pos e.isLt
  rw [outsAt0_C m c t h0 h1]
  dsimp only
  frame_open
  frame_out
  refine (pay1_at _ _ _ _ r n).trans ?_
  show normed _ _ n = normed _ _ n
  congr 1
  · funext j
    refine (congrArg₂ (fun a b : EReal => a + b) (blk0 m c t r j) (congrArg₂ (fun a b : EReal => a * b) (blk3 m c t j) ?_)).trans rfl
    refine (step_at m c t _ r j).trans ?_
    exact (congrArg (fun a : EReal => a + added m c (row t.val t.isLt r) (t.val % 16) j) (congrFun ((Memref.isWhole_whole cc0_scratch0).read_unread _) _)).trans (hs j)
  · funext j
    exact blk7 m c t j

/-- The written rows: the gated sum of all experts added, normed. -/
theorem arr8 : (dats m 0 c).arrAt 8 cfg0.N = resY (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 8 _ (by decide +kernel) fun t hf y => ?_
  rw [after0_8]
  idx_vars y
  have ht : t.val % 16 = 15 := (by decide +kernel : ∀ t : Fin grid0.N, (win0 8).flush t = true → t.val % 16 = 15) t hf
  have he : ((View.whole main_v9).slice ((win0 8).rect t)).emb (ix2 y0 y1) = (ix2 (row t.val t.isLt y0) y1 : S16384x1024.Idx) := by blk_ext [idx t, row]
  refine Eq.trans ?_ (congrArg (resY (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) he).symm
  refine (show _ = (outsAt0 m c t.val t.isLt).1 (ix2 y0 y1) from rfl).trans ?_
  exact out_at m c t ht y0 y1

end Arrays
end Cert.Kernel8Ideal.Value

namespace Cert.ExpertsPrompt

open Cert.Kernel6Ideal.Value (expert normed)
open Cert.Kernel8Ideal.Value (resY summed part)

section Reference
open Cert.Reference8Ideal Cert.Reference8Ideal.Gen

variable (x0 : FVec Ideal S16384x1024 .f32) (x1 : FVec Ideal S16384x1024 .bf16) (x2 : FVec Ideal S16384x128 .f32) (x3 : FVec Ideal S1x1024 .f32)
    (x4 x5 : FVec Ideal S2x16x1024x512 .f32) (x6 : FVec Ideal S2x16x512x1024 .f32) (x7 : FVec Ideal S1x1024 .f32)

/-- The reference's rows with the gated sum of all experts added. -/
theorem ref_x : addf x0 (mulf (broadcastInDim S16384x1024 ![0, 1] bcast_S1x1024_S16384x1024_0_1 x3) (Host.dotGeneral (F := Ideal) (φ₁ := .f32) (φ₂ := .f32) dot_S16384x16x512_S16x512x1024_S16384x1024_12_01_0_2_n_n none (mulf (mulf (mulf (Host.dotGeneral (F := Ideal) (φ₁ := .f32) (φ₂ := .f32) dot_S16384x1024_S16x1024x512_S16384x16x512_1_1_0_02_n_n none (extf .f32 x1 bitsLt_bf16_f32) (shapeCast _ (extractStridedSlice S1x16x1024x512 ![1, 0, 0, 0] x4 slices_S2x16x1024x512_S1x16x1024x512_1_0_0_0) shapeCasts_S1x16x1024x512_S16x1024x512)) (Host.divf (broadcastInDim S16384x16x512 ![] bcast_S_S16384x16x512 (constant S_ .f32 0x3F800000#32)) (addf (broadcastInDim S16384x16x512 ![] bcast_S_S16384x16x512 (constant S_ .f32 0x3F800000#32)) (Host.exp (Host.negf (Host.dotGeneral (F := Ideal) (φ₁ := .f32) (φ₂ := .f32) dot_S16384x1024_S16x1024x512_S16384x16x512_1_1_0_02_n_n none (extf .f32 x1 bitsLt_bf16_f32) (shapeCast _ (extractStridedSlice S1x16x1024x512 ![1, 0, 0, 0] x4 slices_S2x16x1024x512_S1x16x1024x512_1_0_0_0) shapeCasts_S1x16x1024x512_S16x1024x512))))))) (Host.dotGeneral (F := Ideal) (φ₁ := .f32) (φ₂ := .f32) dot_S16384x1024_S16x1024x512_S16384x16x512_1_1_0_02_n_n none (extf .f32 x1 bitsLt_bf16_f32) (shapeCast _ (extractStridedSlice S1x16x1024x512 ![1, 0, 0, 0] x5 slices_S2x16x1024x512_S1x16x1024x512_1_0_0_0) shapeCasts_S1x16x1024x512_S16x1024x512))) (broadcastInDim S16384x16x512 ![0, 1, 2] bcast_S16384x16x1_S16384x16x512_0_1_2 (broadcastInDim S16384x16x1 ![0, 1] bcast_S16384x16_S16384x16x1_0_1 (extractStridedSlice S16384x16 ![0, 0] x2 slices_S16384x128_S16384x16_0_0)))) (shapeCast _ (extractStridedSlice S1x16x512x1024 ![1, 0, 0, 0] x6 slices_S2x16x512x1024_S1x16x512x1024_1_0_0_0) shapeCasts_S1x16x512x1024_S16x512x1024))) = fun i => summed x0 x1 x2 x3 x4 x5 x6 (i 0) (i 1) := by
  funext i
  idx_vars i
  pointwise
  rfl

/-- The reference's norm of the rows `x`. -/
theorem ref_norm (x : FVec Ideal S16384x1024 .f32) (r : Fin 16384) (n : Fin 1024) : (mulf (mulf x (broadcastInDim S16384x1024 ![0, 1] bcast_S16384x1_S16384x1024_0_1 (Host.rsqrt (addf (Host.divf (broadcastInDim S16384x1 ![0] bcast_S16384_S16384x1_0 (Host.reduceAdd (mulf x x) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 x7) : FVec Ideal S16384x1024 .f32) (ix2 r n) =
    normed (fun n => x (ix2 r n)) (fun n => x7 (ix2 0 n)) n := by
  pointwise
  rfl

/-- The reference's normed rows with all experts added. -/
theorem ref_y (x : FVec Ideal S16384x1024 .f32) (hx : x = fun i => summed x0 x1 x2 x3 x4 x5 x6 (i 0) (i 1)) : mulf (mulf x (broadcastInDim S16384x1024 ![0, 1] bcast_S16384x1_S16384x1024_0_1 (Host.rsqrt (addf (Host.divf (broadcastInDim S16384x1 ![0] bcast_S16384_S16384x1_0 (Host.reduceAdd (mulf x x) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 x7) = resY x0 x1 x2 x3 x4 x5 x6 x7 := by
  funext i
  idx_vars i
  refine (ref_norm x7 x i0 i1).trans ?_
  rw [hx]
  rfl

end Reference

/-- The kernel and the reference end with the same normed rows. -/
theorem algebraic : algebraic_Kernel8Ideal_Reference8Ideal (hKernel8Ideal := Cert.Kernel8Ideal.Gen.facts)
    (hReference8Ideal := Cert.Reference8Ideal.Gen.facts) := by
  intro m g m' g' _ hargs
  refine ⟨fun c => resY (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7)),
    (θ_run Cert.Kernel8Ideal.defs _ _).mono (fun r h c => ?_) (Cert.Kernel8Ideal.Value.run_blocks m g),
    (θ_run Cert.Reference8Ideal.defs _ _).mono (fun r h c => ?_) (Cert.Reference8Ideal.Value.run m' g')⟩
  · obtain ⟨h0, hk⟩ := h c
    exact ⟨h0.trans (Cert.Kernel8Ideal.Value.arr8 m c), hk⟩
  · obtain ⟨h0, hk⟩ := h c
    refine ⟨h0.trans ?_, hk⟩
    unfold Cert.Reference8Ideal.Value.res_main_v30
    rw [(hargs c).1, (hargs c).2.1, (hargs c).2.2.1, (hargs c).2.2.2.1, (hargs c).2.2.2.2.1, (hargs c).2.2.2.2.2.1, (hargs c).2.2.2.2.2.2.1, (hargs c).2.2.2.2.2.2.2]
    exact ref_y _ _ _ _ _ _ _ _ _ (ref_x _ _ _ _ _ _ _)

/-- The reference runs to its end, keeps its arguments, and leaves every counter at zero. -/
theorem reference_frame : quiescent_Reference8Ideal (hReference8Ideal := Cert.Reference8Ideal.Gen.facts) :=
  fun m g _ => (θ_run Cert.Reference8Ideal.defs _ _).mono (fun r h => ⟨fun c => (h c).2, Idealize.ShloMosaic.sem_eq_zero_of_no_sems (by decide) r.2⟩) (Cert.Reference8Ideal.Value.run m g)

end Cert.ExpertsPrompt
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Retention
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.ProjPromptRef
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.MergeRef
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import proofs.«01_k».proof.Proof.ProjSample
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Value
public import proofs.«01_k».proof.Proof.Gen.Reference5Ideal
public import proofs.«01_k».proof.Proof.Gen.Reference5Ideal.Run
public import proofs.«01_k».proof.Proof.RetSample
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Value
public import proofs.«01_k».proof.Proof.Gen.Reference6Ideal
public import proofs.«01_k».proof.Proof.Gen.Reference6Ideal.Run
public import proofs.«01_k».proof.Proof.Experts
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Value
public import proofs.«01_k».proof.Proof.Gen.Reference7Ideal
public import proofs.«01_k».proof.Proof.Gen.Reference7Ideal.Run
public import proofs.«01_k».proof.Proof.Ada
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Value
public import proofs.«01_k».proof.Proof.Gen.Reference8Ideal
public import proofs.«01_k».proof.Proof.Gen.Reference8Ideal.Run
public import proofs.«01_k».proof.Proof.ExpertsPrompt
public import Idealize.ShloMosaic.Adequacy
public import Idealize.ShloMosaic.Init

@[expose] public section

noncomputable section

namespace Cert.Proof

open Idealize.ShloMosaic Idealize.SL.Sem Cert.Kernel

/-- Every claim of this certificate: the frames, the idealizations and the equalities of the results. -/
theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Pre_finite_qkv.facts, Cert.RetSample.facts,
  fun m g _ => Cert.Kernel.Gen.frame m g,
  fun m g _ => Cert.KernelIdeal.Gen.frame m g,
  fun m g _ => Cert.KernelIdeal.Gen.frame m g,
  Cert.Retention.reference_frame,
  fun m g _ => Cert.Retention.reference_frame m g trivial,
  fun m g _ => Cert.Kernel2.Gen.frame m g,
  fun m g _ => Cert.Kernel2Ideal.Gen.frame m g,
  Cert.ProjPrompt.reference_frame,
  fun m g _ => Cert.Kernel3.Gen.frame m g,
  fun m g _ => Cert.Kernel3Ideal.Gen.frame m g,
  Cert.Merge.reference_frame,
  fun m g _ => Cert.Kernel4.Gen.frame m g,
  fun m g _ => Cert.Kernel4Ideal.Gen.frame m g,
  Cert.ProjSample.reference_frame,
  fun m g _ => Cert.Kernel5.Gen.frame m g,
  fun m g _ => Cert.Kernel5Ideal.Gen.frame m g,
  fun m g _ => Cert.Kernel5Ideal.Gen.frame m g,
  Cert.RetSample.reference_frame,
  fun m g _ => Cert.RetSample.reference_frame m g trivial,
  fun m g _ => Cert.Kernel6.Gen.frame m g,
  fun m g _ => Cert.Kernel6Ideal.Gen.frame m g,
  Cert.Experts.reference_frame,
  fun m g _ => Cert.Kernel7.Gen.frame m g,
  fun m g _ => Cert.Kernel7Ideal.Gen.frame m g,
  Cert.Ada.reference_frame,
  fun m g _ => Cert.Kernel8.Gen.frame m g,
  fun m g _ => Cert.Kernel8Ideal.Gen.frame m g,
  Cert.ExpertsPrompt.reference_frame,
  trivial,
  Cert.Retention.algebraic,
  trivial,
  Cert.ProjPrompt.algebraic,
  trivial,
  Cert.Merge.algebraic,
  trivial,
  Cert.ProjSample.algebraic,
  trivial,
  Cert.RetSample.algebraic,
  trivial,
  Cert.Experts.algebraic,
  trivial,
  Cert.Ada.algebraic,
  trivial,
  Cert.ExpertsPrompt.algebraic⟩

end Cert.Proof

end
